-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_projection [hPre_finite_projection : Cert.Pre_finite_projection.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_projection.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).1 = (fun _ => 1#1)
    ∧ (Cert.Pre_finite_projection.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.1 = (fun _ => 1#1)
    ∧ (Cert.Pre_finite_projection.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.1 = (fun _ => 1#1)
    ∧ (Cert.Pre_finite_projection.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.1 = (fun _ => 1#1)
    ∧ (Cert.Pre_finite_projection.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_projection [hPre_finite_projection : Cert.Pre_finite_projection.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_projection.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).1 = (fun _ => 1#1)
    ∧ (Cert.Pre_finite_projection.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.1 = (fun _ => 1#1)
    ∧ (Cert.Pre_finite_projection.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.1 = (fun _ => 1#1)
    ∧ (Cert.Pre_finite_projection.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.2.1 = (fun _ => 1#1)
    ∧ (Cert.Pre_finite_projection.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_finite_projection [hKernel6Ideal : Cert.Kernel6Ideal.Facts] [hPre_finite_projection : Cert.Pre_finite_projection.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_projection m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_finite_projection [hReference6Ideal : Cert.Reference6Ideal.Facts] [hPre_finite_projection : Cert.Pre_finite_projection.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_projection m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v112) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_on_not_rotated [hKernel6Ideal : Cert.Kernel6Ideal.Facts] [hReference6Ideal : Cert.Reference6Ideal.Facts] [hOn_not_rotated : Cert.On_not_rotated.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v62_0)) (v1 : (c : Dev Cert.Kernel6Ideal.nD) → Buf (Elt Ideal) ((c.tc : Thread Cert.Kernel6Ideal.nD Cert.Kernel6Ideal.τ).loc Cert.Kernel6Ideal.main_v62_1)) (v2 : (c : Dev Cert.Kernel6Ideal.nD) → Buf (Elt Ideal) ((c.tc : Thread Cert.Kernel6Ideal.nD Cert.Kernel6Ideal.τ).loc Cert.Kernel6Ideal.main_v62_2)) (v3 : (c : Dev Cert.Kernel6Ideal.nD) → Buf (Elt Ideal) ((c.tc : Thread Cert.Kernel6Ideal.nD Cert.Kernel6Ideal.τ).loc Cert.Kernel6Ideal.main_v62_3)) (v4 : (c : Dev Cert.Kernel6Ideal.nD) → Buf (Elt Ideal) ((c.tc : Thread Cert.Kernel6Ideal.nD Cert.Kernel6Ideal.τ).loc Cert.Kernel6Ideal.main_v62_4)) (v5 : (c : Dev Cert.Kernel6Ideal.nD) → Buf (Elt Ideal) ((c.tc : Thread Cert.Kernel6Ideal.nD Cert.Kernel6Ideal.τ).loc Cert.Kernel6Ideal.main_v62_5)) (v6 : (c : Dev Cert.Kernel6Ideal.nD) → Buf (Elt Ideal) ((c.tc : Thread Cert.Kernel6Ideal.nD Cert.Kernel6Ideal.τ).loc Cert.Kernel6Ideal.main_v62_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨2, ![16384, 1024]⟩ : Shape).Idx, (Cert.On_not_rotated.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).1 i = 1#1 → r.2.mem ((c.tc : Thread Cert.Kernel6Ideal.nD Cert.Kernel6Ideal.τ).loc Cert.Kernel6Ideal.main_v62_0) i = v0 c i)
          ∧ (∀ i : (⟨2, ![16384, 1024]⟩ : Shape).Idx, (Cert.On_not_rotated.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.1 i = 1#1 → r.2.mem ((c.tc : Thread Cert.Kernel6Ideal.nD Cert.Kernel6Ideal.τ).loc Cert.Kernel6Ideal.main_v62_1) i = v1 c i)
          ∧ (∀ i : (⟨2, ![16384, 512]⟩ : Shape).Idx, (Cert.On_not_rotated.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.1 i = 1#1 → r.2.mem ((c.tc : Thread Cert.Kernel6Ideal.nD Cert.Kernel6Ideal.τ).loc Cert.Kernel6Ideal.main_v62_2) i = v2 c i)
          ∧ (∀ i : (⟨2, ![16384, 128]⟩ : Shape).Idx, (Cert.On_not_rotated.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.1 i = 1#1 → r.2.mem ((c.tc : Thread Cert.Kernel6Ideal.nD Cert.Kernel6Ideal.τ).loc Cert.Kernel6Ideal.main_v62_3) i = v3 c i)
          ∧ (∀ i : (⟨2, ![16384, 2048]⟩ : Shape).Idx, (Cert.On_not_rotated.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.2.1 i = 1#1 → r.2.mem ((c.tc : Thread Cert.Kernel6Ideal.nD Cert.Kernel6Ideal.τ).loc Cert.Kernel6Ideal.main_v62_4) i = v4 c i)
          ∧ (∀ i : (⟨2, ![16384, 2048]⟩ : Shape).Idx, (Cert.On_not_rotated.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.2.2.1 i = 1#1 → r.2.mem ((c.tc : Thread Cert.Kernel6Ideal.nD Cert.Kernel6Ideal.τ).loc Cert.Kernel6Ideal.main_v62_5) i = v5 c i)
          ∧ (∀ i : (⟨2, ![16384, 1024]⟩ : Shape).Idx, (Cert.On_not_rotated.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.2.2.2 i = 1#1 → r.2.mem ((c.tc : Thread Cert.Kernel6Ideal.nD Cert.Kernel6Ideal.τ).loc Cert.Kernel6Ideal.main_v62_6) i = v6 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨2, ![16384, 1024]⟩ : Shape).Idx, (Cert.On_not_rotated.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).1 i = 1#1 → r.2.mem ((c.tc : Thread Cert.Reference6Ideal.nD Cert.Reference6Ideal.τ).loc Cert.Reference6Ideal.main_v158) i = v0 c i)
          ∧ (∀ i : (⟨2, ![16384, 1024]⟩ : Shape).Idx, (Cert.On_not_rotated.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.1 i = 1#1 → r.2.mem ((c.tc : Thread Cert.Reference6Ideal.nD Cert.Reference6Ideal.τ).loc Cert.Reference6Ideal.main_v160) i = v1 c i)
          ∧ (∀ i : (⟨2, ![16384, 512]⟩ : Shape).Idx, (Cert.On_not_rotated.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.1 i = 1#1 → r.2.mem ((c.tc : Thread Cert.Reference6Ideal.nD Cert.Reference6Ideal.τ).loc Cert.Reference6Ideal.main_v163) i = v2 c i)
          ∧ (∀ i : (⟨2, ![16384, 128]⟩ : Shape).Idx, (Cert.On_not_rotated.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.1 i = 1#1 → r.2.mem ((c.tc : Thread Cert.Reference6Ideal.nD Cert.Reference6Ideal.τ).loc Cert.Reference6Ideal.main_v165) i = v3 c i)
          ∧ (∀ i : (⟨2, ![16384, 2048]⟩ : Shape).Idx, (Cert.On_not_rotated.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.2.1 i = 1#1 → r.2.mem ((c.tc : Thread Cert.Reference6Ideal.nD Cert.Reference6Ideal.τ).loc Cert.Reference6Ideal.main_v168) i = v4 c i)
          ∧ (∀ i : (⟨2, ![16384, 2048]⟩ : Shape).Idx, (Cert.On_not_rotated.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.2.2.1 i = 1#1 → r.2.mem ((c.tc : Thread Cert.Reference6Ideal.nD Cert.Reference6Ideal.τ).loc Cert.Reference6Ideal.main_v171) i = v5 c i)
          ∧ (∀ i : (⟨2, ![16384, 1024]⟩ : Shape).Idx, (Cert.On_not_rotated.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.2.2.2 i = 1#1 → r.2.mem ((c.tc : Thread Cert.Reference6Ideal.nD Cert.Reference6Ideal.τ).loc Cert.Reference6Ideal.main_v173) i = v6 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def algebraic_Kernel6Ideal_Reference6Ideal_pre_finite_projection [hKernel6Ideal : Cert.Kernel6Ideal.Facts] [hReference6Ideal : Cert.Reference6Ideal.Facts] [hPre_finite_projection : Cert.Pre_finite_projection.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_projection m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v62_0)) (v1 : (c : Dev Cert.Kernel6Ideal.nD) → Buf (Elt Ideal) ((c.tc : Thread Cert.Kernel6Ideal.nD Cert.Kernel6Ideal.τ).loc Cert.Kernel6Ideal.main_v62_1)) (v2 : (c : Dev Cert.Kernel6Ideal.nD) → Buf (Elt Ideal) ((c.tc : Thread Cert.Kernel6Ideal.nD Cert.Kernel6Ideal.τ).loc Cert.Kernel6Ideal.main_v62_2)) (v3 : (c : Dev Cert.Kernel6Ideal.nD) → Buf (Elt Ideal) ((c.tc : Thread Cert.Kernel6Ideal.nD Cert.Kernel6Ideal.τ).loc Cert.Kernel6Ideal.main_v62_3)) (v4 : (c : Dev Cert.Kernel6Ideal.nD) → Buf (Elt Ideal) ((c.tc : Thread Cert.Kernel6Ideal.nD Cert.Kernel6Ideal.τ).loc Cert.Kernel6Ideal.main_v62_4)) (v5 : (c : Dev Cert.Kernel6Ideal.nD) → Buf (Elt Ideal) ((c.tc : Thread Cert.Kernel6Ideal.nD Cert.Kernel6Ideal.τ).loc Cert.Kernel6Ideal.main_v62_5)) (v6 : (c : Dev Cert.Kernel6Ideal.nD) → Buf (Elt Ideal) ((c.tc : Thread Cert.Kernel6Ideal.nD Cert.Kernel6Ideal.τ).loc Cert.Kernel6Ideal.main_v62_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v62_0) = v0 c
          ∧ r.2.mem ((c.tc : Thread Cert.Kernel6Ideal.nD Cert.Kernel6Ideal.τ).loc Cert.Kernel6Ideal.main_v62_1) = v1 c
          ∧ r.2.mem ((c.tc : Thread Cert.Kernel6Ideal.nD Cert.Kernel6Ideal.τ).loc Cert.Kernel6Ideal.main_v62_2) = v2 c
          ∧ r.2.mem ((c.tc : Thread Cert.Kernel6Ideal.nD Cert.Kernel6Ideal.τ).loc Cert.Kernel6Ideal.main_v62_3) = v3 c
          ∧ r.2.mem ((c.tc : Thread Cert.Kernel6Ideal.nD Cert.Kernel6Ideal.τ).loc Cert.Kernel6Ideal.main_v62_4) = v4 c
          ∧ r.2.mem ((c.tc : Thread Cert.Kernel6Ideal.nD Cert.Kernel6Ideal.τ).loc Cert.Kernel6Ideal.main_v62_5) = v5 c
          ∧ r.2.mem ((c.tc : Thread Cert.Kernel6Ideal.nD Cert.Kernel6Ideal.τ).loc Cert.Kernel6Ideal.main_v62_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v158) = v0 c
          ∧ r.2.mem ((c.tc : Thread Cert.Reference6Ideal.nD Cert.Reference6Ideal.τ).loc Cert.Reference6Ideal.main_v160) = v1 c
          ∧ r.2.mem ((c.tc : Thread Cert.Reference6Ideal.nD Cert.Reference6Ideal.τ).loc Cert.Reference6Ideal.main_v163) = v2 c
          ∧ r.2.mem ((c.tc : Thread Cert.Reference6Ideal.nD Cert.Reference6Ideal.τ).loc Cert.Reference6Ideal.main_v165) = v3 c
          ∧ r.2.mem ((c.tc : Thread Cert.Reference6Ideal.nD Cert.Reference6Ideal.τ).loc Cert.Reference6Ideal.main_v168) = v4 c
          ∧ r.2.mem ((c.tc : Thread Cert.Reference6Ideal.nD Cert.Reference6Ideal.τ).loc Cert.Reference6Ideal.main_v171) = v5 c
          ∧ r.2.mem ((c.tc : Thread Cert.Reference6Ideal.nD Cert.Reference6Ideal.τ).loc Cert.Reference6Ideal.main_v173) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts) (hPre_finite_projection : Cert.Pre_finite_projection.Facts) (hOn_not_rotated : Cert.On_not_rotated.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_projection (hKernel6Ideal := hKernel6Ideal) (hPre_finite_projection := hPre_finite_projection)
    ∧ quiescent_Reference6Ideal (hReference6Ideal := hReference6Ideal)
    ∧ quiescent_Reference6Ideal_pre_finite_projection (hReference6Ideal := hReference6Ideal) (hPre_finite_projection := hPre_finite_projection)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_on_not_rotated (hKernel6Ideal := hKernel6Ideal) (hReference6Ideal := hReference6Ideal) (hOn_not_rotated := hOn_not_rotated)
    ∧ algebraic_Kernel6Ideal_Reference6Ideal_pre_finite_projection (hKernel6Ideal := hKernel6Ideal) (hReference6Ideal := hReference6Ideal) (hPre_finite_projection := hPre_finite_projection)
-- ==== On_not_rotated.lean ====
abbrev S8x2048x1024 : Shape := ⟨3, ![8, 2048, 1024]⟩
abbrev S8x9216 : Shape := ⟨2, ![8, 9216]⟩
abbrev S1024x3280 : Shape := ⟨2, ![1024, 3280]⟩
abbrev S4x1536 : Shape := ⟨2, ![4, 1536]⟩
abbrev S1536 : Shape := ⟨1, ![1536]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S_ : Shape := ⟨0, ![]⟩
abbrev S16384x2048 : Shape := ⟨2, ![16384, 2048]⟩
abbrev S16384x1024 : Shape := ⟨2, ![16384, 1024]⟩
abbrev S16384x512 : Shape := ⟨2, ![16384, 512]⟩
abbrev S16384x128 : Shape := ⟨2, ![16384, 128]⟩

class Facts : Prop where
  bcast_S_S16384x2048 : S_.BroadcastsInDim S16384x2048 (![] : Fin 0 → Fin S16384x2048.rank)
  bcast_S_S16384x1024 : S_.BroadcastsInDim S16384x1024 (![] : Fin 0 → Fin S16384x1024.rank)
  bcast_S_S16384x512 : S_.BroadcastsInDim S16384x512 (![] : Fin 0 → Fin S16384x512.rank)
  bcast_S_S16384x128 : S_.BroadcastsInDim S16384x128 (![] : Fin 0 → Fin S16384x128.rank)

variable [Facts]

def fn {F : FTy → Type} [FloatOps F] (main_arg0 : FVec F S8x2048x1024 .f32) (main_arg1 : FVec F S8x9216 .f32) (main_arg2 : FVec F S1024x3280 .f32) (main_arg3 : FVec F S4x1536 .f32) (main_arg4 : FVec F S1536 .f32) (main_arg5 : FVec F S384 .f32) (main_arg6 : FVec F S384x1536 .f32) (main_arg7 : FVec F S256 .f32) (main_arg8 : FVec F S256x2048 .f32) : IVec S16384x1024 1 × IVec S16384x1024 1 × IVec S16384x512 1 × IVec S16384x128 1 × IVec S16384x2048 1 × IVec S16384x2048 1 × IVec S16384x1024 1 :=
  let main_c : IVec S_ 1 := constantI S_ 1 0#1
  let main_v0 : IVec S16384x2048 1 := broadcastInDim S16384x2048 ![] bcast_S_S16384x2048 main_c
  let main_c_0 : IVec S_ 1 := constantI S_ 1 1#1
  let main_v1 : IVec S16384x1024 1 := broadcastInDim S16384x1024 ![] bcast_S_S16384x1024 main_c_0
  let main_c_1 : IVec S_ 1 := constantI S_ 1 1#1
  let main_v2 : IVec S16384x1024 1 := broadcastInDim S16384x1024 ![] bcast_S_S16384x1024 main_c_1
  let main_c_2 : IVec S_ 1 := constantI S_ 1 1#1
  let main_v3 : IVec S16384x512 1 := broadcastInDim S16384x512 ![] bcast_S_S16384x512 main_c_2
  let main_c_3 : IVec S_ 1 := constantI S_ 1 1#1
  let main_v4 : IVec S16384x128 1 := broadcastInDim S16384x128 ![] bcast_S_S16384x128 main_c_3
  let main_c_4 : IVec S_ 1 := constantI S_ 1 1#1
  let main_v5 : IVec S16384x1024 1 := broadcastInDim S16384x1024 ![] bcast_S_S16384x1024 main_c_4
  (main_v1, main_v2, main_v3, main_v4, main_v0, main_v0, main_v5)
-- ==== Pre_finite_projection.lean ====
abbrev S8x2048x1024 : Shape := ⟨3, ![8, 2048, 1024]⟩
abbrev S8x9216 : Shape := ⟨2, ![8, 9216]⟩
abbrev S1024x3280 : Shape := ⟨2, ![1024, 3280]⟩
abbrev S4x1536 : Shape := ⟨2, ![4, 1536]⟩
abbrev S1536 : Shape := ⟨1, ![1536]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S_ : Shape := ⟨0, ![]⟩

class Facts : Prop where
  bcast_S_S8x2048x1024 : S_.BroadcastsInDim S8x2048x1024 (![] : Fin 0 → Fin S8x2048x1024.rank)
  bcast_S_S8x9216 : S_.BroadcastsInDim S8x9216 (![] : Fin 0 → Fin S8x9216.rank)
  bcast_S_S1024x3280 : S_.BroadcastsInDim S1024x3280 (![] : Fin 0 → Fin S1024x3280.rank)
  bcast_S_S384 : S_.BroadcastsInDim S384 (![] : Fin 0 → Fin S384.rank)
  bcast_S_S384x1536 : S_.BroadcastsInDim S384x1536 (![] : Fin 0 → Fin S384x1536.rank)

variable [Facts]

def fn {F : FTy → Type} [FloatOps F] (main_arg0 : FVec F S8x2048x1024 .f32) (main_arg1 : FVec F S8x9216 .f32) (main_arg2 : FVec F S1024x3280 .f32) (main_arg3 : FVec F S4x1536 .f32) (main_arg4 : FVec F S1536 .f32) (main_arg5 : FVec F S384 .f32) (main_arg6 : FVec F S384x1536 .f32) (main_arg7 : FVec F S256 .f32) (main_arg8 : FVec F S256x2048 .f32) : IVec S8x2048x1024 1 × IVec S8x9216 1 × IVec S1024x3280 1 × IVec S384 1 × IVec S384x1536 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S8x9216 .f32 := Host.absf main_arg1
  let main_cst_0 : FVec F S_ .f32 := constant S_ .f32 0x7F800000#32
  let main_v4 : FVec F S8x9216 .f32 := broadcastInDim S8x9216 ![] bcast_S_S8x9216 main_cst_0
  let main_v5 : IVec S8x9216 1 := cmpf .olt main_v3 main_v4
  let main_v6 : FVec F S1024x3280 .f32 := Host.absf main_arg2
  let main_cst_1 : FVec F S_ .f32 := constant S_ .f32 0x7F800000#32
  let main_v7 : FVec F S1024x3280 .f32 := broadcastInDim S1024x3280 ![] bcast_S_S1024x3280 main_cst_1
  let main_v8 : IVec S1024x3280 1 := cmpf .olt main_v6 main_v7
  let main_v9 : FVec F S384 .f32 := Host.absf main_arg5
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_v12 : FVec F S384x1536 .f32 := Host.absf main_arg6
  let main_cst_3 : FVec F S_ .f32 := constant S_ .f32 0x7F800000#32
  let main_v13 : FVec F S384x1536 .f32 := broadcastInDim S384x1536 ![] bcast_S_S384x1536 main_cst_3
  let main_v14 : IVec S384x1536 1 := cmpf .olt main_v12 main_v13
  (main_v2, main_v5, main_v8, main_v11, main_v14)
-- ==== Pre_finite_scores.lean ====
abbrev S8x2048x8x192 : Shape := ⟨4, ![8, 2048, 8, 192]⟩
abbrev S8x2048x8x128 : Shape := ⟨4, ![8, 2048, 8, 128]⟩
abbrev S_ : Shape := ⟨0, ![]⟩

class Facts : Prop where
  bcast_S_S8x2048x8x192 : S_.BroadcastsInDim S8x2048x8x192 (![] : Fin 0 → Fin S8x2048x8x192.rank)

variable [Facts]

def fn {F : FTy → Type} [FloatOps F] (main_arg0 : FVec F S8x2048x8x192 .f32) (main_arg1 : FVec F S8x2048x8x192 .f32) (main_arg2 : FVec F S8x2048x8x128 .f32) : IVec S8x2048x8x192 1 × IVec S8x2048x8x192 1 :=
  let main_v0 : FVec F S8x2048x8x192 .f32 := Host.absf main_arg0
  let main_cst : FVec F S_ .f32 := constant S_ .f32 0x7F800000#32
  let main_v1 : FVec F S8x2048x8x192 .f32 := broadcastInDim S8x2048x8x192 ![] bcast_S_S8x2048x8x192 main_cst
  let main_v2 : IVec S8x2048x8x192 1 := cmpf .olt main_v0 main_v1
  let main_v3 : FVec F S8x2048x8x192 .f32 := Host.absf main_arg1
  let main_cst_0 : FVec F S_ .f32 := constant S_ .f32 0x7F800000#32
  let main_v4 : FVec F S8x2048x8x192 .f32 := broadcastInDim S8x2048x8x192 ![] bcast_S_S8x2048x8x192 main_cst_0
  let main_v5 : IVec S8x2048x8x192 1 := cmpf .olt main_v3 main_v4
  (main_v2, main_v5)
-- ==== Kernel.lean ====
abbrev S8x2048x8x192 : Shape := ⟨4, ![8, 2048, 8, 192]⟩
abbrev S8x2048x8x128 : Shape := ⟨4, ![8, 2048, 8, 128]⟩
abbrev S_ : Shape := ⟨0, ![]⟩
abbrev S16384x8x192 : Shape := ⟨3, ![16384, 8, 192]⟩
abbrev S16384x8x256 : Shape := ⟨3, ![16384, 8, 256]⟩
abbrev S16384x2048 : Shape := ⟨2, ![16384, 2048]⟩
abbrev S16384x1024 : Shape := ⟨2, ![16384, 1024]⟩
abbrev S2048x512 : Shape := ⟨2, ![2048, 512]⟩
abbrev S2048x256 : Shape := ⟨2, ![2048, 256]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S512x256 : Shape := ⟨2, ![512, 256]⟩
abbrev S256x512 : Shape := ⟨2, ![256, 512]⟩
abbrev S768x256 : Shape := ⟨2, ![768, 256]⟩
abbrev S256x768 : Shape := ⟨2, ![256, 768]⟩
abbrev S512x128 : Shape := ⟨2, ![512, 128]⟩
abbrev S1024x256 : Shape := ⟨2, ![1024, 256]⟩
abbrev S256x1024 : Shape := ⟨2, ![256, 1024]⟩
abbrev S768x128 : Shape := ⟨2, ![768, 128]⟩
abbrev S1280x256 : Shape := ⟨2, ![1280, 256]⟩
abbrev S256x1280 : Shape := ⟨2, ![256, 1280]⟩
abbrev S1024x128 : Shape := ⟨2, ![1024, 128]⟩
abbrev S1536x256 : Shape := ⟨2, ![1536, 256]⟩
abbrev S256x1536 : Shape := ⟨2, ![256, 1536]⟩
abbrev S1280x128 : Shape := ⟨2, ![1280, 128]⟩
abbrev S1792x256 : Shape := ⟨2, ![1792, 256]⟩
abbrev S256x1792 : Shape := ⟨2, ![256, 1792]⟩
abbrev S1536x128 : Shape := ⟨2, ![1536, 128]⟩
abbrev S1792x128 : Shape := ⟨2, ![1792, 128]⟩

abbrev nBuf : Space → Nat
  | .hbm => 27
  | .vmem => 8
  | .smem => 0
  | _ => 0

abbrev bufTy : (tb : Table) → Fin (tcTables nBuf tb) → BufTy
  | .hbm, ⟨0, _⟩ => ⟨S8x2048x8x192, .f32⟩
  | .hbm, ⟨1, _⟩ => ⟨S8x2048x8x192, .f32⟩
  | .hbm, ⟨2, _⟩ => ⟨S8x2048x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x8x192, .f32⟩
  | .hbm, ⟨11, _⟩ => ⟨S_, .i32⟩
  | .hbm, ⟨12, _⟩ => ⟨S_, .f32⟩
  | .hbm, ⟨13, _⟩ => ⟨S16384x8x256, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .bf16⟩
  | .hbm, ⟨18, _⟩ => ⟨S16384x8x192, .f32⟩
  | .hbm, ⟨19, _⟩ => ⟨S_, .i32⟩
  | .hbm, ⟨20, _⟩ => ⟨S_, .f32⟩
  | .hbm, ⟨21, _⟩ => ⟨S16384x8x256, .f32⟩
  | .hbm, ⟨22, _⟩ => ⟨S16384x2048, .f32⟩
  | .hbm, ⟨23, _⟩ => ⟨S16384x2048, .bf16⟩
  | .hbm, ⟨24, _⟩ => ⟨S16384x1024, .f32⟩
  | .hbm, ⟨25, _⟩ => ⟨S16384x1024, .bf16⟩
  | .hbm, ⟨26, _⟩ => ⟨S16384x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | _, _ => ⟨S8x2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x2048x8x192 : Shape := ⟨4, ![8, 2048, 8, 192]⟩
abbrev S8x2048x8x128 : Shape := ⟨4, ![8, 2048, 8, 128]⟩
abbrev S_ : Shape := ⟨0, ![]⟩
abbrev S8x8x2048x2048 : Shape := ⟨4, ![8, 8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x8x128x2048 : Shape := ⟨4, ![8, 8, 128, 2048]⟩
abbrev S16384x1024 : Shape := ⟨2, ![16384, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x8x192, .f32⟩
  | .hbm, ⟨1, _⟩ => ⟨S8x2048x8x192, .f32⟩
  | .hbm, ⟨2, _⟩ => ⟨S8x2048x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x8x2048x2048, .f32⟩
  | .hbm, ⟨8, _⟩ => ⟨S8x8x2048x2048, .f32⟩
  | .hbm, ⟨9, _⟩ => ⟨S8x8x2048x2048, .f32⟩
  | .hbm, ⟨10, _⟩ => ⟨S2048, .i32⟩
  | .hbm, ⟨11, _⟩ => ⟨S2048x1, .i32⟩
  | .hbm, ⟨12, _⟩ => ⟨S1x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .f32⟩
  | .hbm, ⟨17, _⟩ => ⟨S_, .f32⟩
  | .hbm, ⟨18, _⟩ => ⟨S8x8x2048x2048, .i1⟩
  | .hbm, ⟨19, _⟩ => ⟨S8x8x2048x2048, .f32⟩
  | .hbm, ⟨20, _⟩ => ⟨S8x8x2048x2048, .f32⟩
  | .hbm, ⟨21, _⟩ => ⟨S_, .f32⟩
  | .hbm, ⟨22, _⟩ => ⟨S8x8x2048, .f32⟩
  | .hbm, ⟨23, _⟩ => ⟨S_, .f32⟩
  | .hbm, ⟨24, _⟩ => ⟨S8x8x2048, .f32⟩
  | .hbm, ⟨25, _⟩ => ⟨S8x8x2048, .f32⟩
  | .hbm, ⟨26, _⟩ => ⟨S8x8x2048x1, .f32⟩
  | .hbm, ⟨27, _⟩ => ⟨S8x8x2048x2048, .f32⟩
  | .hbm, ⟨28, _⟩ => ⟨S8x8x2048x2048, .f32⟩
  | .hbm, ⟨29, _⟩ => ⟨S8x8x2048x2048, .f32⟩
  | .hbm, ⟨30, _⟩ => ⟨S_, .f32⟩
  | .hbm, ⟨31, _⟩ => ⟨S8x8x2048, .f32⟩
  | .hbm, ⟨32, _⟩ => ⟨S8x8x2048x1, .f32⟩
  | .hbm, ⟨33, _⟩ => ⟨S8x8x2048x2048, .f32⟩
  | .hbm, ⟨34, _⟩ => ⟨S8x8x2048x2048, .f32⟩
  | .hbm, ⟨35, _⟩ => ⟨S8x8x128x2048, .f32⟩
  | .hbm, ⟨36, _⟩ => ⟨S8x2048x8x128, .f32⟩
  | .hbm, ⟨37, _⟩ => ⟨S16384x1024, .f32⟩
  | .hbm, ⟨38, _⟩ => ⟨S16384x1024, .bf16⟩
  | _, _ => ⟨S8x2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x9216 : Shape := ⟨2, ![8, 9216]⟩
abbrev S1024x5632 : Shape := ⟨2, ![1024, 5632]⟩
abbrev S2816x1024 : Shape := ⟨2, ![2816, 1024]⟩
abbrev S3x1024 : Shape := ⟨2, ![3, 1024]⟩
abbrev S16384x1024 : Shape := ⟨2, ![16384, 1024]⟩
abbrev S8x9x1024 : Shape := ⟨3, ![8, 9, 1024]⟩
abbrev S512x1024 : Shape := ⟨2, ![512, 1024]⟩
abbrev S1x9x1024 : Shape := ⟨3, ![1, 9, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 11
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x9216, .f32⟩
  | .hbm, ⟨2, _⟩ => ⟨S1024x5632, .f32⟩
  | .hbm, ⟨3, _⟩ => ⟨S2816x1024, .f32⟩
  | .hbm, ⟨4, _⟩ => ⟨S3x1024, .f32⟩
  | .hbm, ⟨5, _⟩ => ⟨S3x1024, .f32⟩
  | .hbm, ⟨6, _⟩ => ⟨S16384x1024, .f32⟩
  | .hbm, ⟨7, _⟩ => ⟨S8x9x1024, .f32⟩
  | .hbm, ⟨8, _⟩ => ⟨S1024x5632, .bf16⟩
  | .hbm, ⟨9, _⟩ => ⟨S2816x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x9x1024, .f32⟩
  | .local _ .vmem, ⟨5, _⟩ => ⟨S1x9x1024, .f32⟩
  | .local _ .vmem, ⟨6, _⟩ => ⟨S1x9x1024, .f32⟩
  | .local _ .vmem, ⟨7, _⟩ => ⟨S1x9x1024, .f32⟩
  | .local _ .vmem, ⟨8, _⟩ => ⟨S1024x5632, .bf16⟩
  | .local _ .vmem, ⟨9, _⟩ => ⟨S2816x1024, .bf16⟩
  | .local _ .vmem, ⟨10, _⟩ => ⟨S3x1024, .f32⟩
  | .local _ .vmem, ⟨11, _⟩ => ⟨S3x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x2048x1024 : Shape := ⟨3, ![8, 2048, 1024]⟩
abbrev S8x9216 : Shape := ⟨2, ![8, 9216]⟩
abbrev S1024x5632 : Shape := ⟨2, ![1024, 5632]⟩
abbrev S2816x1024 : Shape := ⟨2, ![2816, 1024]⟩
abbrev S3x1024 : Shape := ⟨2, ![3, 1024]⟩
abbrev S8x1024 : Shape := ⟨2, ![8, 1024]⟩
abbrev S8x1x1024 : Shape := ⟨3, ![8, 1, 1024]⟩
abbrev S_ : Shape := ⟨0, ![]⟩
abbrev S8x2048x5632 : Shape := ⟨3, ![8, 2048, 5632]⟩
abbrev S8x2048x2816 : Shape := ⟨3, ![8, 2048, 2816]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S16384x1024 : Shape := ⟨2, ![16384, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x9216, .f32⟩
  | .hbm, ⟨2, _⟩ => ⟨S1024x5632, .f32⟩
  | .hbm, ⟨3, _⟩ => ⟨S2816x1024, .f32⟩
  | .hbm, ⟨4, _⟩ => ⟨S3x1024, .f32⟩
  | .hbm, ⟨5, _⟩ => ⟨S3x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x5632, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S_, .f32⟩
  | .hbm, ⟨37, _⟩ => ⟨S8x2048x2816, .f32⟩
  | .hbm, ⟨38, _⟩ => ⟨S8x2048x2816, .f32⟩
  | .hbm, ⟨39, _⟩ => ⟨S_, .f32⟩
  | .hbm, ⟨40, _⟩ => ⟨S8x2048x2816, .f32⟩
  | .hbm, ⟨41, _⟩ => ⟨S8x2048x2816, .f32⟩
  | .hbm, ⟨42, _⟩ => ⟨S8x2048x2816, .f32⟩
  | .hbm, ⟨43, _⟩ => ⟨S8x2048x2816, .f32⟩
  | .hbm, ⟨44, _⟩ => ⟨S8x2048x1024, .f32⟩
  | .hbm, ⟨45, _⟩ => ⟨S_, .f32⟩
  | .hbm, ⟨46, _⟩ => ⟨S8x2048x1024, .f32⟩
  | .hbm, ⟨47, _⟩ => ⟨S8x2048x1024, .f32⟩
  | .hbm, ⟨48, _⟩ => ⟨S_, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x1x1024, .f32⟩
  | .hbm, ⟨53, _⟩ => ⟨S8x1x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S_, .f32⟩
  | .hbm, ⟨67, _⟩ => ⟨S8x2048, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S8x2048x1024, .f32⟩
  | .hbm, ⟨73, _⟩ => ⟨S8x2048x1024, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S8x2048x1, .f32⟩
  | .hbm, ⟨78, _⟩ => ⟨S8x2048x1024, .f32⟩
  | .hbm, ⟨79, _⟩ => ⟨S8x2048x1024, .f32⟩
  | .hbm, ⟨80, _⟩ => ⟨S1x1024, .f32⟩
  | .hbm, ⟨81, _⟩ => ⟨S1024, .f32⟩
  | .hbm, ⟨82, _⟩ => ⟨S1x1x1024, .f32⟩
  | .hbm, ⟨83, _⟩ => ⟨S8x2048x1024, .f32⟩
  | .hbm, ⟨84, _⟩ => ⟨S8x2048x1024, .f32⟩
  | .hbm, ⟨85, _⟩ => ⟨S1x1024, .f32⟩
  | .hbm, ⟨86, _⟩ => ⟨S1024, .f32⟩
  | .hbm, ⟨87, _⟩ => ⟨S1x1x1024, .f32⟩
  | .hbm, ⟨88, _⟩ => ⟨S8x2048x1024, .f32⟩
  | .hbm, ⟨89, _⟩ => ⟨S8x2048x1024, .f32⟩
  | .hbm, ⟨90, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_0 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x9216 : Shape := ⟨2, ![8, 9216]⟩
abbrev S1024x4096 : Shape := ⟨2, ![1024, 4096]⟩
abbrev S4096 : Shape := ⟨1, ![4096]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S3x1024 : Shape := ⟨2, ![3, 1024]⟩
abbrev S16384x1024 : Shape := ⟨2, ![16384, 1024]⟩
abbrev S8x9x1024 : Shape := ⟨3, ![8, 9, 1024]⟩
abbrev S1x4096 : Shape := ⟨2, ![1, 4096]⟩
abbrev S1x2048 : Shape := ⟨2, ![1, 2048]⟩
abbrev S128x16 : Shape := ⟨2, ![128, 16]⟩
abbrev S128x16x128 : Shape := ⟨3, ![128, 16, 128]⟩
abbrev S128x2048 : Shape := ⟨2, ![128, 2048]⟩
abbrev S512x1024 : Shape := ⟨2, ![512, 1024]⟩
abbrev S1x9x1024 : Shape := ⟨3, ![1, 9, 1024]⟩
abbrev S512x2048 : Shape := ⟨2, ![512, 2048]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x2048 : Shape := ⟨2, ![1024, 2048]⟩
abbrev S128x128 : Shape := ⟨2, ![128, 128]⟩
abbrev S1x128x128 : Shape := ⟨3, ![1, 128, 128]⟩

abbrev nBuf : Space → Nat
  | .hbm => 22
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x9216, .f32⟩
  | .hbm, ⟨2, _⟩ => ⟨S1024x4096, .f32⟩
  | .hbm, ⟨3, _⟩ => ⟨S4096, .f32⟩
  | .hbm, ⟨4, _⟩ => ⟨S2048, .f32⟩
  | .hbm, ⟨5, _⟩ => ⟨S2048, .f32⟩
  | .hbm, ⟨6, _⟩ => ⟨S16x128x128, .f32⟩
  | .hbm, ⟨7, _⟩ => ⟨S16x128, .f32⟩
  | .hbm, ⟨8, _⟩ => ⟨S2048x1024, .f32⟩
  | .hbm, ⟨9, _⟩ => ⟨S3x1024, .f32⟩
  | .hbm, ⟨10, _⟩ => ⟨S3x1024, .f32⟩
  | .hbm, ⟨11, _⟩ => ⟨S16384x1024, .f32⟩
  | .hbm, ⟨12, _⟩ => ⟨S8x9x1024, .f32⟩
  | .hbm, ⟨13, _⟩ => ⟨S1024x4096, .bf16⟩
  | .hbm, ⟨14, _⟩ => ⟨S1x4096, .f32⟩
  | .hbm, ⟨15, _⟩ => ⟨S1x2048, .f32⟩
  | .hbm, ⟨16, _⟩ => ⟨S1x2048, .f32⟩
  | .hbm, ⟨17, _⟩ => ⟨S128x16, .f32⟩
  | .hbm, ⟨18, _⟩ => ⟨S128x16x128, .f32⟩
  | .hbm, ⟨19, _⟩ => ⟨S128x2048, .f32⟩
  | .hbm, ⟨20, _⟩ => ⟨S2048x1024, .bf16⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x9x1024, .f32⟩
  | .local _ .vmem, ⟨5, _⟩ => ⟨S1x9x1024, .f32⟩
  | .local _ .vmem, ⟨6, _⟩ => ⟨S1x9x1024, .f32⟩
  | .local _ .vmem, ⟨7, _⟩ => ⟨S1x9x1024, .f32⟩
  | .local _ .vmem, ⟨8, _⟩ => ⟨S1024x4096, .bf16⟩
  | .local _ .vmem, ⟨9, _⟩ => ⟨S1x4096, .f32⟩
  | .local _ .vmem, ⟨10, _⟩ => ⟨S1x2048, .f32⟩
  | .local _ .vmem, ⟨11, _⟩ => ⟨S1x2048, .f32⟩
  | .local _ .vmem, ⟨12, _⟩ => ⟨S16x128x128, .f32⟩
  | .local _ .vmem, ⟨13, _⟩ => ⟨S128x2048, .f32⟩
  | .local _ .vmem, ⟨14, _⟩ => ⟨S2048x1024, .bf16⟩
  | .local _ .vmem, ⟨15, _⟩ => ⟨S3x1024, .f32⟩
  | .local _ .vmem, ⟨16, _⟩ => ⟨S3x1024, .f32⟩
  | .local _ .vmem, ⟨17, _⟩ => ⟨S512x1024, .f32⟩
  | .local _ .vmem, ⟨18, _⟩ => ⟨S512x1024, .f32⟩
  | .local _ .vmem, ⟨19, _⟩ => ⟨S512x2048, .bf16⟩
  | .local _ .vmem, ⟨20, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S8x2048x1024 : Shape := ⟨3, ![8, 2048, 1024]⟩
abbrev S8x9216 : Shape := ⟨2, ![8, 9216]⟩
abbrev S1024x4096 : Shape := ⟨2, ![1024, 4096]⟩
abbrev S4096 : Shape := ⟨1, ![4096]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S3x1024 : Shape := ⟨2, ![3, 1024]⟩
abbrev S8x1024 : Shape := ⟨2, ![8, 1024]⟩
abbrev S8x1x1024 : Shape := ⟨3, ![8, 1, 1024]⟩
abbrev S_ : Shape := ⟨0, ![]⟩
abbrev S8x2048x4096 : Shape := ⟨3, ![8, 2048, 4096]⟩
abbrev S1x1x4096 : Shape := ⟨3, ![1, 1, 4096]⟩
abbrev S8x2048x2048 : Shape := ⟨3, ![8, 2048, 2048]⟩
abbrev S8x2048 : Shape := ⟨2, ![8, 2048]⟩
abbrev S8x2048x1 : Shape := ⟨3, ![8, 2048, 1]⟩
abbrev S1x1x2048 : Shape := ⟨3, ![1, 1, 2048]⟩
abbrev S8x16x128x16x128 : Shape := ⟨5, ![8, 16, 128, 16, 128]⟩
abbrev S128x128 : Shape := ⟨2, ![128, 128]⟩
abbrev S1x128x128 : Shape := ⟨3, ![1, 128, 128]⟩
abbrev S16x8x16x128x128 : Shape := ⟨5, ![16, 8, 16, 128, 128]⟩
abbrev S128x16 : Shape := ⟨2, ![128, 16]⟩
abbrev S1x1x128x16x1 : Shape := ⟨5, ![1, 1, 128, 16, 1]⟩
abbrev S1x1024 : Shape := ⟨2, ![1, 1024]⟩
abbrev S1024 : Shape := ⟨1, ![1024]⟩
abbrev S1x1x1024 : Shape := ⟨3, ![1, 1, 1024]⟩
abbrev S16384x1024 : Shape := ⟨2, ![16384, 1024]⟩

abbrev nBuf : Space → Nat
  | .hbm => 149
  | .vmem => 0
  | .smem => 0
  | _ => 0

abbrev hbmTy0_0 (i : Nat) : BufTy := match i % 128 with
  | 0 => ⟨S8x2048x1024, .f32⟩
  | 1 => ⟨S8x9216, .f32⟩
  | 2 => ⟨S1024x4096, .f32⟩
  | 3 => ⟨S4096, .f32⟩
  | 4 => ⟨S2048, .f32⟩
  | 5 => ⟨S2048, .f32⟩
  | 6 => ⟨S16x128x128, .f32⟩
  | 7 => ⟨S16x128, .f32⟩
  | 8 => ⟨S2048x1024, .f32⟩
  | 9 => ⟨S3x1024, .f32⟩
  | 10 => ⟨S3x1024, .f32⟩
  | 11 => ⟨S8x1024, .f32⟩
  | 12 => ⟨S8x1024, .f32⟩
  | 13 => ⟨S8x1024, .f32⟩
  | 14 => ⟨S8x1024, .f32⟩
  | 15 => ⟨S8x1024, .f32⟩
  | 16 => ⟨S8x1024, .f32⟩
  | 17 => ⟨S8x1024, .f32⟩
  | 18 => ⟨S8x1024, .f32⟩
  | 19 => ⟨S8x1024, .f32⟩
  | 20 => ⟨S8x1x1024, .f32⟩
  | 21 => ⟨S8x1x1024, .f32⟩
  | 22 => ⟨S8x1x1024, .f32⟩
  | 23 => ⟨S8x1x1024, .f32⟩
  | 24 => ⟨S8x1x1024, .f32⟩
  | 25 => ⟨S8x1x1024, .f32⟩
  | 26 => ⟨S8x1x1024, .f32⟩
  | 27 => ⟨S8x1x1024, .f32⟩
  | 28 => ⟨S8x1x1024, .f32⟩
  | 29 => ⟨S_, .f32⟩
  | 30 => ⟨S8x1x1024, .f32⟩
  | 31 => ⟨S8x1x1024, .f32⟩
  | 32 => ⟨S8x2048x1024, .f32⟩
  | 33 => ⟨S8x2048x1024, .f32⟩
  | 34 => ⟨S8x2048x1024, .f32⟩
  | 35 => ⟨S8x2048x1024, .f32⟩
  | 36 => ⟨S8x2048x4096, .f32⟩
  | 37 => ⟨S1x1x4096, .f32⟩
  | 38 => ⟨S8x2048x4096, .f32⟩
  | 39 => ⟨S8x2048x4096, .f32⟩
  | 40 => ⟨S_, .f32⟩
  | 41 => ⟨S8x2048x4096, .f32⟩
  | 42 => ⟨S8x2048x4096, .f32⟩
  | 43 => ⟨S_, .f32⟩
  | 44 => ⟨S8x2048x4096, .f32⟩
  | 45 => ⟨S8x2048x4096, .f32⟩
  | 46 => ⟨S8x2048x4096, .f32⟩
  | 47 => ⟨S_, .f32⟩
  | 48 => ⟨S8x2048x4096, .f32⟩
  | 49 => ⟨S8x2048x4096, .f32⟩
  | 50 => ⟨S8x2048x4096, .f32⟩
  | 51 => ⟨S8x2048x2048, .f32⟩
  | 52 => ⟨S8x2048x2048, .f32⟩
  | 53 => ⟨S_, .f32⟩
  | 54 => ⟨S8x2048, .f32⟩
  | 55 => ⟨S8x2048x1, .f32⟩
  | 56 => ⟨S_, .f32⟩
  | 57 => ⟨S8x2048x1, .f32⟩
  | 58 => ⟨S8x2048x1, .f32⟩
  | 59 => ⟨S8x2048x2048, .f32⟩
  | 60 => ⟨S8x2048x2048, .f32⟩
  | 61 => ⟨S8x2048x2048, .f32⟩
  | 62 => ⟨S_, .f32⟩
  | 63 => ⟨S8x2048, .f32⟩
  | 64 => ⟨S8x2048x1, .f32⟩
  | 65 => ⟨S_, .f32⟩
  | 66 => ⟨S8x2048x1, .f32⟩
  | 67 => ⟨S8x2048x1, .f32⟩
  | 68 => ⟨S8x2048x2048, .f32⟩
  | 69 => ⟨S8x2048x2048, .f32⟩
  | 70 => ⟨S_, .f32⟩
  | 71 => ⟨S8x2048x1, .f32⟩
  | 72 => ⟨S8x2048x1, .f32⟩
  | 73 => ⟨S8x2048x1, .f32⟩
  | 74 => ⟨S8x2048x2048, .f32⟩
  | 75 => ⟨S8x2048x2048, .f32⟩
  | 76 => ⟨S1x1x2048, .f32⟩
  | 77 => ⟨S8x2048x2048, .f32⟩
  | 78 => ⟨S8x2048x2048, .f32⟩
  | 79 => ⟨S1x1x2048, .f32⟩
  | 80 => ⟨S8x2048x2048, .f32⟩
  | 81 => ⟨S8x2048x2048, .f32⟩
  | 82 => ⟨S8x16x128x16x128, .f32⟩
  | 83 => ⟨S_, .f32⟩
  | 84 => ⟨S128x128, .f32⟩
  | 85 => ⟨S128x128, .i32⟩
  | 86 => ⟨S_, .i32⟩
  | 87 => ⟨S128x128, .i32⟩
  | 88 => ⟨S128x128, .i32⟩
  | 89 => ⟨S128x128, .i32⟩
  | 90 => ⟨S128x128, .i1⟩
  | 91 => ⟨S_, .f32⟩
  | 92 => ⟨S128x128, .f32⟩
  | 93 => ⟨S128x128, .f32⟩
  | 94 => ⟨S1x128x128, .f32⟩
  | 95 => ⟨S16x128x128, .f32⟩
  | 96 => ⟨S16x128x128, .f32⟩
  | 97 => ⟨S16x8x16x128x128, .f32⟩
  | 98 => ⟨S8x16x128x16x128, .f32⟩
  | 99 => ⟨S128x16, .f32⟩
  | 100 => ⟨S1x1x128x16x1, .f32⟩
  | 101 => ⟨S8x16x128x16x128, .f32⟩
  | 102 => ⟨S8x16x128x16x128, .f32⟩
  | 103 => ⟨S8x2048x2048, .f32⟩
  | 104 => ⟨S8x2048x2048, .f32⟩
  | 105 => ⟨S8x2048x1024, .f32⟩
  | 106 => ⟨S_, .f32⟩
  | 107 => ⟨S8x2048x1024, .f32⟩
  | 108 => ⟨S8x2048x1024, .f32⟩
  | 109 => ⟨S_, .f32⟩
  | 110 => ⟨S8x1x1024, .f32⟩
  | 111 => ⟨S8x1x1024, .f32⟩
  | 112 => ⟨S8x2048x1024, .f32⟩
  | 113 => ⟨S8x2048x1024, .f32⟩
  | 114 => ⟨S8x2048x1024, .f32⟩
  | 115 => ⟨S1x1024, .f32⟩
  | 116 => ⟨S1024, .f32⟩
  | 117 => ⟨S1x1024, .f32⟩
  | 118 => ⟨S1024, .f32⟩
  | 119 => ⟨S_, .f32⟩
  | 120 => ⟨S8x2048, .f32⟩
  | 121 => ⟨S8x2048x1, .f32⟩
  | 122 => ⟨S_, .f32⟩
  | 123 => ⟨S8x2048x1, .f32⟩
  | 124 => ⟨S8x2048x1, .f32⟩
  | 125 => ⟨S8x2048x1024, .f32⟩
  | 126 => ⟨S8x2048x1024, .f32⟩
  | 127 => ⟨S8x2048x1024, .f32⟩
  | _ => ⟨S8x2048x1024, .f32⟩

abbrev hbmTy0_1 (i : Nat) : BufTy := match i % 128 with
  | 0 => ⟨S_, .f32⟩
  | 1 => ⟨S8x2048, .f32⟩
  | 2 => ⟨S8x2048x1, .f32⟩
  | 3 => ⟨S_, .f32⟩
  | 4 => ⟨S8x2048x1, .f32⟩
  | 5 => ⟨S8x2048x1, .f32⟩
  | 6 => ⟨S8x2048x1024, .f32⟩
  | 7 => ⟨S8x2048x1024, .f32⟩
  | 8 => ⟨S_, .f32⟩
  | 9 => ⟨S8x2048x1, .f32⟩
  | 10 => ⟨S8x2048x1, .f32⟩
  | 11 => ⟨S8x2048x1, .f32⟩
  | 12 => ⟨S8x2048x1024, .f32⟩
  | 13 => ⟨S8x2048x1024, .f32⟩
  | 14 => ⟨S1x1x1024, .f32⟩
  | 15 => ⟨S8x2048x1024, .f32⟩
  | 16 => ⟨S8x2048x1024, .f32⟩
  | 17 => ⟨S1x1x1024, .f32⟩
  | 18 => ⟨S8x2048x1024, .f32⟩
  | 19 => ⟨S8x2048x1024, .f32⟩
  | 20 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_0 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_8 : Ref sig .tc := ⟨.hbm, 83, rfl⟩
abbrev main_v63 : Ref sig .tc := ⟨.hbm, 84, rfl⟩
abbrev main_call0_v0 : Ref sig .tc := ⟨.hbm, 85, rfl⟩
abbrev main_call0_c : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_cst : Ref sig .tc := ⟨.hbm, 91, rfl⟩
abbrev main_call0_v5 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_9 : Ref sig .tc := ⟨.hbm, 106, rfl⟩
abbrev main_v77 : Ref sig .tc := ⟨.hbm, 107, rfl⟩
abbrev main_v78 : Ref sig .tc := ⟨.hbm, 108, rfl⟩
abbrev main_cst_10 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_11 : Ref sig .tc := ⟨.hbm, 119, rfl⟩
abbrev main_v88 : Ref sig .tc := ⟨.hbm, 120, rfl⟩
abbrev main_v89 : Ref sig .tc := ⟨.hbm, 121, rfl⟩
abbrev main_cst_12 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_13 : Ref sig .tc := ⟨.hbm, 128, rfl⟩
abbrev main_v95 : Ref sig .tc := ⟨.hbm, 129, rfl⟩
abbrev main_v96 : Ref sig .tc := ⟨.hbm, 130, rfl⟩
abbrev main_cst_14 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_15 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x9216 : Shape := ⟨2, ![8, 9216]⟩
abbrev S2048x1024 : Shape := ⟨2, ![2048, 1024]⟩
abbrev S3x1024 : Shape := ⟨2, ![3, 1024]⟩
abbrev S16384x1024 : Shape := ⟨2, ![16384, 1024]⟩
abbrev S8x9x1024 : Shape := ⟨3, ![8, 9, 1024]⟩
abbrev S1024x1024 : Shape := ⟨2, ![1024, 1024]⟩
abbrev S1x9x1024 : Shape := ⟨3, ![1, 9, 1024]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 15
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x9216, .f32⟩
  | .hbm, ⟨2, _⟩ => ⟨S8x2048x1024, .f32⟩
  | .hbm, ⟨3, _⟩ => ⟨S8x2048x1024, .f32⟩
  | .hbm, ⟨4, _⟩ => ⟨S2048x1024, .f32⟩
  | .hbm, ⟨5, _⟩ => ⟨S3x1024, .f32⟩
  | .hbm, ⟨6, _⟩ => ⟨S3x1024, .f32⟩
  | .hbm, ⟨7, _⟩ => ⟨S16384x1024, .f32⟩
  | .hbm, ⟨8, _⟩ => ⟨S8x9x1024, .f32⟩
  | .hbm, ⟨9, _⟩ => ⟨S16384x1024, .f32⟩
  | .hbm, ⟨10, _⟩ => ⟨S16384x1024, .bf16⟩
  | .hbm, ⟨11, _⟩ => ⟨S16384x1024, .f32⟩
  | .hbm, ⟨12, _⟩ => ⟨S16384x1024, .bf16⟩
  | .hbm, ⟨13, _⟩ => ⟨S2048x1024, .bf16⟩
  | .hbm, ⟨14, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | .local _ .vmem, ⟨9, _⟩ => ⟨S3x1024, .f32⟩
  | .local _ .vmem, ⟨10, _⟩ => ⟨S3x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c16_i32_2 : BitVec 32 := 16#32
  let v6 : BitVec 1 := Scalar.cmpi .eq arg0 c16_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8x2048x1024 : Shape := ⟨3, ![8, 2048, 1024]⟩
abbrev S8x9216 : Shape := ⟨2, ![8, 9216]⟩
abbrev S2048x1024 : Shape := ⟨2, ![2048, 1024]⟩
abbrev S3x1024 : Shape := ⟨2, ![3, 1024]⟩
abbrev S8x1024 : Shape := ⟨2, ![8, 1024]⟩
abbrev S8x1x1024 : Shape := ⟨3, ![8, 1, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S16384x1024 : Shape := ⟨2, ![16384, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x9216, .f32⟩
  | .hbm, ⟨2, _⟩ => ⟨S8x2048x1024, .f32⟩
  | .hbm, ⟨3, _⟩ => ⟨S8x2048x1024, .f32⟩
  | .hbm, ⟨4, _⟩ => ⟨S2048x1024, .f32⟩
  | .hbm, ⟨5, _⟩ => ⟨S3x1024, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x1024, .f32⟩
  | .hbm, ⟨24, _⟩ => ⟨S8x1x1024, .f32⟩
  | .hbm, ⟨25, _⟩ => ⟨S8x2048x2048, .f32⟩
  | .hbm, ⟨26, _⟩ => ⟨S8x2048x1024, .f32⟩
  | .hbm, ⟨27, _⟩ => ⟨S_, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1024, .f32⟩
  | .hbm, ⟨60, _⟩ => ⟨S1024, .f32⟩
  | .hbm, ⟨61, _⟩ => ⟨S1x1x1024, .f32⟩
  | .hbm, ⟨62, _⟩ => ⟨S8x2048x1024, .f32⟩
  | .hbm, ⟨63, _⟩ => ⟨S8x2048x1024, .f32⟩
  | .hbm, ⟨64, _⟩ => ⟨S1x1024, .f32⟩
  | .hbm, ⟨65, _⟩ => ⟨S1024, .f32⟩
  | .hbm, ⟨66, _⟩ => ⟨S1x1x1024, .f32⟩
  | .hbm, ⟨67, _⟩ => ⟨S8x2048x1024, .f32⟩
  | .hbm, ⟨68, _⟩ => ⟨S8x2048x1024, .f32⟩
  | .hbm, ⟨69, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Kernel5.lean ====
abbrev S8x1024 : Shape := ⟨2, ![8, 1024]⟩
abbrev S1024x9216 : Shape := ⟨2, ![1024, 9216]⟩
abbrev S9216 : Shape := ⟨1, ![9216]⟩
abbrev S1x9216 : Shape := ⟨2, ![1, 9216]⟩
abbrev S8x9216 : Shape := ⟨2, ![8, 9216]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x9216, .f32⟩
  | .hbm, ⟨2, _⟩ => ⟨S9216, .f32⟩
  | .hbm, ⟨3, _⟩ => ⟨S1x9216, .f32⟩
  | .hbm, ⟨4, _⟩ => ⟨S8x9216, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8x1024 : Shape := ⟨2, ![8, 1024]⟩
abbrev S1024x9216 : Shape := ⟨2, ![1024, 9216]⟩
abbrev S9216 : Shape := ⟨1, ![9216]⟩
abbrev S_ : Shape := ⟨0, ![]⟩
abbrev S8x9216 : Shape := ⟨2, ![8, 9216]⟩
abbrev S1x9216 : Shape := ⟨2, ![1, 9216]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x9216, .f32⟩
  | .hbm, ⟨2, _⟩ => ⟨S9216, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x9216, .f32⟩
  | .hbm, ⟨13, _⟩ => ⟨S1x9216, .f32⟩
  | .hbm, ⟨14, _⟩ => ⟨S8x9216, .f32⟩
  | .hbm, ⟨15, _⟩ => ⟨S8x9216, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel6.lean ====
abbrev S8x2048x1024 : Shape := ⟨3, ![8, 2048, 1024]⟩
abbrev S8x9216 : Shape := ⟨2, ![8, 9216]⟩
abbrev S1024x3280 : Shape := ⟨2, ![1024, 3280]⟩
abbrev S4x1536 : Shape := ⟨2, ![4, 1536]⟩
abbrev S1536 : Shape := ⟨1, ![1536]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S1024x2560 : Shape := ⟨2, ![1024, 2560]⟩
abbrev S1024x16 : Shape := ⟨2, ![1024, 16]⟩
abbrev S_ : Shape := ⟨0, ![]⟩
abbrev S1024x128 : Shape := ⟨2, ![1024, 128]⟩
abbrev S1024x640 : Shape := ⟨2, ![1024, 640]⟩
abbrev S1024x64 : Shape := ⟨2, ![1024, 64]⟩
abbrev S1024x32 : Shape := ⟨2, ![1024, 32]⟩
abbrev S1024x3584 : Shape := ⟨2, ![1024, 3584]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S16384x1024 : Shape := ⟨2, ![16384, 1024]⟩
abbrev S8x9x1024 : Shape := ⟨3, ![8, 9, 1024]⟩
abbrev S1x1536 : Shape := ⟨2, ![1, 1536]⟩
abbrev S1x384 : Shape := ⟨2, ![1, 384]⟩
abbrev S384x8x192 : Shape := ⟨3, ![384, 8, 192]⟩
abbrev S384x8x128 : Shape := ⟨3, ![384, 8, 128]⟩
abbrev S384x1024 : Shape := ⟨2, ![384, 1024]⟩
abbrev S384x8x64 : Shape := ⟨3, ![384, 8, 64]⟩
abbrev S384x8x32 : Shape := ⟨3, ![384, 8, 32]⟩
abbrev S384x3072 : Shape := ⟨2, ![384, 3072]⟩
abbrev S1x256 : Shape := ⟨2, ![1, 256]⟩
abbrev S256x8x256 : Shape := ⟨3, ![256, 8, 256]⟩
abbrev S256x8x128 : Shape := ⟨3, ![256, 8, 128]⟩
abbrev S256x1024 : Shape := ⟨2, ![256, 1024]⟩
abbrev S16384x512 : Shape := ⟨2, ![16384, 512]⟩
abbrev S16384x128 : Shape := ⟨2, ![16384, 128]⟩
abbrev S16384x2048 : Shape := ⟨2, ![16384, 2048]⟩
abbrev S512x1024 : Shape := ⟨2, ![512, 1024]⟩
abbrev S1x9x1024 : Shape := ⟨3, ![1, 9, 1024]⟩
abbrev S512x128 : Shape := ⟨2, ![512, 128]⟩
abbrev S512x512 : Shape := ⟨2, ![512, 512]⟩
abbrev S512x2048 : Shape := ⟨2, ![512, 2048]⟩
abbrev S8x1536 : Shape := ⟨2, ![8, 1536]⟩
abbrev S1x1x1024 : Shape := ⟨3, ![1, 1, 1024]⟩
abbrev S1x1024 : Shape := ⟨2, ![1, 1024]⟩
abbrev S1024x1536 : Shape := ⟨2, ![1024, 1536]⟩
abbrev S512x1536 : Shape := ⟨2, ![512, 1536]⟩
abbrev S1024x1024 : Shape := ⟨2, ![1024, 1024]⟩
abbrev S504x1536 : Shape := ⟨2, ![504, 1536]⟩
abbrev S512x384 : Shape := ⟨2, ![512, 384]⟩
abbrev S512 : Shape := ⟨1, ![512]⟩
abbrev S512x1 : Shape := ⟨2, ![512, 1]⟩
abbrev S512x3072 : Shape := ⟨2, ![512, 3072]⟩
abbrev S512x256 : Shape := ⟨2, ![512, 256]⟩

abbrev nBuf : Space → Nat
  | .hbm => 94
  | .vmem => 30
  | .smem => 0
  | _ => 0

abbrev bufTy : (tb : Table) → Fin (tcTables nBuf tb) → BufTy
  | .hbm, ⟨0, _⟩ => ⟨S8x2048x1024, .f32⟩
  | .hbm, ⟨1, _⟩ => ⟨S8x9216, .f32⟩
  | .hbm, ⟨2, _⟩ => ⟨S1024x3280, .f32⟩
  | .hbm, ⟨3, _⟩ => ⟨S4x1536, .f32⟩
  | .hbm, ⟨4, _⟩ => ⟨S1536, .f32⟩
  | .hbm, ⟨5, _⟩ => ⟨S384, .f32⟩
  | .hbm, ⟨6, _⟩ => ⟨S384x1536, .f32⟩
  | .hbm, ⟨7, _⟩ => ⟨S256, .f32⟩
  | .hbm, ⟨8, _⟩ => ⟨S256x2048, .f32⟩
  | .hbm, ⟨9, _⟩ => ⟨S1024x2560, .f32⟩
  | .hbm, ⟨10, _⟩ => ⟨S1024x16, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x640, .f32⟩
  | .hbm, ⟨15, _⟩ => ⟨S1024x64, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x64, .f32⟩
  | .hbm, ⟨20, _⟩ => ⟨S1024x32, .f32⟩
  | .hbm, ⟨21, _⟩ => ⟨S1024x32, .f32⟩
  | .hbm, ⟨22, _⟩ => ⟨S1024x32, .f32⟩
  | .hbm, ⟨23, _⟩ => ⟨S1024x64, .f32⟩
  | .hbm, ⟨24, _⟩ => ⟨S_, .i32⟩
  | .hbm, ⟨25, _⟩ => ⟨S_, .f32⟩
  | .hbm, ⟨26, _⟩ => ⟨S1024x128, .f32⟩
  | .hbm, ⟨27, _⟩ => ⟨S1024x3584, .f32⟩
  | .hbm, ⟨28, _⟩ => ⟨S1024x3584, .bf16⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S2048, .f32⟩
  | .hbm, ⟨46, _⟩ => ⟨S2048x1, .f32⟩
  | .hbm, ⟨47, _⟩ => ⟨S1x32, .f32⟩
  | .hbm, ⟨48, _⟩ => ⟨S2048x32, .f32⟩
  | .hbm, ⟨49, _⟩ => ⟨S2048x32, .f32⟩
  | .hbm, ⟨50, _⟩ => ⟨S2048x32, .f32⟩
  | .hbm, ⟨51, _⟩ => ⟨S_, .f32⟩
  | .hbm, ⟨52, _⟩ => ⟨S2048x64, .f32⟩
  | .hbm, ⟨53, _⟩ => ⟨S2048x32, .f32⟩
  | .hbm, ⟨54, _⟩ => ⟨S2048x32, .f32⟩
  | .hbm, ⟨55, _⟩ => ⟨S2048x128, .f32⟩
  | .hbm, ⟨56, _⟩ => ⟨S2048x128, .f32⟩
  | .hbm, ⟨57, _⟩ => ⟨S16384x1024, .f32⟩
  | .hbm, ⟨58, _⟩ => ⟨S8x9x1024, .f32⟩
  | .hbm, ⟨59, _⟩ => ⟨S1x1536, .f32⟩
  | .hbm, ⟨60, _⟩ => ⟨S1x384, .f32⟩
  | .hbm, ⟨61, _⟩ => ⟨S384x8x192, .f32⟩
  | .hbm, ⟨62, _⟩ => ⟨S384x8x128, .f32⟩
  | .hbm, ⟨63, _⟩ => ⟨S384x1024, .f32⟩
  | .hbm, ⟨64, _⟩ => ⟨S384x8x64, .f32⟩
  | .hbm, ⟨65, _⟩ => ⟨S_, .i32⟩
  | .hbm, ⟨66, _⟩ => ⟨S_, .f32⟩
  | .hbm, ⟨67, _⟩ => ⟨S384x8x128, .f32⟩
  | .hbm, ⟨68, _⟩ => ⟨S384x1024, .f32⟩
  | .hbm, ⟨69, _⟩ => ⟨S384x8x32, .f32⟩
  | .hbm, ⟨70, _⟩ => ⟨S384x8x32, .f32⟩
  | .hbm, ⟨71, _⟩ => ⟨S384x8x32, .f32⟩
  | .hbm, ⟨72, _⟩ => ⟨S384x8x64, .f32⟩
  | .hbm, ⟨73, _⟩ => ⟨S_, .i32⟩
  | .hbm, ⟨74, _⟩ => ⟨S_, .f32⟩
  | .hbm, ⟨75, _⟩ => ⟨S384x8x128, .f32⟩
  | .hbm, ⟨76, _⟩ => ⟨S384x1024, .f32⟩
  | .hbm, ⟨77, _⟩ => ⟨S384x3072, .f32⟩
  | .hbm, ⟨78, _⟩ => ⟨S384x3072, .bf16⟩
  | .hbm, ⟨79, _⟩ => ⟨S1x256, .f32⟩
  | .hbm, ⟨80, _⟩ => ⟨S256x8x256, .f32⟩
  | .hbm, ⟨81, _⟩ => ⟨S256x8x128, .f32⟩
  | .hbm, ⟨82, _⟩ => ⟨S256x1024, .f32⟩
  | .hbm, ⟨83, _⟩ => ⟨S256x8x128, .f32⟩
  | .hbm, ⟨84, _⟩ => ⟨S256x1024, .f32⟩
  | .hbm, ⟨85, _⟩ => ⟨S256x2048, .f32⟩
  | .hbm, ⟨86, _⟩ => ⟨S256x2048, .bf16⟩
  | .hbm, ⟨87, _⟩ => ⟨S16384x1024, .f32⟩
  | .hbm, ⟨88, _⟩ => ⟨S16384x1024, .f32⟩
  | .hbm, ⟨89, _⟩ => ⟨S16384x512, .bf16⟩
  | .hbm, ⟨90, _⟩ => ⟨S16384x128, .f32⟩
  | .hbm, ⟨91, _⟩ => ⟨S16384x2048, .bf16⟩
  | .hbm, ⟨92, _⟩ => ⟨S16384x2048, .bf16⟩
  | .hbm, ⟨93, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1024x3584, .bf16⟩
  | .local _ .vmem, ⟨5, _⟩ => ⟨S4x1536, .f32⟩
  | .local _ .vmem, ⟨6, _⟩ => ⟨S1x1536, .f32⟩
  | .local _ .vmem, ⟨7, _⟩ => ⟨S1x384, .f32⟩
  | .local _ .vmem, ⟨8, _⟩ => ⟨S384x3072, .bf16⟩
  | .local _ .vmem, ⟨9, _⟩ => ⟨S1x256, .f32⟩
  | .local _ .vmem, ⟨10, _⟩ => ⟨S256x2048, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x512, .bf16⟩
  | .local _ .vmem, ⟨20, _⟩ => ⟨S512x512, .bf16⟩
  | .local _ .vmem, ⟨21, _⟩ => ⟨S512x128, .f32⟩
  | .local _ .vmem, ⟨22, _⟩ => ⟨S512x128, .f32⟩
  | .local _ .vmem, ⟨23, _⟩ => ⟨S512x2048, .bf16⟩
  | .local _ .vmem, ⟨24, _⟩ => ⟨S512x2048, .bf16⟩
  | .local _ .vmem, ⟨25, _⟩ => ⟨S512x2048, .bf16⟩
  | .local _ .vmem, ⟨26, _⟩ => ⟨S512x2048, .bf16⟩
  | .local _ .vmem, ⟨27, _⟩ => ⟨S512x1024, .bf16⟩
  | .local _ .vmem, ⟨28, _⟩ => ⟨S512x1024, .bf16⟩
  | .local _ .vmem, ⟨29, _⟩ => ⟨S8x1536, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_call2_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_call3_v0 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_call4_v0 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62_0 : Ref sig .tc := ⟨.hbm, 87, rfl⟩
abbrev main_v62_1 : Ref sig .tc := ⟨.hbm, 88, rfl⟩
abbrev main_v62_2 : Ref sig .tc := ⟨.hbm, 89, rfl⟩
abbrev main_v62_3 : Ref sig .tc := ⟨.hbm, 90, rfl⟩
abbrev main_v62_4 : Ref sig .tc := ⟨.hbm, 91, rfl⟩
abbrev main_v62_5 : Ref sig .tc := ⟨.hbm, 92, rfl⟩
abbrev main_v62_6 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference6Ideal.lean ====
abbrev S8x2048x1024 : Shape := ⟨3, ![8, 2048, 1024]⟩
abbrev S8x9216 : Shape := ⟨2, ![8, 9216]⟩
abbrev S1024x3280 : Shape := ⟨2, ![1024, 3280]⟩
abbrev S4x1536 : Shape := ⟨2, ![4, 1536]⟩
abbrev S1536 : Shape := ⟨1, ![1536]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S8x1024 : Shape := ⟨2, ![8, 1024]⟩
abbrev S8x1x1024 : Shape := ⟨3, ![8, 1, 1024]⟩
abbrev S8x2048x3280 : Shape := ⟨3, ![8, 2048, 3280]⟩
abbrev S8x2048x1536 : Shape := ⟨3, ![8, 2048, 1536]⟩
abbrev S8x2048x16 : Shape := ⟨3, ![8, 2048, 16]⟩
abbrev S8x2048x384 : Shape := ⟨3, ![8, 2048, 384]⟩
abbrev S8x2048x256 : Shape := ⟨3, ![8, 2048, 256]⟩
abbrev S8x2048x64 : Shape := ⟨3, ![8, 2048, 64]⟩
abbrev S8x2051x1536 : Shape := ⟨3, ![8, 2051, 1536]⟩
abbrev S1x1536 : Shape := ⟨2, ![1, 1536]⟩
abbrev S1x1x1536 : Shape := ⟨3, ![1, 1, 1536]⟩
abbrev S8x2048 : Shape := ⟨2, ![8, 2048]⟩
abbrev S8x2048x1 : Shape := ⟨3, ![8, 2048, 1]⟩
abbrev S1x1x384 : Shape := ⟨3, ![1, 1, 384]⟩
abbrev S8x2048x8x192 : Shape := ⟨4, ![8, 2048, 8, 192]⟩
abbrev S8x2048x8x128 : Shape := ⟨4, ![8, 2048, 8, 128]⟩
abbrev S8x2048x8x64 : Shape := ⟨4, ![8, 2048, 8, 64]⟩
abbrev S2048x1x32 : Shape := ⟨3, ![2048, 1, 32]⟩
abbrev S8x2048x8x32 : Shape := ⟨4, ![8, 2048, 8, 32]⟩
abbrev S1x2048x1x32 : Shape := ⟨4, ![1, 2048, 1, 32]⟩
abbrev S1x1x256 : Shape := ⟨3, ![1, 1, 256]⟩
abbrev S8x2048x2048 : Shape := ⟨3, ![8, 2048, 2048]⟩
abbrev S8x2048x8x256 : Shape := ⟨4, ![8, 2048, 8, 256]⟩
abbrev S8x2048x32 : Shape := ⟨3, ![8, 2048, 32]⟩
abbrev S1x2048x32 : Shape := ⟨3, ![1, 2048, 32]⟩
abbrev S8x2048x1x64 : Shape := ⟨4, ![8, 2048, 1, 64]⟩
abbrev S16384x1024 : Shape := ⟨2, ![16384, 1024]⟩
abbrev S8x2048x512 : Shape := ⟨3, ![8, 2048, 512]⟩
abbrev S16384x512 : Shape := ⟨2, ![16384, 512]⟩
abbrev S16384x16 : Shape := ⟨2, ![16384, 16]⟩
abbrev S16384x128 : Shape := ⟨2, ![16384, 128]⟩
abbrev S16384x2048 : Shape := ⟨2, ![16384, 2048]⟩

abbrev nBuf : Space → Nat
  | .hbm => 212
  | .vmem => 0
  | .smem => 0
  | _ => 0

abbrev hbmTy0_0 (i : Nat) : BufTy := match i % 128 with
  | 0 => ⟨S8x2048x1024, .f32⟩
  | 1 => ⟨S8x9216, .f32⟩
  | 2 => ⟨S1024x3280, .f32⟩
  | 3 => ⟨S4x1536, .f32⟩
  | 4 => ⟨S1536, .f32⟩
  | 5 => ⟨S384, .f32⟩
  | 6 => ⟨S384x1536, .f32⟩
  | 7 => ⟨S256, .f32⟩
  | 8 => ⟨S256x2048, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S2048, .f32⟩
  | 26 => ⟨S2048x1, .f32⟩
  | 27 => ⟨S1x32, .f32⟩
  | 28 => ⟨S2048x32, .f32⟩
  | 29 => ⟨S2048x32, .f32⟩
  | 30 => ⟨S2048x32, .f32⟩
  | 31 => ⟨S2048x32, .f32⟩
  | 32 => ⟨S2048x32, .f32⟩
  | 33 => ⟨S8x1024, .f32⟩
  | 34 => ⟨S8x1024, .f32⟩
  | 35 => ⟨S8x1024, .f32⟩
  | 36 => ⟨S8x1024, .f32⟩
  | 37 => ⟨S8x1024, .f32⟩
  | 38 => ⟨S8x1024, .f32⟩
  | 39 => ⟨S8x1024, .f32⟩
  | 40 => ⟨S8x1024, .f32⟩
  | 41 => ⟨S8x1024, .f32⟩
  | 42 => ⟨S8x1x1024, .f32⟩
  | 43 => ⟨S8x1x1024, .f32⟩
  | 44 => ⟨S8x1x1024, .f32⟩
  | 45 => ⟨S8x1x1024, .f32⟩
  | 46 => ⟨S8x1x1024, .f32⟩
  | 47 => ⟨S8x1x1024, .f32⟩
  | 48 => ⟨S8x1x1024, .f32⟩
  | 49 => ⟨S8x1x1024, .f32⟩
  | 50 => ⟨S8x1x1024, .f32⟩
  | 51 => ⟨S_, .f32⟩
  | 52 => ⟨S8x1x1024, .f32⟩
  | 53 => ⟨S8x1x1024, .f32⟩
  | 54 => ⟨S8x2048x1024, .f32⟩
  | 55 => ⟨S8x2048x1024, .f32⟩
  | 56 => ⟨S8x2048x1024, .f32⟩
  | 57 => ⟨S8x2048x1024, .f32⟩
  | 58 => ⟨S8x2048x3280, .f32⟩
  | 59 => ⟨S8x2048x1024, .f32⟩
  | 60 => ⟨S8x2048x1536, .f32⟩
  | 61 => ⟨S8x2048x16, .f32⟩
  | 62 => ⟨S8x2048x384, .f32⟩
  | 63 => ⟨S8x2048x256, .f32⟩
  | 64 => ⟨S8x2048x64, .f32⟩
  | 65 => ⟨S_, .i32⟩
  | 66 => ⟨S_, .f32⟩
  | 67 => ⟨S8x2051x1536, .f32⟩
  | 68 => ⟨S8x2048x1536, .f32⟩
  | 69 => ⟨S1x1536, .f32⟩
  | 70 => ⟨S1536, .f32⟩
  | 71 => ⟨S1x1x1536, .f32⟩
  | 72 => ⟨S8x2048x1536, .f32⟩
  | 73 => ⟨S8x2048x1536, .f32⟩
  | 74 => ⟨S8x2048x1536, .f32⟩
  | 75 => ⟨S1x1536, .f32⟩
  | 76 => ⟨S1536, .f32⟩
  | 77 => ⟨S1x1x1536, .f32⟩
  | 78 => ⟨S8x2048x1536, .f32⟩
  | 79 => ⟨S8x2048x1536, .f32⟩
  | 80 => ⟨S8x2048x1536, .f32⟩
  | 81 => ⟨S8x2048x1536, .f32⟩
  | 82 => ⟨S1x1536, .f32⟩
  | 83 => ⟨S1536, .f32⟩
  | 84 => ⟨S1x1x1536, .f32⟩
  | 85 => ⟨S8x2048x1536, .f32⟩
  | 86 => ⟨S8x2048x1536, .f32⟩
  | 87 => ⟨S8x2048x1536, .f32⟩
  | 88 => ⟨S8x2048x1536, .f32⟩
  | 89 => ⟨S1x1536, .f32⟩
  | 90 => ⟨S1536, .f32⟩
  | 91 => ⟨S1x1x1536, .f32⟩
  | 92 => ⟨S8x2048x1536, .f32⟩
  | 93 => ⟨S8x2048x1536, .f32⟩
  | 94 => ⟨S8x2048x1536, .f32⟩
  | 95 => ⟨S1x1x1536, .f32⟩
  | 96 => ⟨S8x2048x1536, .f32⟩
  | 97 => ⟨S8x2048x1536, .f32⟩
  | 98 => ⟨S8x2048x1536, .f32⟩
  | 99 => ⟨S8x2048x1536, .f32⟩
  | 100 => ⟨S_, .f32⟩
  | 101 => ⟨S8x2048x1536, .f32⟩
  | 102 => ⟨S8x2048x1536, .f32⟩
  | 103 => ⟨S_, .f32⟩
  | 104 => ⟨S8x2048x1536, .f32⟩
  | 105 => ⟨S8x2048x1536, .f32⟩
  | 106 => ⟨S8x2048x1536, .f32⟩
  | 107 => ⟨S8x2048x384, .f32⟩
  | 108 => ⟨S_, .f32⟩
  | 109 => ⟨S8x2048, .f32⟩
  | 110 => ⟨S8x2048x1, .f32⟩
  | 111 => ⟨S_, .f32⟩
  | 112 => ⟨S8x2048x1, .f32⟩
  | 113 => ⟨S8x2048x1, .f32⟩
  | 114 => ⟨S_, .f32⟩
  | 115 => ⟨S8x2048x1, .f32⟩
  | 116 => ⟨S8x2048x1, .f32⟩
  | 117 => ⟨S8x2048x1, .f32⟩
  | 118 => ⟨S8x2048x384, .f32⟩
  | 119 => ⟨S8x2048x384, .f32⟩
  | 120 => ⟨S1x1x384, .f32⟩
  | 121 => ⟨S8x2048x384, .f32⟩
  | 122 => ⟨S8x2048x384, .f32⟩
  | 123 => ⟨S8x2048x1536, .f32⟩
  | 124 => ⟨S8x2048x8x192, .f32⟩
  | 125 => ⟨S8x2048x8x128, .f32⟩
  | 126 => ⟨S8x2048x8x64, .f32⟩
  | 127 => ⟨S2048x1x32, .f32⟩
  | _ => ⟨S8x2048x1024, .f32⟩

abbrev hbmTy0_1 (i : Nat) : BufTy := match i % 128 with
  | 0 => ⟨S2048x1x32, .f32⟩
  | 1 => ⟨S8x2048x8x32, .f32⟩
  | 2 => ⟨S8x2048x8x32, .f32⟩
  | 3 => ⟨S1x2048x1x32, .f32⟩
  | 4 => ⟨S8x2048x8x32, .f32⟩
  | 5 => ⟨S8x2048x8x32, .f32⟩
  | 6 => ⟨S1x2048x1x32, .f32⟩
  | 7 => ⟨S8x2048x8x32, .f32⟩
  | 8 => ⟨S8x2048x8x32, .f32⟩
  | 9 => ⟨S8x2048x8x32, .f32⟩
  | 10 => ⟨S1x2048x1x32, .f32⟩
  | 11 => ⟨S8x2048x8x32, .f32⟩
  | 12 => ⟨S8x2048x8x32, .f32⟩
  | 13 => ⟨S1x2048x1x32, .f32⟩
  | 14 => ⟨S8x2048x8x32, .f32⟩
  | 15 => ⟨S8x2048x8x32, .f32⟩
  | 16 => ⟨S8x2048x8x32, .f32⟩
  | 17 => ⟨S8x2048x8x64, .f32⟩
  | 18 => ⟨S8x2048x256, .f32⟩
  | 19 => ⟨S_, .f32⟩
  | 20 => ⟨S8x2048, .f32⟩
  | 21 => ⟨S8x2048x1, .f32⟩
  | 22 => ⟨S_, .f32⟩
  | 23 => ⟨S8x2048x1, .f32⟩
  | 24 => ⟨S8x2048x1, .f32⟩
  | 25 => ⟨S_, .f32⟩
  | 26 => ⟨S8x2048x1, .f32⟩
  | 27 => ⟨S8x2048x1, .f32⟩
  | 28 => ⟨S8x2048x1, .f32⟩
  | 29 => ⟨S8x2048x256, .f32⟩
  | 30 => ⟨S8x2048x256, .f32⟩
  | 31 => ⟨S1x1x256, .f32⟩
  | 32 => ⟨S8x2048x256, .f32⟩
  | 33 => ⟨S8x2048x256, .f32⟩
  | 34 => ⟨S8x2048x2048, .f32⟩
  | 35 => ⟨S8x2048x8x256, .f32⟩
  | 36 => ⟨S8x2048x8x128, .f32⟩
  | 37 => ⟨S8x2048x8x128, .f32⟩
  | 38 => ⟨S8x2048x32, .f32⟩
  | 39 => ⟨S8x2048x32, .f32⟩
  | 40 => ⟨S1x2048x32, .f32⟩
  | 41 => ⟨S8x2048x32, .f32⟩
  | 42 => ⟨S8x2048x32, .f32⟩
  | 43 => ⟨S1x2048x32, .f32⟩
  | 44 => ⟨S8x2048x32, .f32⟩
  | 45 => ⟨S8x2048x32, .f32⟩
  | 46 => ⟨S8x2048x32, .f32⟩
  | 47 => ⟨S1x2048x32, .f32⟩
  | 48 => ⟨S8x2048x32, .f32⟩
  | 49 => ⟨S8x2048x32, .f32⟩
  | 50 => ⟨S1x2048x32, .f32⟩
  | 51 => ⟨S8x2048x32, .f32⟩
  | 52 => ⟨S8x2048x32, .f32⟩
  | 53 => ⟨S8x2048x32, .f32⟩
  | 54 => ⟨S8x2048x64, .f32⟩
  | 55 => ⟨S8x2048x1x64, .f32⟩
  | 56 => ⟨S8x2048x8x64, .f32⟩
  | 57 => ⟨S8x2048x8x192, .f32⟩
  | 58 => ⟨S8x2048x8x192, .f32⟩
  | 59 => ⟨S_, .f32⟩
  | 60 => ⟨S8x2048x8x192, .f32⟩
  | 61 => ⟨S8x2048x8x192, .f32⟩
  | 62 => ⟨S16384x1024, .f32⟩
  | 63 => ⟨S8x2048x1024, .f32⟩
  | 64 => ⟨S16384x1024, .f32⟩
  | 65 => ⟨S8x2048x512, .f32⟩
  | 66 => ⟨S16384x512, .f32⟩
  | 67 => ⟨S16384x512, .bf16⟩
  | 68 => ⟨S16384x16, .f32⟩
  | 69 => ⟨S_, .i32⟩
  | 70 => ⟨S_, .f32⟩
  | 71 => ⟨S16384x128, .f32⟩
  | 72 => ⟨S_, .i32⟩
  | 73 => ⟨S_, .f32⟩
  | 74 => ⟨S8x2048x8x256, .f32⟩
  | 75 => ⟨S16384x2048, .f32⟩
  | 76 => ⟨S16384x2048, .bf16⟩
  | 77 => ⟨S_, .i32⟩
  | 78 => ⟨S_, .f32⟩
  | 79 => ⟨S8x2048x8x256, .f32⟩
  | 80 => ⟨S16384x2048, .f32⟩
  | 81 => ⟨S16384x2048, .bf16⟩
  | 82 => ⟨S16384x1024, .f32⟩
  | 83 => ⟨S16384x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c : Ref sig .tc := ⟨.hbm, 65, rfl⟩
abbrev main_call0_v0 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_call1_v0 : Ref sig .tc := ⟨.hbm, 98, rfl⟩
abbrev main_call1_v1 : Ref sig .tc := ⟨.hbm, 99, rfl⟩
abbrev main_call1_cst : Ref sig .tc := ⟨.hbm, 100, rfl⟩
abbrev main_call1_v2 : Ref sig .tc := ⟨.hbm, 101, rfl⟩
abbrev main_call1_v3 : Ref sig .tc := ⟨.hbm, 102, rfl⟩
abbrev main_call1_cst_0 : Ref sig .tc := ⟨.hbm, 103, rfl⟩
abbrev main_call1_v4 : Ref sig .tc := ⟨.hbm, 104, rfl⟩
abbrev main_call1_v5 : Ref sig .tc := ⟨.hbm, 105, rfl⟩
abbrev main_v81 : Ref sig .tc := ⟨.hbm, 106, rfl⟩
abbrev main_v82 : Ref sig .tc := ⟨.hbm, 107, rfl⟩
abbrev main_cst_5 : Ref sig .tc := ⟨.hbm, 108, rfl⟩
abbrev main_v83 : Ref sig .tc := ⟨.hbm, 109, rfl⟩
abbrev main_v84 : Ref sig .tc := ⟨.hbm, 110, rfl⟩
abbrev main_cst_6 : Ref sig .tc := ⟨.hbm, 111, rfl⟩
abbrev main_v85 : Ref sig .tc := ⟨.hbm, 112, rfl⟩
abbrev main_v86 : Ref sig .tc := ⟨.hbm, 113, rfl⟩
abbrev main_cst_7 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_8 : Ref sig .tc := ⟨.hbm, 147, rfl⟩
abbrev main_v119 : Ref sig .tc := ⟨.hbm, 148, rfl⟩
abbrev main_v120 : Ref sig .tc := ⟨.hbm, 149, rfl⟩
abbrev main_cst_9 : Ref sig .tc := ⟨.hbm, 150, rfl⟩
abbrev main_v121 : Ref sig .tc := ⟨.hbm, 151, rfl⟩
abbrev main_v122 : Ref sig .tc := ⟨.hbm, 152, rfl⟩
abbrev main_cst_10 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_cst_11 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_c_12 : Ref sig .tc := ⟨.hbm, 197, rfl⟩
abbrev main_call2_v0 : Ref sig .tc := ⟨.hbm, 198, rfl⟩
abbrev main_v165 : Ref sig .tc := ⟨.hbm, 199, rfl⟩
abbrev main_c_13 : Ref sig .tc := ⟨.hbm, 200, rfl⟩
abbrev main_call3_v0 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_c_14 : Ref sig .tc := ⟨.hbm, 205, rfl⟩
abbrev main_call4_v0 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩

abbrev nD : Nat := 1
abbrev τ : Topo := Topo.v7x

variable {F : FTy → Type} [FloatOps F]
-- ==== Proof.Softmax.lean ====
module

public import Idealize.ShloMosaic.Lib.Pointwise

@[expose] public section

/-! Softmax attention of one query, over the extended reals: the base of the exponential does not matter, and dividing
the weighted sum is weighting by the quotients. -/

noncomputable section

namespace Cert.Attn

open Idealize.ShloMosaic
open scoped BigOperators

/-- One query's attention with exponential `e`: scores `z`, values `v`, the sum divided once at the end. -/
def attn {N : ℕ} (e : EReal → EReal) (z v : Fin N → EReal) : EReal :=
  Ideal.div (∑ k, e (z k - Finset.univ.sup z) * v k) (∑ k, e (z k - Finset.univ.sup z))

/-- The same with the weights normalised first. -/
def attnNormed {N : ℕ} (e : EReal → EReal) (z v : Fin N → EReal) : EReal :=
  ∑ k, v k * Ideal.div (e (z k - Finset.univ.sup z)) (∑ k', e (z k' - Finset.univ.sup z))

/-- A nonnegative real factor moves into a sum. -/
theorem sum_mul_real {ι : Type} (s : Finset ι) (f : ι → EReal) {c : ℝ} (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A sum of reals is a real. -/
theorem sum_real {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The scores of the allowed keys, the others at `⊥`. -/
def masked {N : ℕ} (P : Fin N → Prop) [DecidablePred P] (s : Fin N → ℝ) (k : Fin N) : EReal :=
  if P k then (s k : EReal) else ⊥

theorem masked_sup {N : ℕ} (P : Fin N → Prop) [DecidablePred P] (s : Fin N → ℝ) {k0 : Fin N} (h0 : P k0) {M : ℝ}
    (hle : ∀ k, P k → s k ≤ M) {k1 : Fin N} (h1 : P k1) (h1M : s k1 = M) : Finset.univ.sup (masked P s) = (M : EReal) := by
  refine le_antisymm (Finset.sup_le fun k _ => ?_) ?_
  · unfold masked
    split
    · exact_mod_cast hle k ‹_›
    · exact bot_le
  · have := Finset.le_sup (f := masked P s) (Finset.mem_univ k1)
    simpa [masked, h1, h1M] using this

theorem masked_sub {N : ℕ} (P : Fin N → Prop) [DecidablePred P] (s : Fin N → ℝ) (M : ℝ) (k : Fin N) :
    masked P s k - (M : EReal) = if P k then ((s k - M : ℝ) : EReal) else ⊥ := by
  unfold masked
  split
  · rw [EReal.coe_sub]
  · exact EReal.bot_sub _

/-- Base 2 on the scaled scores and base e on the scores give the same attention. -/
theorem attn_eq {N : ℕ} (P : Fin N → Prop) [DecidablePred P] (s : Fin N → ℝ) (v : Fin N → EReal) {k0 : Fin N} (h0 : P k0)
    {c : ℝ} (hc : 0 < c) (hlog : c * Real.log 2 = 1) :
    attn Ideal.exp2 (masked P fun k => c * s k) v = attnNormed Ideal.exp (masked P s) v := by
  classical
  obtain ⟨k1, hk1, hmax⟩ := Finset.exists_max_image (Finset.univ.filter P) s ⟨k0, by simpa using h0⟩
  have h1 : P k1 := by simpa using hk1
  have hle : ∀ k, P k → s k ≤ s k1 := fun k hk => hmax k (by simpa using hk)
  have e1 := masked_sup P s h0 hle h1 rfl
  have e2 := masked_sup P (fun k => c * s k) h0 (M := c * s k1) (fun k hk => mul_le_mul_of_nonneg_left (hle k hk) hc.le) h1 rfl
  let w : Fin N → ℝ := fun k => if P k then Real.exp (s k - s k1) else 0
  have w1 : ∀ k, Ideal.exp (masked P s k - Finset.univ.sup (masked P s)) = (w k : EReal) := fun k => by
    rw [e1, masked_sub]
    simp only [w]
    split
    · rw [Ideal.exp_coe]
    · simp
  have w2 : ∀ k, Ideal.exp2 (masked P (fun k => c * s k) k - Finset.univ.sup (masked P fun k => c * s k)) = (w k : EReal) := fun k => by
    rw [e2, masked_sub]
    simp only [w]
    split
    · rw [Ideal.exp2_coe]
      congr 1
      show (2 : ℝ) ^ (c * s k - c * s k1) = _
      rw [Real.rpow_def_of_pos two_pos]
      congr 1
      linear_combination (s k - s k1) * hlog
    · simp
  have hL : 0 < ∑ k, w k := Finset.sum_pos' (fun k _ => by simp only [w]; split <;> positivity)
    ⟨k1, Finset.mem_univ _, by simp only [w, h1, if_true]; positivity⟩
  unfold attn attnNormed
  simp only [w1, w2, sum_real]
  rw [Ideal.div_coe hL.ne', sum_mul_real _ _ (by positivity)]
  refine Finset.sum_congr rfl fun k _ => ?_
  rw [Ideal.div_coe hL.ne', mul_comm (w k : EReal) (v k), mul_assoc]

/-- A sum over keys that vanishes past `n + w`, cut at `n`. -/
theorem sum_cut {N n w : ℕ} (h : n + w ≤ N) (f : Fin N → EReal) (h0 : ∀ k : Fin N, n + w ≤ k.val → f k = 0) :
    ∑ k, f k = (∑ j : Fin w, f ⟨n + j.val, by omega⟩) + ∑ k : Fin n, f ⟨k.val, by omega⟩ := by
  obtain ⟨e, rfl⟩ := Nat.exists_eq_add_of_le h
  rw [Fin.sum_univ_add, Fin.sum_univ_add, Finset.sum_eq_zero (s := (Finset.univ : Finset (Fin e))) (fun k _ => h0 _ (by simp)), add_zero, add_comm]
  rfl

/-- The largest score over keys that are `⊥` past `n + w`, cut at `n`. -/
theorem sup_cut {N n w : ℕ} (h : n + w ≤ N) (f : Fin N → EReal) (h0 : ∀ k : Fin N, n + w ≤ k.val → f k = ⊥) :
    Finset.univ.sup f = max (Finset.univ.sup fun j : Fin w => f ⟨n + j.val, by omega⟩) (Finset.univ.sup fun k : Fin n => f ⟨k.val, by omega⟩) := by
  refine le_antisymm (Finset.sup_le fun k _ => ?_) (max_le (Finset.sup_le fun j _ => ?_) (Finset.sup_le fun j _ => ?_))
  · by_cases h1 : k.val < n
    · exact le_max_of_le_right (Finset.le_sup (f := fun k : Fin n => f ⟨k.val, by omega⟩) (Finset.mem_univ ⟨k.val, h1⟩))
    · by_cases h2 : k.val < n + w
      · refine le_max_of_le_left ?_
        have := Finset.le_sup (f := fun j : Fin w => f ⟨n + j.val, by omega⟩) (Finset.mem_univ ⟨k.val - n, by omega⟩)
        have hk : (⟨n + (k.val - n), by omega⟩ : Fin N) = k := Fin.ext (by simp; omega)
        simpa [hk] using this
      · rw [h0 k (by omega)]; exact bot_le
  · exact Finset.le_sup (f := f) (Finset.mem_univ _)
  · exact Finset.le_sup (f := f) (Finset.mem_univ _)

/-- Attention in base 2 over keys whose scores are `⊥` past `n + w`, with its sums and its maximum cut at `n`. -/
theorem attn_cut {N n w : ℕ} (h : n + w ≤ N) (z v : Fin N → EReal) (h0 : ∀ k : Fin N, n + w ≤ k.val → z k = ⊥)
    (zd vd : Fin w → EReal) (zo vo : Fin n → EReal) (hzd : ∀ j, z ⟨n + j.val, by omega⟩ = zd j) (hvd : ∀ j, v ⟨n + j.val, by omega⟩ = vd j)
    (hzo : ∀ k, z ⟨k.val, by omega⟩ = zo k) (hvo : ∀ k, v ⟨k.val, by omega⟩ = vo k) :
    attn Ideal.exp2 z v =
      Ideal.div ((∑ j, Ideal.exp2 (zd j - max (Finset.univ.sup zd) (Finset.univ.sup zo)) * vd j)
          + ∑ k, Ideal.exp2 (zo k - max (Finset.univ.sup zd) (Finset.univ.sup zo)) * vo k)
        ((∑ j, Ideal.exp2 (zd j - max (Finset.univ.sup zd) (Finset.univ.sup zo)))
          + ∑ k, Ideal.exp2 (zo k - max (Finset.univ.sup zd) (Finset.univ.sup zo))) := by
  have hm : Finset.univ.sup z = max (Finset.univ.sup zd) (Finset.univ.sup zo) := by
    rw [sup_cut h z h0]; simp only [hzd, hzo]
  have hp : ∀ k : Fin N, n + w ≤ k.val → Ideal.exp2 (z k - Finset.univ.sup z) = 0 := fun k hk => by
    rw [h0 k hk, EReal.bot_sub, Ideal.exp2_bot]
  unfold attn
  rw [sum_cut h _ (fun k hk => by rw [hp k hk, zero_mul]), sum_cut h _ hp, hm]
  simp only [hzd, hzo, hvd, hvo]

end Cert.Attn
-- ==== Proof.Tile.lean ====
module

public import proofs.«01_k».proof.Proof.Softmax
public import Idealize.ShloMosaic.Lib.MatmulPlain
public import Idealize.ShloMosaic.Lib.WordCmp

@[expose] public section

set_option maxRecDepth 16384

/-! One query tile of causal attention, as the kernel writes it: 256 queries against the 256 keys of their own tile
(masked to the keys at or before the query) and against the `n` keys before the tile. -/

noncomputable section

namespace Cert.Attn

open Idealize.ShloMosaic
open scoped BigOperators

/-- The shape of a matrix. -/
abbrev Sh2 (a b : ℕ) : Shape := ⟨2, ![a, b]⟩

/-- The shape of a row of numbers. -/
abbrev Sh1 (a : ℕ) : Shape := ⟨1, ![a]⟩

theorem ofBits_neg_inf : Ideal.ofBits .f32 0xFF800000#32 = ⊥ := by simp [Ideal.ofBits, Ideal.ieee]

/-- The bit of "`a` at least `b`" chooses. -/
theorem select_sge {α : Type} {a b : ℕ} (ha : a < 2 ^ 31) (hb : b < 2 ^ 31) (x y : α) :
    Scalar.select (IntOp.cmpi .sge (BitVec.ofNat 32 a) (BitVec.ofNat 32 b)) x y = if b ≤ a then x else y := by
  rw [WordCmp.cmpi_sge_eq, WordCmp.toInt_ofNat_of_lt (by simpa using hb), WordCmp.toInt_ofNat_of_lt (by simpa using ha)]
  by_cases h : b ≤ a <;> simp [h, Scalar.select]

/-- The masked scores of the tile on the diagonal: key `j` is kept at or before query `i`. -/
def diagScores (hi0 : (Sh2 256 256).Iotas .tc 32 [0]) (hi1 : (Sh2 256 256).Iotas .tc 32 [1])
    (q k : FVec Ideal (Sh2 256 256) .bf16) : FVec Ideal (Sh2 256 256) .f32 :=
  select (cmpi .sge (iota .tc (Sh2 256 256) 32 [0] hi0) (iota .tc (Sh2 256 256) 32 [1] hi1))
    (matmul (DotDims.transposedRhs 256 256 256) none q k (constant (Sh2 256 256) .f32 0x00000000#32))
    (broadcast (Sh2 256 256) (Scalar.ofBits .f32 0xFF800000#32))

/-- The scores against the `n` earlier keys. -/
def offScores {n : ℕ} (q : FVec Ideal (Sh2 256 256) .bf16) (k : FVec Ideal (Sh2 n 256) .bf16) : FVec Ideal (Sh2 256 n) .f32 :=
  matmul (DotDims.transposedRhs 256 256 n) none q k (constant (Sh2 256 n) .f32 0x00000000#32)

/-- The values weighted by `p`. -/
def weighted {n : ℕ} (p : FVec Ideal (Sh2 256 n) .bf16) (v : FVec Ideal (Sh2 n 128) .bf16) : FVec Ideal (Sh2 256 128) .f32 :=
  matmul (DotDims.plain 256 n 128) none p v (constant (Sh2 256 128) .f32 0x00000000#32)

/-- A tile's output from its two score matrices and the values. -/
def tileOut {n : ℕ} (hr : (Sh2 256 256).Reduces [1] (Sh1 256)) (hro : (Sh2 256 n).Reduces [1] (Sh1 256))
    (hc : (Sh1 256).ShapeCasts (Sh2 256 1)) (hb : (Sh2 256 1).Broadcasts (Sh2 256 256)) (hbo : (Sh2 256 1).Broadcasts (Sh2 256 n))
    (hbv : (Sh2 256 1).Broadcasts (Sh2 256 128)) (ht : FTy.bf16.bits < FTy.f32.bits)
    (sd : FVec Ideal (Sh2 256 256) .f32) (so : FVec Ideal (Sh2 256 n) .f32)
    (vd : FVec Ideal (Sh2 256 128) .bf16) (vo : FVec Ideal (Sh2 n 128) .bf16) : FVec Ideal (Sh2 256 128) .bf16 :=
  let m : FVec Ideal (Sh2 256 1) .f32 := maximumf
    (shapeCast (Sh2 256 1) (multiReduction .maximumf [1] (Sh1 256) sd 0xFF800000#32 hr (.inl rfl) rfl) hc)
    (shapeCast (Sh2 256 1) (multiReduction .maximumf [1] (Sh1 256) so 0xFF800000#32 hro (.inl rfl) rfl) hc)
  let pd := exp2 (subf sd (broadcastTo (Sh2 256 256) m hb))
  let po := exp2 (subf so (broadcastTo (Sh2 256 n) m hbo))
  let l : FVec Ideal (Sh2 256 1) .f32 := addf
    (shapeCast (Sh2 256 1) (multiReduction .add [1] (Sh1 256) pd 0x00000000#32 hr (.inl rfl) rfl) hc)
    (shapeCast (Sh2 256 1) (multiReduction .add [1] (Sh1 256) po 0x00000000#32 hro (.inl rfl) rfl) hc)
  truncf .bf16 (divf (addf (weighted (truncf .bf16 pd ht) vd) (weighted (truncf .bf16 po ht) vo)) (broadcastTo (Sh2 256 128) l hbv)) ht

/-- The first tile's output: there are no earlier keys. -/
def tile0Out (hr : (Sh2 256 256).Reduces [1] (Sh1 256)) (hc : (Sh1 256).ShapeCasts (Sh2 256 1))
    (hb : (Sh2 256 1).Broadcasts (Sh2 256 256)) (hbv : (Sh2 256 1).Broadcasts (Sh2 256 128)) (ht : FTy.bf16.bits < FTy.f32.bits)
    (sd : FVec Ideal (Sh2 256 256) .f32) (vd : FVec Ideal (Sh2 256 128) .bf16) : FVec Ideal (Sh2 256 128) .bf16 :=
  let m : FVec Ideal (Sh2 256 1) .f32 := shapeCast (Sh2 256 1) (multiReduction .maximumf [1] (Sh1 256) sd 0xFF800000#32 hr (.inl rfl) rfl) hc
  let pd := exp2 (subf sd (broadcastTo (Sh2 256 256) m hb))
  let l : FVec Ideal (Sh2 256 1) .f32 := shapeCast (Sh2 256 1) (multiReduction .add [1] (Sh1 256) pd 0x00000000#32 hr (.inl rfl) rfl) hc
  truncf .bf16 (divf (weighted (truncf .bf16 pd ht) vd) (broadcastTo (Sh2 256 128) l hbv)) ht

theorem weighted_apply {n : ℕ} (p : FVec Ideal (Sh2 256 n) .bf16) (v : FVec Ideal (Sh2 n 128) .bf16) (r : Fin 256) (c : Fin 128) :
    weighted p v (ix2 r c) = ∑ k : Fin n, p (ix2 r k) * v (ix2 k c) := by
  refine (Ideal.matmul_plain_apply none p v _ r c).trans ?_
  pointwise
  rfl

theorem offScores_apply {n : ℕ} (q : FVec Ideal (Sh2 256 256) .bf16) (k : FVec Ideal (Sh2 n 256) .bf16) (r : Fin 256) (j : Fin n) :
    offScores q k (ix2 r j) = ∑ d : Fin 256, q (ix2 r d) * k (ix2 j d) := by
  refine (Ideal.matmul_transposedRhs_apply none q k _ r j).trans ?_
  pointwise
  rfl

theorem diagScores_apply (hi0 : (Sh2 256 256).Iotas .tc 32 [0]) (hi1 : (Sh2 256 256).Iotas .tc 32 [1])
    (q k : FVec Ideal (Sh2 256 256) .bf16) (r j : Fin 256) :
    diagScores hi0 hi1 q k (ix2 r j) = if j.val ≤ r.val then ∑ d : Fin 256, q (ix2 r d) * k (ix2 j d) else ⊥ := by
  pointwise [diagScores]
  rw [select_sge (by omega) (by omega), ofBits_neg_inf]

/-- A tile's row is the attention of that query over all keys, once the scores agree on the keys up to the tile's end
    and are `⊥` past it. -/
theorem tileOut_apply {n N : ℕ} (hr : (Sh2 256 256).Reduces [1] (Sh1 256)) (hro : (Sh2 256 n).Reduces [1] (Sh1 256))
    (hc : (Sh1 256).ShapeCasts (Sh2 256 1)) (hb : (Sh2 256 1).Broadcasts (Sh2 256 256)) (hbo : (Sh2 256 1).Broadcasts (Sh2 256 n))
    (hbv : (Sh2 256 1).Broadcasts (Sh2 256 128)) (ht : FTy.bf16.bits < FTy.f32.bits)
    (sd : FVec Ideal (Sh2 256 256) .f32) (so : FVec Ideal (Sh2 256 n) .f32)
    (vd : FVec Ideal (Sh2 256 128) .bf16) (vo : FVec Ideal (Sh2 n 128) .bf16) (r : Fin 256) (c : Fin 128)
    (h : n + 256 ≤ N) (z v : Fin N → EReal) (h0 : ∀ k : Fin N, n + 256 ≤ k.val → z k = ⊥)
    (hzd : ∀ j : Fin 256, z ⟨n + j.val, by omega⟩ = sd (ix2 r j)) (hvd : ∀ j : Fin 256, v ⟨n + j.val, by omega⟩ = vd (ix2 j c))
    (hzo : ∀ k : Fin n, z ⟨k.val, by omega⟩ = so (ix2 r k)) (hvo : ∀ k : Fin n, v ⟨k.val, by omega⟩ = vo (ix2 k c)) :
    tileOut hr hro hc hb hbo hbv ht sd so vd vo (ix2 r c) = attn Ideal.exp2 z v := by
  rw [attn_cut h z v h0 _ _ _ _ hzd hvd hzo hvo]
  pointwise [tileOut]
  simp only [weighted_apply]
  pointwise
  rw [ofBits_neg_inf]
  rfl

theorem tile0Out_apply {N : ℕ} (hr : (Sh2 256 256).Reduces [1] (Sh1 256)) (hc : (Sh1 256).ShapeCasts (Sh2 256 1))
    (hb : (Sh2 256 1).Broadcasts (Sh2 256 256)) (hbv : (Sh2 256 1).Broadcasts (Sh2 256 128)) (ht : FTy.bf16.bits < FTy.f32.bits)
    (sd : FVec Ideal (Sh2 256 256) .f32) (vd : FVec Ideal (Sh2 256 128) .bf16) (r : Fin 256) (c : Fin 128)
    (h : 0 + 256 ≤ N) (z v : Fin N → EReal) (h0 : ∀ k : Fin N, 0 + 256 ≤ k.val → z k = ⊥)
    (hzd : ∀ j : Fin 256, z ⟨0 + j.val, by omega⟩ = sd (ix2 r j)) (hvd : ∀ j : Fin 256, v ⟨0 + j.val, by omega⟩ = vd (ix2 j c)) :
    tile0Out hr hc hb hbv ht sd vd (ix2 r c) = attn Ideal.exp2 z v := by
  rw [attn_cut h z v h0 _ _ (fun k : Fin 0 => k.elim0) (fun k : Fin 0 => k.elim0) hzd hvd (fun k => k.elim0) (fun k => k.elim0)]
  pointwise [tile0Out]
  simp only [weighted_apply]
  pointwise
  rw [ofBits_neg_inf]
  simp only [Finset.univ_eq_empty, Finset.sum_empty, Finset.sup_empty, add_zero, max_bot_right]
  rfl

end Cert.Attn
-- ==== Proof.Block.lean ====
module

public import proofs.«01_k».proof.Proof.Tile
public import proofs.«01_k».proof.Proof.Gen.KernelIdeal.Value

@[expose] public section

set_option maxRecDepth 16384

/-! What the kernel leaves in the output block of one grid point: causal attention of the block's queries, for its two
heads, each head's queries and keys being 256 columns of the block and its values 128. -/

noncomputable section

namespace Cert.Attn

open Idealize.ShloMosaic Idealize.ShloMosaic.Pipeline
open Cert.KernelIdeal Cert.KernelIdeal.Gen
open scoped BigOperators

/-- The score of query `r` against key `k` in head `h` of a block. -/
def blockScore (x0 x1 : Vec Ideal (Sh2 2048 512) .bf16) (h : Fin 2) (r k : Fin 2048) : EReal :=
  if k.val ≤ r.val then ∑ d : Fin 256, x0 (ix2 r ⟨256 * h.val + d.val, by omega⟩) * x1 (ix2 k ⟨256 * h.val + d.val, by omega⟩) else ⊥

/-- Attention of query `r` of the block, at column `c` of the values. -/
def headOut (x0 x1 : Vec Ideal (Sh2 2048 512) .bf16) (x2 : Vec Ideal (Sh2 2048 256) .bf16) (r : Fin 2048) (c : Fin 256) : EReal :=
  attn Ideal.exp2 (blockScore x0 x1 ⟨c.val / 128, by omega⟩ r) fun k => x2 (ix2 k c)

/-- A load of part of a matrix. -/
theorem ld_apply {A B a b o p : ℕ} (X : Vec Ideal (Sh2 A B) .bf16) (inb : _) (r : Fin a) (c : Fin b)
    (hr : o + r.val < A) (hc : p + c.val < B) :
    View.ld X (Rect.unit (s := Sh2 A B) ![o, p] (Sh2 a b).size inb) (ix2 r c) = X (ix2 ⟨o + r.val, hr⟩ ⟨p + c.val, hc⟩) := by
  refine congrArg X (funext fun t => Fin.ext ?_)
  match t with
  | ⟨0, _⟩ => exact congrArg (o + ·) (Nat.one_mul r.val)
  | ⟨1, _⟩ => exact congrArg (p + ·) (Nat.one_mul c.val)

variable (x0 x1 : Vec Ideal (Sh2 2048 512) .bf16) (x2 : Vec Ideal (Sh2 2048 256) .bf16)

/-- The diagonal scores the kernel computes from its loads. -/
theorem diag_loads (h : Fin 2) {n : ℕ} (hn : n + 256 ≤ 2048) (iq : _) (hi0 : (Sh2 256 256).Iotas .tc 32 [0])
    (hi1 : (Sh2 256 256).Iotas .tc 32 [1]) (r j : Fin 256) :
    diagScores hi0 hi1 (View.ld x0 (Rect.unit (s := Sh2 2048 512) ![n, 256 * h.val] (Sh2 256 256).size iq))
        (View.ld x1 (Rect.unit (s := Sh2 2048 512) ![n, 256 * h.val] (Sh2 256 256).size iq)) (ix2 r j)
      = blockScore x0 x1 h ⟨n + r.val, by omega⟩ ⟨n + j.val, by omega⟩ := by
  rw [diagScores_apply]
  unfold blockScore
  refine if_congr (by simp) (Finset.sum_congr rfl fun d _ => ?_) rfl
  rw [ld_apply x0 iq r d (by omega) (by omega), ld_apply x1 iq j d (by omega) (by omega)]

/-- The scores against the earlier keys that the kernel computes from its loads. -/
theorem off_loads (h : Fin 2) {n : ℕ} (hn : n + 256 ≤ 2048) (iq : _) (ik : _) (r : Fin 256) (k : Fin n) :
    offScores (View.ld x0 (Rect.unit (s := Sh2 2048 512) ![n, 256 * h.val] (Sh2 256 256).size iq))
        (View.ld x1 (Rect.unit (s := Sh2 2048 512) ![0, 256 * h.val] (Sh2 n 256).size ik)) (ix2 r k)
      = blockScore x0 x1 h ⟨n + r.val, by omega⟩ ⟨k.val, by omega⟩ := by
  rw [offScores_apply]
  unfold blockScore
  rw [if_pos (by simp; omega)]
  refine Finset.sum_congr rfl fun d _ => ?_
  rw [ld_apply x0 iq r d (by omega) (by omega), ld_apply x1 ik k d (by omega) (by omega)]
  simp only [Nat.zero_add]

/-- Keys past the tile score `⊥`. -/
theorem blockScore_past (h : Fin 2) {n : ℕ} (r : Fin 256) (hr : n + r.val < 2048) (k : Fin 2048) (hk : n + 256 ≤ k.val) :
    blockScore x0 x1 h ⟨n + r.val, hr⟩ k = ⊥ := if_neg (by simp; omega)

/-- The tile of queries `n … n + 255` of head `h`, as the kernel computes it from loads of its blocks, is that part of
    the output block. -/
theorem tile_loads {n : ℕ} (h : Fin 2) (hn : n + 256 ≤ 2048) (iq : _) (ik : _) (iv : _) (iw : _)
    (hi0 : (Sh2 256 256).Iotas .tc 32 [0]) (hi1 : (Sh2 256 256).Iotas .tc 32 [1])
    (hr : (Sh2 256 256).Reduces [1] (Sh1 256)) (hro : (Sh2 256 n).Reduces [1] (Sh1 256))
    (hc : (Sh1 256).ShapeCasts (Sh2 256 1)) (hb : (Sh2 256 1).Broadcasts (Sh2 256 256)) (hbo : (Sh2 256 1).Broadcasts (Sh2 256 n))
    (hbv : (Sh2 256 1).Broadcasts (Sh2 256 128)) (ht : FTy.bf16.bits < FTy.f32.bits) (r : Fin 256) (c : Fin 128) :
    tileOut hr hro hc hb hbo hbv ht
      (diagScores hi0 hi1 (View.ld x0 (Rect.unit (s := Sh2 2048 512) ![n, 256 * h.val] (Sh2 256 256).size iq))
        (View.ld x1 (Rect.unit (s := Sh2 2048 512) ![n, 256 * h.val] (Sh2 256 256).size iq)))
      (offScores (View.ld x0 (Rect.unit (s := Sh2 2048 512) ![n, 256 * h.val] (Sh2 256 256).size iq))
        (View.ld x1 (Rect.unit (s := Sh2 2048 512) ![0, 256 * h.val] (Sh2 n 256).size ik)))
      (View.ld x2 (Rect.unit (s := Sh2 2048 256) ![n, 128 * h.val] (Sh2 256 128).size iv))
      (View.ld x2 (Rect.unit (s := Sh2 2048 256) ![0, 128 * h.val] (Sh2 n 128).size iw)) (ix2 r c)
      = headOut x0 x1 x2 ⟨n + r.val, by omega⟩ ⟨128 * h.val + c.val, by omega⟩ := by
  have hh : (⟨(128 * h.val + c.val) / 128, by omega⟩ : Fin 2) = h := Fin.ext (by simp; omega)
  unfold headOut
  rw [hh]
  refine tileOut_apply hr hro hc hb hbo hbv ht _ _ _ _ r c hn _ _ (blockScore_past x0 x1 h r _) (fun j => ?_) (fun j => ?_) (fun k => ?_) (fun k => ?_)
  · exact (diag_loads x0 x1 h hn iq hi0 hi1 r j).symm
  · exact (ld_apply x2 iv j c (by omega) (by omega)).symm
  · exact (off_loads x0 x1 h hn iq ik r k).symm
  · refine Eq.trans ?_ (ld_apply x2 iw k c (by omega) (by omega)).symm
    simp only [Nat.zero_add]

/-- The first tile, which has no earlier keys. -/
theorem tile0_loads (h : Fin 2) (iq : _) (iv : _)
    (hi0 : (Sh2 256 256).Iotas .tc 32 [0]) (hi1 : (Sh2 256 256).Iotas .tc 32 [1])
    (hr : (Sh2 256 256).Reduces [1] (Sh1 256))
    (hc : (Sh1 256).ShapeCasts (Sh2 256 1)) (hb : (Sh2 256 1).Broadcasts (Sh2 256 256))
    (hbv : (Sh2 256 1).Broadcasts (Sh2 256 128)) (ht : FTy.bf16.bits < FTy.f32.bits) (r : Fin 256) (c : Fin 128) :
    tile0Out hr hc hb hbv ht
      (diagScores hi0 hi1 (View.ld x0 (Rect.unit (s := Sh2 2048 512) ![0, 256 * h.val] (Sh2 256 256).size iq))
        (View.ld x1 (Rect.unit (s := Sh2 2048 512) ![0, 256 * h.val] (Sh2 256 256).size iq)))
      (View.ld x2 (Rect.unit (s := Sh2 2048 256) ![0, 128 * h.val] (Sh2 256 128).size iv)) (ix2 r c)
      = headOut x0 x1 x2 ⟨0 + r.val, by omega⟩ ⟨128 * h.val + c.val, by omega⟩ := by
  have hh : (⟨(128 * h.val + c.val) / 128, by omega⟩ : Fin 2) = h := Fin.ext (by simp; omega)
  unfold headOut
  rw [hh]
  refine tile0Out_apply hr hc hb hbv ht _ _ r c (by omega) _ _ (blockScore_past x0 x1 h r _) (fun j => ?_) (fun j => ?_)
  · exact (diag_loads x0 x1 h (by omega) iq hi0 hi1 r j).symm
  · exact (ld_apply x2 iv j c (by omega) (by omega)).symm

/-- A payload that is the attention at every row and column of its tile is the part of the block its rectangle names. -/
theorem piece_of {n : ℕ} (h : Fin 2) (hn : n + 256 ≤ 2048) (p : Vec Ideal (Sh2 256 128) .bf16) (iv : _)
    (hp : ∀ r c, p (ix2 r c) = headOut x0 x1 x2 ⟨n + r.val, by omega⟩ ⟨128 * h.val + c.val, by omega⟩) (x : (Sh2 256 128).Idx) :
    p x = (fun i : (Sh2 2048 256).Idx => headOut x0 x1 x2 (i 0) (i 1)) ((Rect.unit (s := Sh2 2048 256) ![n, 128 * h.val] (Sh2 256 128).size iv).emb x) := by
  obtain ⟨r, c, rfl⟩ : ∃ (r : Fin 256) (c : Fin 128), x = ix2 r c :=
    ⟨x 0, x 1, by funext t; match t with | ⟨0, _⟩ => rfl | ⟨1, _⟩ => rfl⟩
  rw [hp]
  refine congrArg₂ (headOut x0 x1 x2) (Fin.ext ?_) (Fin.ext ?_)
  · exact congrArg (n + ·) (Nat.one_mul r.val).symm
  · exact congrArg (128 * h.val + ·) (Nat.one_mul c.val).symm

/-- The block after the body: its sixteen stores, tile by tile and head by head, are the attention of its queries. -/
theorem out_eq (i : (Sh2 2048 256).Idx) : out0_3 (F := Ideal) x0 x1 x2 i = headOut x0 x1 x2 (i 0) (i 1) := by
  unfold out0_3
  refine View.canon_apply_of_pieces (Val := Elt Ideal) (fun i : (Sh2 2048 256).Idx => headOut x0 x1 x2 (i 0) (i 1)) _ ?_ i (cover0_3 _ _ _ _ _ _ _ _ _ _ _ _ _ _ _ _ i)
  simp only [List.forall_mem_cons, List.not_mem_nil, false_imp_iff, implies_true, and_true]
  unfold k0_pay1 k0_pay106 k0_pay107 k0_pay92 k0_pay93 k0_pay91 k0_pay70 k0_pay94 k0_pay71 k0_pay90 k0_pay85 k0_pay104
    k0_pay105 k0_pay87 k0_pay88 k0_pay89 k0_pay79 k0_pay74 k0_pay102 k0_pay103 k0_pay76 k0_pay77 k0_pay78 k0_pay68
    k0_pay64 k0_pay100 k0_pay101 k0_pay66 k0_pay67 k0_pay58 k0_pay56 k0_pay98 k0_pay99 k0_pay57 k0_pay49 k0_pay47
    k0_pay96 k0_pay97 k0_pay48 k0_pay40 k0_pay39 k0_pay29 k0_pay30 k0_pay35 k0_pay25 k0_pay95 k0_pay26 k0_pay31 k0_pay21
    k0_pay22 k0_pay27 k0_pay17 k0_pay18 k0_pay23 k0_pay13 k0_pay14 k0_pay19 k0_pay9 k0_pay10 k0_pay15 k0_pay4 k0_pay5
    k0_pay11 k0_pay6 k0_pay81 k0_pay82 k0_pay69 k0_pay2 k0_pay84 k0_pay60 k0_pay61 k0_pay86 k0_pay73 k0_pay51 k0_pay52
    k0_pay75 k0_pay63 k0_pay42 k0_pay43 k0_pay65 k0_pay54 k0_pay55 k0_pay37 k0_pay38 k0_pay45 k0_pay46 k0_pay33 k0_pay34
    k0_pay28 k0_pay24 k0_pay7 k0_pay20 k0_pay16 k0_pay12 k0_pay8 k0_pay3 k0_pay80 k0_pay83 k0_pay59 k0_pay72 k0_pay50
    k0_pay62 k0_pay41 k0_pay53 k0_pay36 k0_pay44 k0_pay32
  simp only [shapeCast_self]
  refine ⟨?_, ?_, ?_, ?_, ?_, ?_, ?_, ?_, ?_, ?_, ?_, ?_, ?_, ?_, ?_, ?_⟩
  · exact piece_of x0 x1 x2 1 (n := 1792) (by decide) _ _ (tile_loads x0 x1 x2 1 (n := 1792) (by decide) _ _ _ _ _ _ _ _ _ _ _ _ _)
  · exact piece_of x0 x1 x2 0 (n := 1792) (by decide) _ _ (tile_loads x0 x1 x2 0 (n := 1792) (by decide) _ _ _ _ _ _ _ _ _ _ _ _ _)
  · exact piece_of x0 x1 x2 1 (n := 1536) (by decide) _ _ (tile_loads x0 x1 x2 1 (n := 1536) (by decide) _ _ _ _ _ _ _ _ _ _ _ _ _)
  · exact piece_of x0 x1 x2 0 (n := 1536) (by decide) _ _ (tile_loads x0 x1 x2 0 (n := 1536) (by decide) _ _ _ _ _ _ _ _ _ _ _ _ _)
  · exact piece_of x0 x1 x2 1 (n := 1280) (by decide) _ _ (tile_loads x0 x1 x2 1 (n := 1280) (by decide) _ _ _ _ _ _ _ _ _ _ _ _ _)
  · exact piece_of x0 x1 x2 0 (n := 1280) (by decide) _ _ (tile_loads x0 x1 x2 0 (n := 1280) (by decide) _ _ _ _ _ _ _ _ _ _ _ _ _)
  · exact piece_of x0 x1 x2 1 (n := 1024) (by decide) _ _ (tile_loads x0 x1 x2 1 (n := 1024) (by decide) _ _ _ _ _ _ _ _ _ _ _ _ _)
  · exact piece_of x0 x1 x2 0 (n := 1024) (by decide) _ _ (tile_loads x0 x1 x2 0 (n := 1024) (by decide) _ _ _ _ _ _ _ _ _ _ _ _ _)
  · exact piece_of x0 x1 x2 1 (n := 768) (by decide) _ _ (tile_loads x0 x1 x2 1 (n := 768) (by decide) _ _ _ _ _ _ _ _ _ _ _ _ _)
  · exact piece_of x0 x1 x2 0 (n := 768) (by decide) _ _ (tile_loads x0 x1 x2 0 (n := 768) (by decide) _ _ _ _ _ _ _ _ _ _ _ _ _)
  · exact piece_of x0 x1 x2 1 (n := 512) (by decide) _ _ (tile_loads x0 x1 x2 1 (n := 512) (by decide) _ _ _ _ _ _ _ _ _ _ _ _ _)
  · exact piece_of x0 x1 x2 0 (n := 512) (by decide) _ _ (tile_loads x0 x1 x2 0 (n := 512) (by decide) _ _ _ _ _ _ _ _ _ _ _ _ _)
  · exact piece_of x0 x1 x2 1 (n := 256) (by decide) _ _ (tile_loads x0 x1 x2 1 (n := 256) (by decide) _ _ _ _ _ _ _ _ _ _ _ _ _)
  · exact piece_of x0 x1 x2 0 (n := 256) (by decide) _ _ (tile_loads x0 x1 x2 0 (n := 256) (by decide) _ _ _ _ _ _ _ _ _ _ _ _ _)
  · exact piece_of x0 x1 x2 1 (n := 0) (by decide) _ _ (tile0_loads x0 x1 x2 1 _ _ _ _ _ _ _ _ _)
  · exact piece_of x0 x1 x2 0 (n := 0) (by decide) _ _ (tile0_loads x0 x1 x2 0 _ _ _ _ _ _ _ _ _)

end Cert.Attn
-- ==== Proof.Array.lean ====
module

public import proofs.«01_k».proof.Proof.Block

@[expose] public section

set_option maxRecDepth 16384

/-! The kernel's result array: the blocks of the grid's 32 points put together. -/

noncomputable section

namespace Cert.Attn

open Idealize.ShloMosaic Idealize.ShloMosaic.TcCoe Idealize.SL.Sem Idealize.ShloMosaic.Pipeline
open Cert.KernelIdeal Cert.KernelIdeal.Gen
open scoped BigOperators

/-- Attention at row `R` (a batch's query) and column `C` (a head's value column), from the three matrices. -/
def arrayOut (Q K : Vec Ideal (Sh2 16384 2048) .bf16) (W : Vec Ideal (Sh2 16384 1024) .bf16) (R : Fin 16384) (C : Fin 1024) : EReal :=
  attn (N := 2048) Ideal.exp2
    (fun k => if k.val ≤ R.val % 2048 then ∑ d : Fin 256, Q (ix2 R ⟨256 * (C.val / 128) + d.val, by omega⟩)
        * K (ix2 ⟨R.val / 2048 * 2048 + k.val, by omega⟩ ⟨256 * (C.val / 128) + d.val, by omega⟩) else ⊥)
    fun k => W (ix2 ⟨R.val / 2048 * 2048 + k.val, by omega⟩ C)

/-- The windows' block indices, from the grid point's number. -/
theorem index_facts : ∀ t : Fin cfg0.N,
    win0_0.index t 0 = t.val / 4 ∧ win0_0.index t 1 = t.val % 4 ∧ win0_1.index t 0 = t.val / 4 ∧ win0_1.index t 1 = t.val % 4
      ∧ win0_2.index t 0 = t.val / 4 ∧ win0_2.index t 1 = t.val % 4 ∧ win0_3.index t 0 = t.val / 4 ∧ win0_3.index t 1 = t.val % 4 :=
  (by decide +kernel : ∀ t : Fin grid0.N,
    win0_0.index t 0 = t.val / 4 ∧ win0_0.index t 1 = t.val % 4 ∧ win0_1.index t 0 = t.val / 4 ∧ win0_1.index t 1 = t.val % 4
      ∧ win0_2.index t 0 = t.val / 4 ∧ win0_2.index t 1 = t.val % 4 ∧ win0_3.index t 0 = t.val / 4 ∧ win0_3.index t 1 = t.val % 4)

theorem point_lt (t : Fin cfg0.N) : t.val < 32 := t.isLt

variable (m : (ℓ : Loc nD τ sig) → Buf (Elt Ideal) ℓ) (c : Dev nD)

/-- The queries' block at a point. -/
theorem iblk_q (t : Fin cfg0.N) (r : Fin 2048) (e : Fin 512) :
    iblk m c 0 t (ix2 r e) = V m c main_v9 (ix2 (n0 := 16384) (n1 := 2048)
      ⟨t.val / 4 * 2048 + r.val, by have := point_lt t; omega⟩ ⟨t.val % 4 * 512 + e.val, by omega⟩) := by
  obtain ⟨h0, h1, _⟩ := index_facts t
  refine congrArg (V m c main_v9) (funext fun a => Fin.ext ?_)
  match a with
  | ⟨0, _⟩ =>
    show win0_0.index t 0 * 2048 + 1 * r.val = _
    rw [h0, Nat.one_mul]; rfl
  | ⟨1, _⟩ =>
    show win0_0.index t 1 * 512 + 1 * e.val = _
    rw [h1, Nat.one_mul]; rfl

/-- The keys' block at a point. -/
theorem iblk_k (t : Fin cfg0.N) (r : Fin 2048) (e : Fin 512) :
    iblk m c 1 t (ix2 r e) = V m c main_v13 (ix2 (n0 := 16384) (n1 := 2048)
      ⟨t.val / 4 * 2048 + r.val, by have := point_lt t; omega⟩ ⟨t.val % 4 * 512 + e.val, by omega⟩) := by
  obtain ⟨_, _, h0, h1, _⟩ := index_facts t
  refine congrArg (V m c main_v13) (funext fun a => Fin.ext ?_)
  match a with
  | ⟨0, _⟩ =>
    show win0_1.index t 0 * 2048 + 1 * r.val = _
    rw [h0, Nat.one_mul]; rfl
  | ⟨1, _⟩ =>
    show win0_1.index t 1 * 512 + 1 * e.val = _
    rw [h1, Nat.one_mul]; rfl

/-- The values' block at a point. -/
theorem iblk_v (t : Fin cfg0.N) (r : Fin 2048) (e : Fin 256) :
    iblk m c 2 t (ix2 r e) = V m c main_v15 (ix2 (n0 := 16384) (n1 := 1024)
      ⟨t.val / 4 * 2048 + r.val, by have := point_lt t; omega⟩ ⟨t.val % 4 * 256 + e.val, by omega⟩) := by
  obtain ⟨_, _, _, _, h0, h1, _⟩ := index_facts t
  refine congrArg (V m c main_v15) (funext fun a => Fin.ext ?_)
  match a with
  | ⟨0, _⟩ =>
    show win0_2.index t 0 * 2048 + 1 * r.val = _
    rw [h0, Nat.one_mul]; rfl
  | ⟨1, _⟩ =>
    show win0_2.index t 1 * 256 + 1 * e.val = _
    rw [h1, Nat.one_mul]; rfl

/-- The result array, index by index. -/
def resultArray (i : (Sh2 16384 1024).Idx) : EReal :=
  arrayOut (V m c main_v9) (V m c main_v13) (V m c main_v15) (i 0) (i 1)

/-- A block's attention is that of the array's rows and columns it holds. -/
theorem headOut_block (t : Fin cfg0.N) (r : Fin 2048) (e : Fin 256) :
    headOut (iblk m c 0 t) (iblk m c 1 t) (iblk m c 2 t) r e
      = arrayOut (V m c main_v9) (V m c main_v13) (V m c main_v15)
        ⟨t.val / 4 * 2048 + r.val, by have := point_lt t; omega⟩ ⟨t.val % 4 * 256 + e.val, by omega⟩ := by
  have hr : (t.val / 4 * 2048 + r.val) % 2048 = r.val := by omega
  have hb : (t.val / 4 * 2048 + r.val) / 2048 = t.val / 4 := by omega
  have hc : (t.val % 4 * 256 + e.val) / 128 = t.val % 4 * 2 + e.val / 128 := by omega
  unfold headOut arrayOut
  refine congrArg₂ (attn Ideal.exp2) (funext fun k => ?_) (funext fun k => ?_)
  · unfold blockScore
    refine if_congr (by simp only [hr]) (Finset.sum_congr rfl fun d _ => ?_) rfl
    rw [iblk_q, iblk_k]
    refine congrArg₂ (fun a b : EReal => a * b) (congrArg (V m c main_v9) ?_) (congrArg (V m c main_v13) ?_)
    · exact congrArg₂ ix2 rfl (Fin.ext (by simp only [hc]; omega))
    · exact congrArg₂ ix2 (Fin.ext (by simp only [hb])) (Fin.ext (by simp only [hc]; omega))
  · rw [iblk_v]
    refine congrArg (V m c main_v15) ?_
    exact congrArg₂ ix2 (Fin.ext (by simp only [hb])) rfl

/-- What a point writes back is its block of the result array. -/
theorem flushed_eq (t : Fin cfg0.N) : (dats m 0 c).flushed 3 t = ((cfg0.win 3).blk t).view.read (Elt Ideal) (resultArray m c) := by
  rw [Value.flushed3 m c t]
  funext j
  obtain ⟨r, e, rfl⟩ : ∃ (r : Fin 2048) (e : Fin 256), j = ix2 r e :=
    ⟨j 0, j 1, by funext a; match a with | ⟨0, _⟩ => rfl | ⟨1, _⟩ => rfl⟩
  obtain ⟨_, _, _, _, _, _, h0, h1⟩ := index_facts t
  refine (out_eq _ _ _ (ix2 r e)).trans ((headOut_block m c t r e).trans ?_)
  refine congrArg₂ (arrayOut (V m c main_v9) (V m c main_v13) (V m c main_v15)) (Fin.ext ?_) (Fin.ext ?_)
  · show _ = win0_3.index t 0 * 2048 + 1 * r.val
    rw [h0, Nat.one_mul]
  · show _ = win0_3.index t 1 * 256 + 1 * e.val
    rw [h1, Nat.one_mul]

/-- The blocks tile the array. -/
theorem cover (i : S16384x1024.Idx) : ∃ t : Fin cfg0.N, (cfg0.win 3).flush t = true ∧ i ∈ ((cfg0.win 3).blk t).view.set := by
  have i0 : (i 0).val < 16384 := (i 0).isLt
  have i1 : (i 1).val < 1024 := (i 1).isLt
  have hN : cfg0.N = 32 := N_0
  obtain ⟨t, ht⟩ : ∃ t : Fin cfg0.N, t.val = (i 0).val / 2048 * 4 + (i 1).val / 256 := ⟨⟨_, by omega⟩, rfl⟩
  refine ⟨t, flush0_3 t, ?_⟩
  obtain ⟨_, _, _, _, _, _, h0, h1⟩ := index_facts t
  show i ∈ ((View.whole main_v16).slice (win0_3.rect t)).set
  rw [View.set_slice_whole, Rect.mem_set_unit]
  intro a
  match a with
  | ⟨0, _⟩ =>
    show win0_3.index t 0 * 2048 ≤ (i 0).val ∧ (i 0).val < win0_3.index t 0 * 2048 + 2048
    rw [h0]; omega
  | ⟨1, _⟩ =>
    show win0_3.index t 1 * 256 ≤ (i 1).val ∧ (i 1).val < win0_3.index t 1 * 256 + 256
    rw [h1]; omega

/-- The result array after the run. -/
theorem final : (dats m 0 c).arrAt 3 cfg0.N = resultArray m c :=
  (dats m 0 c).arrAt_eq_of_cover 3 (resultArray m c) (fun t _ => flushed_eq m c t) cover

end Cert.Attn
-- ==== Proof.HostArgs.lean ====
module

public import proofs.«01_k».proof.Proof.Block

@[expose] public section

set_option maxRecDepth 16384

/-! The three matrices that the kernel's host code makes of the queries, the keys and the values. -/

noncomputable section

namespace Cert.Attn

open Idealize.ShloMosaic Idealize.ShloMosaic.TcCoe Idealize.SL.Sem Idealize.ShloMosaic.StableHlo
open Cert.KernelIdeal Cert.KernelIdeal.Gen

/-- The factor on the queries: one over the root of 192 times the logarithm of two. -/
def hostScale : FVec Ideal S_ .f32 :=
  Host.divf (constant S_ .f32 0x3F800000#32) (mulf (Host.sqrt (constant S_ .f32 0x43400000#32)) (Host.log (constant S_ .f32 0x40000000#32)))

/-- One head's 192 numbers padded to 256 columns of a matrix. -/
def slab (x : FVec Ideal S8x2048x8x192 .f32) : FVec Ideal S16384x2048 .f32 :=
  shapeCast S16384x2048 (pad S16384x8x256 ![0, 0, 0] ![0, 0, 64] ![0, 0, 0] (shapeCast S16384x8x192 x shapeCasts_S8x2048x8x192_S16384x8x192)
    (sitofp .f32 (constantI S_ 32 0#32)) pads_S16384x8x192_S16384x8x256_000_000_0640 h_S_) shapeCasts_S16384x8x256_S16384x2048

variable (m : (ℓ : Loc nD τ sig) → Buf (Elt Ideal) ℓ) (c : Dev nD)

theorem V_q : V m c main_v9 = truncf .bf16 (mulf (slab (m ((c : Thread nD τ).loc main_arg0)))
    (broadcastInDim S16384x2048 ![] bcast_S_S16384x2048 hostScale)) bitsLt_bf16_f32 := by
  simp only [V, hostOps0, hostOps0_1, hostOps0_2, hostOps0_3, hostOps0_4, List.flatten_cons, List.flatten_nil, List.append_nil, List.cons_append, List.nil_append,
    TRef.binary, TRef.unary, TRef.toBuf, TRef.ofBuf, cast_eq]
  after_results_simp
  rfl

theorem V_k : V m c main_v13 = truncf .bf16 (slab (m ((c : Thread nD τ).loc main_arg1))) bitsLt_bf16_f32 := by
  simp only [V, hostOps0, hostOps0_1, hostOps0_2, hostOps0_3, hostOps0_4, List.flatten_cons, List.flatten_nil, List.append_nil, List.cons_append, List.nil_append,
    TRef.binary, TRef.unary, TRef.toBuf, TRef.ofBuf, cast_eq]
  after_results_simp
  rfl

theorem V_v : V m c main_v15 = truncf (F := Ideal) .bf16 (shapeCast S16384x1024 (m ((c : Thread nD τ).loc main_arg2) : FVec Ideal S8x2048x8x128 .f32) shapeCasts_S8x2048x8x128_S16384x1024) bitsLt_bf16_f32 := by
  simp only [V, hostOps0, hostOps0_1, hostOps0_2, hostOps0_3, hostOps0_4, List.flatten_cons, List.flatten_nil, List.append_nil, List.cons_append, List.nil_append,
    TRef.binary, TRef.unary, TRef.toBuf, TRef.ofBuf, cast_eq]
  after_results_simp
  rfl

/-- The scale as a real number. -/
def hostC : ℝ := 1 / (Real.sqrt 192 * Real.log 2)

theorem hostScale_apply (i : S_.Idx) : hostScale i = (hostC : EReal) := by
  have h1 : Ideal.ofBits .f32 0x43400000#32 = ((192 : ℝ) : EReal) := by simp [Ideal.ofBits, Ideal.ieee, -EReal.coe_mul]; norm_num
  have h2 : Ideal.ofBits .f32 0x40000000#32 = ((2 : ℝ) : EReal) := by simp [Ideal.ofBits, Ideal.ieee, -EReal.coe_mul]; norm_num
  have h3 : Real.sqrt 192 * Real.log 2 ≠ 0 := mul_ne_zero (by positivity) (Real.log_pos one_lt_two).ne'
  pointwise [hostScale]
  rw [h1, h2, Ideal.sqrt_coe, Ideal.log_coe, if_neg (by norm_num), if_neg (by norm_num), ← EReal.coe_mul, Ideal.div_coe h3, one_mul]
  rfl

/-- A padded matrix at row `R`, head `h`, column `d`. -/
theorem slab_apply (x : FVec Ideal S8x2048x8x192 .f32) (R : Fin 16384) (h : Fin 8) (d : Fin 256) :
    slab x (ix2 R ⟨256 * h.val + d.val, by omega⟩)
      = if hd : d.val < 192 then x (ix4 ⟨R.val / 2048, by omega⟩ ⟨R.val % 2048, by omega⟩ h ⟨d.val, hd⟩) else 0 := by
  have hz : (FloatOps.sitofp .f32 (0#32 : BitVec 32) : Ideal .f32) = 0 := by
    show (((0#32 : BitVec 32).toInt : ℝ) : EReal) = 0
    simp
  have e1 : (256 * h.val + d.val) / 256 = h.val := by omega
  have e2 : (256 * h.val + d.val) % 256 = d.val := by omega
  pointwise [slab]
  simp only [e1, e2, hz, h.isLt, true_and]

/-- The values' matrix at row `R` and column `C`. -/
theorem values_apply (x : FVec Ideal S8x2048x8x128 .f32) (R : Fin 16384) (C : Fin 1024) :
    shapeCast S16384x1024 x shapeCasts_S8x2048x8x128_S16384x1024 (ix2 R C)
      = x (ix4 ⟨R.val / 2048, by omega⟩ ⟨R.val % 2048, by omega⟩ ⟨C.val / 128, by omega⟩ ⟨C.val % 128, by omega⟩) := by
  pointwise

end Cert.Attn
-- ==== Proof.RefValue.lean ====
module

public import proofs.«01_k».proof.Proof.Tile
public import proofs.«01_k».proof.Proof.Gen.ReferenceIdeal.Run

@[expose] public section

set_option maxRecDepth 16384

/-! The reference's result, read at an index: its scores, the softmax of its scores, and the weighted values. -/

noncomputable section

namespace Cert.Attn

open Idealize.ShloMosaic Idealize.ShloMosaic.TcCoe Idealize.SL.Sem
open Cert.ReferenceIdeal Cert.ReferenceIdeal.Gen
open scoped BigOperators

/-- The causal mask, query by key. -/
def refMask : IVec S2048x2048 1 :=
  cmpi .sge (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))

/-- The reference's scale. -/
def refScale : FVec Ideal S_ .f32 := Host.divf (constant S_ .f32 0x3F800000#32) (Host.sqrt (constant S_ .f32 0x43400000#32))

/-- The reference's masked scores. -/
def refScores (q k : FVec Ideal S8x2048x8x192 .f32) : FVec Ideal S8x8x2048x2048 .f32 :=
  select (broadcastInDim S8x8x2048x2048 ![2, 3] bcast_S2048x2048_S8x8x2048x2048_2_3 refMask)
    (mulf (Host.dotGeneral dot_S8x2048x8x192_S8x2048x8x192_S8x8x2048x2048_3_3_1_1_02_02 none q k) (broadcastInDim S8x8x2048x2048 ![] bcast_S_S8x8x2048x2048 refScale))
    (broadcastInDim S8x8x2048x2048 ![] bcast_S_S8x8x2048x2048 (id (constant S_ .f32 0xFF800000#32)))

/-- A row's largest score. -/
def refRowMax (z : FVec Ideal S8x8x2048x2048 .f32) : FVec Ideal S8x8x2048 .f32 :=
  Host.reduce FloatOps.maximumf z (constant S_ .f32 0xFF800000#32) reducesTo_S8x8x2048x2048_S8x8x2048_d3 h_S_

/-- One number per row, spread along the row. -/
def spread (y : FVec Ideal S8x8x2048 .f32) : FVec Ideal S8x8x2048x2048 .f32 :=
  broadcastInDim S8x8x2048x2048 ![0, 1, 2, 3] bcast_S8x8x2048x1_S8x8x2048x2048_0_1_2_3 (broadcastInDim S8x8x2048x1 ![0, 1, 2] bcast_S8x8x2048_S8x8x2048x1_0_1_2
    (maximumf (broadcastInDim S8x8x2048 ![] bcast_S_S8x8x2048 (constant S_ .f32 0xFF800000#32)) y))

/-- A row's largest score, along the row. -/
def refMax (z : FVec Ideal S8x8x2048x2048 .f32) : FVec Ideal S8x8x2048x2048 .f32 := spread (refRowMax z)

/-- The exponentials. -/
def refExp (z : FVec Ideal S8x8x2048x2048 .f32) : FVec Ideal S8x8x2048x2048 .f32 := Host.exp (subf z (refMax z))

/-- Rows divided by their sums. -/
def refNorm (p : FVec Ideal S8x8x2048x2048 .f32) : FVec Ideal S8x8x2048x2048 .f32 :=
  Host.divf p (broadcastInDim S8x8x2048x2048 ![0, 1, 2, 3] bcast_S8x8x2048x1_S8x8x2048x2048_0_1_2_3 (broadcastInDim S8x8x2048x1 ![0, 1, 2] bcast_S8x8x2048_S8x8x2048x1_0_1_2
    (Host.reduceAdd p (constant S_ .f32 0x00000000#32) reducesTo_S8x8x2048x2048_S8x8x2048_d3 h_S_)))

/-- The weighted values, laid out as a matrix. -/
def refOut (v : FVec Ideal S8x2048x8x128 .f32) (p : FVec Ideal S8x8x2048x2048 .f32) : FVec Ideal S16384x1024 .bf16 :=
  truncf .bf16 (shapeCast S16384x1024 (transpose S8x2048x8x128 [0, 3, 1, 2]
    (Host.dotGeneral dot_S8x2048x8x128_S8x8x2048x2048_S8x8x128x2048_1_3_3_2_02_01 none v p) transposes_S8x8x128x2048_S8x2048x8x128_0_3_1_2)
    shapeCasts_S8x2048x8x128_S16384x1024) bitsLt_bf16_f32

theorem refMask_apply (s k : Fin 2048) : refMask (ix2 s k) = IntOp.cmpi .sge (BitVec.ofNat 32 s.val) (BitVec.ofNat 32 k.val) := by
  pointwise [refMask]

/-- The scale as a real number. -/
def refC : ℝ := 1 / Real.sqrt 192

theorem refScale_apply (i : S_.Idx) : refScale i = (refC : EReal) := by
  have h1 : Ideal.ofBits .f32 0x43400000#32 = ((192 : ℝ) : EReal) := by simp [Ideal.ofBits, Ideal.ieee, -EReal.coe_mul]; norm_num
  pointwise [refScale]
  rw [h1, Ideal.sqrt_coe, if_neg (by norm_num), Ideal.div_coe (by positivity), one_mul]
  rfl

theorem refScores_apply (q k : FVec Ideal S8x2048x8x192 .f32) (b h : Fin 8) (s t : Fin 2048) :
    refScores q k (ix4 b h s t) = if t.val ≤ s.val then (∑ d : Fin 192, q (ix4 b s h d) * k (ix4 b t h d)) * (refC : EReal) else ⊥ := by
  pointwise [refScores]
  simp only [refMask_apply, refScale_apply, id, constant_apply]
  rw [select_sge (by omega) (by omega)]
  pointwise
  rw [ofBits_neg_inf]

/-- A host maximum along the last of four axes, at any extents. -/
theorem hostMax_apply {n0 n1 n2 n3 : ℕ} {u : Shape} (z : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (hi : ∀ i, init i = ⊥)
    (a : Fin n0) (b : Fin n1) (s : Fin n2) :
    Host.reduce FloatOps.maximumf z init h hu (ix3 a b s) = Finset.univ.sup fun t : Fin n3 => z (ix4 a b s t) := by
  rw [Host.reduce_eq_fold, Shape.ReducesTo.fold_fiber_r4_a3, hi]
  rfl

theorem refRowMax_apply (z : FVec Ideal S8x8x2048x2048 .f32) (b h : Fin 8) (s : Fin 2048) :
    refRowMax z (ix3 b h s) = Finset.univ.sup fun t' : Fin 2048 => z (ix4 b h s t') :=
  hostMax_apply z _ reducesTo_S8x8x2048x2048_S8x8x2048_d3 h_S_ (fun _ => ofBits_neg_inf) b h s

theorem spread_apply (y : FVec Ideal S8x8x2048 .f32) (b h : Fin 8) (s t : Fin 2048) : spread y (ix4 b h s t) = y (ix3 b h s) := by
  pointwise [spread]
  rw [ofBits_neg_inf, max_bot_left]

theorem refMax_apply (z : FVec Ideal S8x8x2048x2048 .f32) (b h : Fin 8) (s t : Fin 2048) :
    refMax z (ix4 b h s t) = Finset.univ.sup fun t' : Fin 2048 => z (ix4 b h s t') :=
  (spread_apply (refRowMax z) b h s t).trans (refRowMax_apply z b h s)

theorem refExp_apply (z : FVec Ideal S8x8x2048x2048 .f32) (b h : Fin 8) (s t : Fin 2048) :
    refExp z (ix4 b h s t) = Ideal.exp (z (ix4 b h s t) - Finset.univ.sup fun t' : Fin 2048 => z (ix4 b h s t')) := by
  pointwise [refExp]
  rw [refMax_apply]

theorem refNorm_apply (p : FVec Ideal S8x8x2048x2048 .f32) (b h : Fin 8) (s t : Fin 2048) :
    refNorm p (ix4 b h s t) = Ideal.div (p (ix4 b h s t)) (∑ t' : Fin 2048, p (ix4 b h s t')) := by
  pointwise [refNorm]

theorem refOut_apply (v : FVec Ideal S8x2048x8x128 .f32) (p : FVec Ideal S8x8x2048x2048 .f32) (R : Fin 16384) (C : Fin 1024) :
    refOut v p (ix2 R C) = ∑ t : Fin 2048, v (ix4 ⟨R.val / 2048, by omega⟩ t ⟨C.val / 128, by omega⟩ ⟨C.val % 128, by omega⟩)
      * p (ix4 ⟨R.val / 2048, by omega⟩ ⟨C.val / 128, by omega⟩ ⟨R.val % 2048, by omega⟩ t) := by
  pointwise [refOut]

variable (m : (ℓ : Loc nD τ sig) → Buf (Elt Ideal) ℓ) (c : Dev nD)

theorem res_eq : Value.res_out0 m c = refOut (m ((c.tc : Thread nD τ).loc main_arg2))
    (refNorm (refExp (refScores (m ((c.tc : Thread nD τ).loc main_arg0)) (m ((c.tc : Thread nD τ).loc main_arg1))))) := by
  unfold Value.res_out0 Value.res_main_v26 refOut refNorm refExp refMax spread refRowMax refScores refScale refMask
  rfl

/-- The reference at row `R` (a batch's query) and column `C` (a head's value column). -/
theorem res_apply (R : Fin 16384) (C : Fin 1024) :
    Value.res_out0 m c (ix2 R C) = attnNormed Ideal.exp
      (fun t : Fin 2048 => refScores (m ((c.tc : Thread nD τ).loc main_arg0)) (m ((c.tc : Thread nD τ).loc main_arg1))
        (ix4 ⟨R.val / 2048, by omega⟩ ⟨C.val / 128, by omega⟩ ⟨R.val % 2048, by omega⟩ t))
      (fun t : Fin 2048 => (m ((c.tc : Thread nD τ).loc main_arg2) : FVec Ideal S8x2048x8x128 .f32)
        (ix4 ⟨R.val / 2048, by omega⟩ t ⟨C.val / 128, by omega⟩ ⟨C.val % 128, by omega⟩)) := by
  rw [res_eq, refOut_apply]
  simp only [refNorm_apply, refExp_apply]
  rfl

end Cert.Attn
-- ==== Proof.Equation.lean ====
module

public import proofs.«01_k».proof.Defs
public import proofs.«01_k».proof.Proof.Array
public import proofs.«01_k».proof.Proof.HostArgs
public import proofs.«01_k».proof.Proof.RefValue
public import proofs.«01_k».proof.Proof.Gen.Pre_finite_scores
public import Idealize.ShloMosaic.Lib.Claim

@[expose] public section

set_option maxRecDepth 16384

/-! The attention's equation: over finite queries and keys the kernel's array is the reference's. The kernel's scores are
the reference's scaled by `1 / log 2`, and it takes powers of two of them. -/

noncomputable section

namespace Cert.Attn

open Idealize.ShloMosaic Idealize.ShloMosaic.TcCoe Idealize.SL.Sem
open scoped BigOperators

/-- The arrays' shapes. -/
abbrev ShQ : Shape := Cert.ReferenceIdeal.S8x2048x8x192

/-- An entry whose absolute value is below infinity is a real number. -/
theorem real_of_abs_lt (x : EReal) (h : max x (-x) < ⊤) : ∃ r : ℝ, x = (r : EReal) := by
  induction x with
  | bot => simp at h
  | coe r => exact ⟨r, rfl⟩
  | top => simp at h

/-- The precondition on one array: it is an array of real numbers. -/
theorem reals_of_pre (x : FVec Ideal Cert.Pre_finite_scores.S8x2048x8x192 .f32)
    (h : cmpf .olt (Host.absf x) (broadcastInDim Cert.Pre_finite_scores.S8x2048x8x192 ![] Cert.Pre_finite_scores.Gen.bcast_S_S8x2048x8x192
      (constant Cert.Pre_finite_scores.S_ .f32 0x7F800000#32)) = fun _ => 1#1) :
    ∃ f : Cert.Pre_finite_scores.S8x2048x8x192.Idx → ℝ, x = fun i => (f i : EReal) := by
  have hr : ∀ i, ∃ r : ℝ, x i = (r : EReal) := fun i => by
    have h1 := congrFun h i
    have e : Ideal.ofBits .f32 0x7F800000#32 = ⊤ := by simp [Ideal.ofBits, Ideal.ieee]
    apply real_of_abs_lt
    by_contra hc
    have h2 : Ideal.cmp .olt (max (x i) (-(x i))) (Ideal.ofBits .f32 0x7F800000#32) = 1#1 := h1
    simp only [Ideal.cmp, e, decide_eq_false hc] at h2
    exact absurd h2 (by decide)
  choose f hf using hr
  exact ⟨f, funext hf⟩

/-- The kernel's scale is the reference's over `log 2`. -/
theorem hostC_eq : hostC = 1 / Real.log 2 * refC := by
  unfold hostC refC
  rw [one_div_mul_one_div, mul_comm]

/-- A sum over a slab of 256 whose tail past 192 is zero. -/
theorem sum_slab (f : Fin 256 → EReal) (h0 : ∀ d : Fin 256, 192 ≤ d.val → f d = 0) :
    ∑ d, f d = ∑ d : Fin 192, f ⟨d.val, by omega⟩ := by
  rw [sum_cut (n := 192) (w := 0) (by omega) f (by simpa using h0)]
  simp

/-- One real score. -/
def score (q k : ShQ.Idx → ℝ) (b h : Fin 8) (s t : Fin 2048) : ℝ := (∑ d : Fin 192, q (ix4 b s h d) * k (ix4 b t h d)) * refC

/-- The reference's scores, over real arrays. -/
theorem refScores_real (q k : ShQ.Idx → ℝ) (b h : Fin 8) (s : Fin 2048) :
    (fun t : Fin 2048 => refScores (fun i => (q i : EReal)) (fun i => (k i : EReal)) (ix4 b h s t))
      = masked (fun t : Fin 2048 => t.val ≤ s.val) (score q k b h s) := by
  funext t
  rw [refScores_apply]
  unfold masked score
  split
  · rw [← EReal.coe_mul (∑ d : Fin 192, _) refC |>.symm, ← sum_real]
    simp only [EReal.coe_mul]
  · rfl

/-- A product of two slab rows, over real arrays: the dot product of the heads' 192 columns, scaled. -/
theorem slab_dot (q k : ShQ.Idx → ℝ) (R T : Fin 16384) (h : Fin 8) :
    ∑ d : Fin 256, slab (fun i => (q i : EReal)) (ix2 R ⟨256 * h.val + d.val, by omega⟩) * (hostC : EReal)
        * slab (fun i => (k i : EReal)) (ix2 T ⟨256 * h.val + d.val, by omega⟩)
      = ((hostC * ∑ d : Fin 192, q (ix4 ⟨R.val / 2048, by omega⟩ ⟨R.val % 2048, by omega⟩ h d) * k (ix4 ⟨T.val / 2048, by omega⟩ ⟨T.val % 2048, by omega⟩ h d) : ℝ) : EReal) := by
  rw [sum_slab _ fun d hd => by rw [slab_apply, dif_neg (by omega), zero_mul, zero_mul], Finset.mul_sum, ← sum_real]
  refine Finset.sum_congr rfl fun d _ => ?_
  rw [slab_apply _ R, slab_apply _ T, dif_pos d.isLt, dif_pos d.isLt, ← EReal.coe_mul, ← EReal.coe_mul]
  congr 1
  ring

section
open Cert.KernelIdeal Cert.KernelIdeal.Gen
variable (m : (ℓ : Loc nD τ sig) → Buf (Elt Ideal) ℓ) (c : Dev nD)

/-- The kernel's array over real queries and keys. -/
theorem resultArray_real (q k : ShQ.Idx → ℝ) (v : FVec Ideal Cert.ReferenceIdeal.S8x2048x8x128 .f32)
    (hq : (m ((c.tc : Thread nD τ).loc main_arg0) : FVec Ideal ShQ .f32) = fun i => (q i : EReal))
    (hk : (m ((c.tc : Thread nD τ).loc main_arg1) : FVec Ideal ShQ .f32) = fun i => (k i : EReal))
    (hv : (m ((c.tc : Thread nD τ).loc main_arg2) : FVec Ideal Cert.ReferenceIdeal.S8x2048x8x128 .f32) = v)
    (R : Fin 16384) (C : Fin 1024) :
    resultArray m c (ix2 R C) = attn Ideal.exp2
      (masked (fun t : Fin 2048 => t.val ≤ R.val % 2048) fun t => 1 / Real.log 2
        * score q k ⟨R.val / 2048, by omega⟩ ⟨C.val / 128, by omega⟩ ⟨R.val % 2048, by omega⟩ t)
      fun t => v (ix4 ⟨R.val / 2048, by omega⟩ t ⟨C.val / 128, by omega⟩ ⟨C.val % 128, by omega⟩) := by
  show arrayOut (V m c main_v9) (V m c main_v13) (V m c main_v15) R C = _
  unfold arrayOut
  congr 1
  · funext t
    unfold masked
    refine if_congr Iff.rfl ?_ rfl
    rw [V_q, V_k]
    refine (Finset.sum_congr rfl fun d _ => ?_).trans ((slab_dot q k R ⟨R.val / 2048 * 2048 + t.val, by omega⟩ ⟨C.val / 128, by omega⟩).trans ?_)
    · rw [← hq, ← hk, ← hostScale_apply ix0]
      rfl
    · have e1 : (R.val / 2048 * 2048 + t.val) / 2048 = R.val / 2048 := by omega
      have e2 : (R.val / 2048 * 2048 + t.val) % 2048 = t.val := by omega
      simp only [e1, e2]
      rw [hostC_eq]
      unfold score
      congr 1
      ring
  · funext t
    have e1 : (R.val / 2048 * 2048 + t.val) / 2048 = R.val / 2048 := by omega
    have e2 : (R.val / 2048 * 2048 + t.val) % 2048 = t.val := by omega
    rw [V_v]
    refine (values_apply _ ⟨R.val / 2048 * 2048 + t.val, by omega⟩ C).trans ?_
    simp only [e1, e2]
    exact congrFun hv _

end

/-- The two programs' results agree. -/
theorem result_eq (m : (ℓ : Loc Cert.KernelIdeal.nD Cert.KernelIdeal.τ Cert.KernelIdeal.sig) → Buf (Elt Ideal) ℓ) (c : Dev Cert.KernelIdeal.nD)
    (m' : (ℓ : Loc Cert.ReferenceIdeal.nD Cert.ReferenceIdeal.τ Cert.ReferenceIdeal.sig) → Buf (Elt Ideal) ℓ)
    (hpre : Cert.Pre_KernelIdeal_finite_scores m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_out0 m' c = resultArray m c := by
  obtain ⟨q, hq⟩ := reals_of_pre _ (hpre c).1
  obtain ⟨k, hk⟩ := reals_of_pre _ (hpre c).2
  have key : ∀ (R : Fin 16384) (C : Fin 1024), Cert.ReferenceIdeal.Value.res_out0 m' c (ix2 R C) = resultArray m c (ix2 R C) := fun R C => by
    refine (res_apply m' c R C).trans ?_
    rw [h0, h1, h2, resultArray_real m c q k _ hq hk rfl R C, hq, hk, refScores_real, attn_eq (k0 := ⟨0, by omega⟩) _ _ _ (Nat.zero_le _)
      (one_div_pos.mpr (Real.log_pos (by norm_num))) (one_div_mul_cancel (Real.log_pos (by norm_num)).ne')]
  funext i
  have hi : i = ix2 (n0 := 16384) (n1 := 1024) (i 0) (i 1) := eq_ix2 i
  rw [hi]
  exact key (i 0) (i 1)

end Cert.Attn
-- ==== Proof.FfnTile.lean ====
module

public import proofs.«01_k».proof.Proof.Tile
public import proofs.«01_k».proof.Proof.Gen.Kernel2Ideal.Value

@[expose] public section

set_option maxRecDepth 16384

/-! What the feed-forward kernel computes from one tile of 512 tokens: the gated product over 2816 hidden columns, taken
256 columns at a time, and the normalised sum with the residual stream. -/

noncomputable section

namespace Cert.Ffn

open Idealize.ShloMosaic Idealize.ShloMosaic.Pipeline
open Cert.Attn (Sh2 Sh1)
open Cert.Kernel2Ideal Cert.Kernel2Ideal.Gen
open scoped BigOperators

/-- The gated product of one hidden column: `a · sigmoid a · b`. -/
def gated (a b : EReal) : EReal := a * Ideal.logistic a * b

/-- One row's average of 1024 numbers. -/
def mean (y : Fin 1024 → EReal) : EReal := Ideal.div (∑ k, y k) (Ideal.ofBits .f32 0x44800000#32)

/-- One row's layer norm. -/
def norm (y : Fin 1024 → EReal) (g b : EReal) (c : Fin 1024) : EReal :=
  (y c - mean y) * Ideal.rsqrt (mean (fun k => (y k - mean y) * (y k - mean y)) + Ideal.ofBits .f32 0x3727C5AC#32) * g + b

/-- The gated product of a row over all 2816 hidden columns, at column `c`. -/
def branch (h : Fin 1024 → EReal) (W : FVec Ideal (Sh2 1024 5632) .bf16) (O : FVec Ideal (Sh2 2816 1024) .bf16) (c : Fin 1024) : EReal :=
  ∑ e : Fin 2816, gated (∑ d : Fin 1024, h d * W (ix2 d ⟨e.val, by omega⟩)) (∑ d : Fin 1024, h d * W (ix2 d ⟨2816 + e.val, by omega⟩)) * O (ix2 e c)

/-- One token's result: its row `x`, scaled by `1 + sc` and shifted by `sh`, goes through the gated product; half of that,
    scaled by `1 + gate`, is added to the weighted row, and the sum is normalised. -/
def row (x sh sc gate : Fin 1024 → EReal) (W : FVec Ideal (Sh2 1024 5632) .bf16) (O : FVec Ideal (Sh2 2816 1024) .bf16) (g b : EReal) (c : Fin 1024) : EReal :=
  norm (fun k => Ideal.ofBits .f32 0x3FB504F3#32 * x k
    + (Ideal.ofBits .f32 0x3F800000#32 + gate k)
      * (Ideal.ofBits .f32 0x3F000000#32 * branch (fun d => x d * (Ideal.ofBits .f32 0x3F800000#32 + sc d) + sh d) W O k)) g b c

/-- The contribution of 256 hidden columns, as the kernel writes it. -/
def chunk (h : FVec Ideal S512x1024 .bf16) (wa wb : FVec Ideal S1024x256 .bf16) (wo : FVec Ideal S256x1024 .bf16) : FVec Ideal S512x1024 .f32 :=
  let a := matmul dot_S512x1024_S1024x256_S512x256_1_0_0_1_n_n none h wa (constant S512x256 .f32 0x00000000#32)
  let b := matmul dot_S512x1024_S1024x256_S512x256_1_0_0_1_n_n none h wb (constant S512x256 .f32 0x00000000#32)
  matmul dot_S512x256_S256x1024_S512x1024_1_0_0_1_n_n none (truncf .bf16 (mulf (mulf a (logistic a)) b) bitsLt_bf16_f32) wo
    (constant S512x1024 .f32 0x00000000#32)

theorem chunk_apply (h : FVec Ideal S512x1024 .bf16) (wa wb : FVec Ideal S1024x256 .bf16) (wo : FVec Ideal S256x1024 .bf16)
    (r : Fin 512) (c : Fin 1024) :
    chunk h wa wb wo (ix2 r c) = ∑ e : Fin 256, gated (∑ d : Fin 1024, h (ix2 r d) * wa (ix2 d e)) (∑ d : Fin 1024, h (ix2 r d) * wb (ix2 d e)) * wo (ix2 e c) := by
  pointwise [chunk]
  rfl

/-- The modulated tile. -/
theorem pay5_apply (x : Vec Ideal S512x1024 .f32) (sh sc : Vec Ideal S1x1x1024 .f32) (r : Fin 512) (d : Fin 1024) :
    k0_pay5 (F := Ideal) x sh sc (ix2 r d)
      = x (ix2 r d) * (Ideal.ofBits .f32 0x3F800000#32 + sc (ix3 0 0 d)) + sh (ix3 0 0 d) := by
  pointwise [k0_pay5]

/-- The normalised sum of the residual stream and the gated branch. -/
theorem pay3_apply (gate : Vec Ideal S1x1x1024 .f32) (x f : Vec Ideal S512x1024 .f32) (g b : Vec Ideal S1x1024 .f32) (r : Fin 512) (c : Fin 1024) :
    k0_pay3 (F := Ideal) gate x f g b (ix2 r c)
      = norm (fun k => Ideal.ofBits .f32 0x3FB504F3#32 * x (ix2 r k)
          + (Ideal.ofBits .f32 0x3F800000#32 + gate (ix3 0 0 k)) * Ideal.ofBits .f32 0x3F000000#32 * f (ix2 r k)) (g (ix2 0 c)) (b (ix2 0 c)) c := by
  pointwise [k0_pay3]
  rfl

end Cert.Ffn
-- ==== Proof.FfnBlock.lean ====
module

public import proofs.«01_k».proof.Proof.FfnTile
public import Idealize.ShloMosaic.Lib.Pipeline.ValueKit

@[expose] public section

set_option maxRecDepth 16384

/-! What the feed-forward kernel leaves at one grid point: in its scratch the gated product of the current tile, in its
output block the normalised rows of the tile before. -/

noncomputable section

namespace Cert.Ffn

open Idealize.ShloMosaic Idealize.ShloMosaic.TcCoe Idealize.SL.Sem Idealize.ShloMosaic.Pipeline
open Cert.Attn (Sh2 Sh1)
open Cert.Kernel2Ideal Cert.Kernel2Ideal.Gen
open scoped BigOperators

/-- The shape of a stack of matrices. -/
abbrev Sh3 (a b c : ℕ) : Shape := ⟨3, ![a, b, c]⟩

/-- A load of part of a matrix. -/
theorem ld_mat {E : EltTy} {A B a b o p : ℕ} (X : Vec Ideal (Sh2 A B) E) (inb : _) (r : Fin a) (c : Fin b)
    (hr : o + r.val < A) (hc : p + c.val < B) :
    View.ld X (Rect.unit (s := Sh2 A B) ![o, p] ![a, b] inb) (ix2 r c) = X (ix2 ⟨o + r.val, hr⟩ ⟨p + c.val, hc⟩) := by
  refine congrArg X (funext fun t => Fin.ext ?_)
  match t with
  | ⟨0, _⟩ => exact congrArg (o + ·) (Nat.one_mul r.val)
  | ⟨1, _⟩ => exact congrArg (p + ·) (Nat.one_mul c.val)

/-- A load of one row of a matrix. -/
theorem ld_line {E : EltTy} {A B o : ℕ} (X : Vec Ideal (Sh2 A B) E) (inb : _) (c : Fin B) (ho : o < A) :
    View.ld X (Rect.unit (s := Sh2 A B) ![o, 0] ![1, B] inb) (ix2 0 c) = X (ix2 ⟨o, ho⟩ c) := by
  refine (ld_mat X inb 0 c (by simpa using ho) (by simp)).trans (congrArg X ?_)
  exact congrArg₂ ix2 rfl (Fin.ext (Nat.zero_add _))

/-- A load of one row of a stack's only matrix. -/
theorem ld_row {E : EltTy} {B C o : ℕ} (X : Vec Ideal (Sh3 1 B C) E) (inb : _) (d : Fin C) (ho : o < B) :
    View.ld X (Rect.unit (s := Sh3 1 B C) ![0, o, 0] ![1, 1, C] inb) (ix3 0 0 d) = X (ix3 0 ⟨o, ho⟩ d) := by
  refine congrArg X (funext fun t => Fin.ext ?_)
  match t with
  | ⟨0, _⟩ => rfl
  | ⟨1, _⟩ => rfl
  | ⟨2, _⟩ => exact (Nat.zero_add _).trans (Nat.one_mul d.val)

/-- Part `n` of the gated product, from the kernel's loads of its weights. -/
def part (h : FVec Ideal S512x1024 .bf16) (W : Vec Ideal (Sh2 1024 5632) .bf16) (O : Vec Ideal (Sh2 2816 1024) .bf16) (n : Fin 11) : FVec Ideal S512x1024 .f32 :=
  chunk h (View.ld W (Rect.unit (s := Sh2 1024 5632) ![0, 256 * n.val] ![1024, 256] (by intro a; fin_cases a <;> simp; omega)))
    (View.ld W (Rect.unit (s := Sh2 1024 5632) ![0, 2816 + 256 * n.val] ![1024, 256] (by intro a; fin_cases a <;> simp; omega)))
    (View.ld O (Rect.unit (s := Sh2 2816 1024) ![256 * n.val, 0] ![256, 1024] (by intro a; fin_cases a <;> simp; omega)))

/-- One hidden column's contribution. -/
def term (h : Fin 1024 → EReal) (W : Vec Ideal (Sh2 1024 5632) .bf16) (O : Vec Ideal (Sh2 2816 1024) .bf16) (c : Fin 1024) (e : Fin 2816) : EReal :=
  gated (∑ d : Fin 1024, h d * W (ix2 d ⟨e.val, by omega⟩)) (∑ d : Fin 1024, h d * W (ix2 d ⟨2816 + e.val, by omega⟩)) * O (ix2 e c)

theorem part_apply (h : FVec Ideal S512x1024 .bf16) (W : Vec Ideal (Sh2 1024 5632) .bf16) (O : Vec Ideal (Sh2 2816 1024) .bf16) (n : Fin 11)
    (r : Fin 512) (c : Fin 1024) :
    part h W O n (ix2 r c) = ∑ e : Fin 256, term (fun d => h (ix2 r d)) W O c ⟨256 * n.val + e.val, by omega⟩ := by
  unfold part term
  rw [chunk_apply]
  refine Finset.sum_congr rfl fun e _ => ?_
  refine congrArg₂ (· * ·) (congrArg₂ gated (Finset.sum_congr rfl fun d _ => ?_) (Finset.sum_congr rfl fun d _ => ?_)) ?_
  · rw [ld_mat W _ d e (by omega) (by omega)]
    exact congrArg (h (ix2 r d) * ·) (congrArg W (congrArg₂ ix2 (Fin.ext (Nat.zero_add _)) rfl))
  · rw [ld_mat W _ d e (by omega) (by omega)]
    exact congrArg (h (ix2 r d) * ·) (congrArg W (congrArg₂ ix2 (Fin.ext (Nat.zero_add _)) (Fin.ext (Nat.add_assoc ..))))
  · rw [ld_mat O _ e c (by omega) (by omega)]
    exact congrArg O (congrArg₂ ix2 rfl (Fin.ext (Nat.zero_add _)))

/-- A sum over 2816 columns, 256 at a time. -/
theorem sum_chunks (f : Fin 2816 → EReal) : ∑ e, f e = ∑ n : Fin 11, ∑ e : Fin 256, f ⟨256 * n.val + e.val, by omega⟩ := by
  rw [← Fintype.sum_prod_type' (f := fun (n : Fin 11) (e : Fin 256) => f ⟨256 * n.val + e.val, by omega⟩)]
  refine (Fintype.sum_equiv (finProdFinEquiv (m := 11) (n := 256)) _ _ fun p => ?_).symm
  exact congrArg f (Fin.ext (Nat.add_comm _ _))

/-- The eleven parts, added in order. -/
theorem parts_apply (h : FVec Ideal S512x1024 .bf16) (W : Vec Ideal (Sh2 1024 5632) .bf16) (O : Vec Ideal (Sh2 2816 1024) .bf16) (r : Fin 512) (c : Fin 1024) :
    addf (addf (addf (addf (addf (addf (addf (addf (addf (addf (part h W O 0) (part h W O 1)) (part h W O 2)) (part h W O 3)) (part h W O 4))
      (part h W O 5)) (part h W O 6)) (part h W O 7)) (part h W O 8)) (part h W O 9)) (part h W O 10) (ix2 r c)
      = branch (fun d => h (ix2 r d)) W O c := by
  refine Eq.trans ?_ (sum_chunks (term (fun d => h (ix2 r d)) W O c)).symm
  rw [← Finset.sum_congr rfl fun n _ => part_apply h W O n r c]
  simp only [Fin.sum_univ_castSucc, Finset.univ_eq_empty, Finset.sum_empty, zero_add]
  rfl

variable (m : (ℓ : Loc nD τ sig) → Buf (Elt Ideal) ℓ) (c : Dev nD)

/-- The gated product of a tile, from its rows, its batch's modulation and the weights. -/
def tileBranch (X : Vec Ideal (Sh2 512 1024) .f32) (M : Vec Ideal (Sh3 1 9 1024) .f32) (W : Vec Ideal (Sh2 1024 5632) .bf16) (O : Vec Ideal (Sh2 2816 1024) .bf16)
    (r : Fin 512) (k : Fin 1024) : EReal :=
  branch (fun d => X (ix2 r d) * (Ideal.ofBits .f32 0x3F800000#32 + M (ix3 0 7 d)) + M (ix3 0 6 d)) W O k

theorem hidden_loads (X : Vec Ideal (Sh2 512 1024) .f32) (M : Vec Ideal (Sh3 1 9 1024) .f32) (i6 i7 : _) (W : Vec Ideal (Sh2 1024 5632) .bf16)
    (O : Vec Ideal (Sh2 2816 1024) .bf16) (r : Fin 512) (k : Fin 1024) :
    branch (fun d => k0_pay5 (F := Ideal) X (View.ld M (Rect.unit (s := Sh3 1 9 1024) ![0, 6, 0] ![1, 1, 1024] i6))
      (View.ld M (Rect.unit (s := Sh3 1 9 1024) ![0, 7, 0] ![1, 1, 1024] i7)) (ix2 r d)) W O k = tileBranch X M W O r k := by
  unfold tileBranch
  refine congrArg (fun h => branch h W O k) (funext fun d => ?_)
  rw [pay5_apply, ld_row M i6 d (by omega), ld_row M i7 d (by omega)]
  rfl

/-- The scratch after a point that computes a tile. -/
theorem scratch_eq (t : Fin cfg0.N) (h1 : t.val < 32) (r : Fin 512) (k : Fin 1024) :
    (outsAt0 m c t.val t.isLt).2 (ix2 r k) = tileBranch (iblk m c 0 t) (iblk m c 2 t) (iblk m c 4 t) (iblk m c 5 t) r k := by
  refine Eq.trans ?_ (hidden_loads (iblk m c 0 t) (iblk m c 2 t) inb_S1x9x1024_S1x1x1024_0_6_0 inb_S1x9x1024_S1x1x1024_0_7_0 (iblk m c 4 t) (iblk m c 5 t) r k)
  refine Eq.trans ?_ (parts_apply _ (iblk m c 4 t) (iblk m c 5 t) r k)
  refine congrFun ?_ (ix2 r k)
  by_cases h0 : t.val % 33 = 0
  on_goal 1 => rw [outsAt0_A m c t h0 h1 (by omega)]
  on_goal 2 => rw [outsAt0_B m c t h0 h1 (by omega)]
  all_goals
    frame_out
    unfold k0_pay2 k0_pay12 k0_pay10 k0_pay8 k0_pay6 k0_pay7 k0_pay9 k0_pay11 k0_pay13 k0_pay14 k0_pay15 k0_pay13
    simp only [shapeCast_self]
    rfl

/-- A tile's normalised rows, from its rows, its batch's modulation, its gated product and the norm's two rows. -/
def tileNorm (X : Vec Ideal (Sh2 512 1024) .f32) (M : Vec Ideal (Sh3 1 9 1024) .f32) (f : Fin 512 → Fin 1024 → EReal)
    (g b : Vec Ideal (Sh2 3 1024) .f32) (r : Fin 512) (k : Fin 1024) : EReal :=
  norm (fun k => Ideal.ofBits .f32 0x3FB504F3#32 * X (ix2 r k)
    + (Ideal.ofBits .f32 0x3F800000#32 + M (ix3 0 8 k)) * (Ideal.ofBits .f32 0x3F000000#32 * f r k)) (g (ix2 2 k)) (b (ix2 2 k)) k

theorem norm_loads (X : Vec Ideal (Sh2 512 1024) .f32) (M : Vec Ideal (Sh3 1 9 1024) .f32) (f : Vec Ideal (Sh2 512 1024) .f32)
    (g b : Vec Ideal (Sh2 3 1024) .f32) (i8 ig ib : _) (r : Fin 512) (k : Fin 1024) :
    k0_pay3 (F := Ideal) (View.ld M (Rect.unit (s := Sh3 1 9 1024) ![0, 8, 0] ![1, 1, 1024] i8)) X f
      (View.ld g (Rect.unit (s := Sh2 3 1024) ![2, 0] ![1, 1024] ig)) (View.ld b (Rect.unit (s := Sh2 3 1024) ![2, 0] ![1, 1024] ib)) (ix2 r k)
      = tileNorm X M (fun r k => f (ix2 r k)) g b r k := by
  unfold tileNorm
  rw [pay3_apply, ld_line g ig k (by omega), ld_line b ib k (by omega)]
  refine congrArg (fun y => norm y _ _ k) (funext fun j => ?_)
  rw [ld_row M i8 j (by omega), mul_assoc]
  rfl

/-- The output block after a point that finishes the tile before. -/
theorem out_eq (t : Fin cfg0.N) (h : ¬t.val = 0) (r : Fin 512) (k : Fin 1024) :
    (outsAt0 m c t.val t.isLt).1 (ix2 r k) = tileNorm (iblk m c 1 t) (iblk m c 3 t)
      (fun r k => (outsAt0 m c (t.val - 1) (Nat.lt_of_le_of_lt (Nat.sub_le _ _) t.isLt)).2 (ix2 r k)) (iblk m c 6 t) (iblk m c 7 t) r k := by
  have hN : t.val < 33 := t.isLt
  refine Eq.trans ?_ (norm_loads (iblk m c 1 t) (iblk m c 3 t) (outsAt0 m c (t.val - 1) (Nat.lt_of_le_of_lt (Nat.sub_le _ _) t.isLt)).2
    (iblk m c 6 t) (iblk m c 7 t) inb_S1x9x1024_S1x1x1024_0_8_0 inb_S3x1024_S1x1024_2_0 inb_S3x1024_S1x1024_2_0 r k)
  refine congrFun ?_ (ix2 r k)
  have hr : View.read (Elt Ideal) (View.whole cc0_scratch0) ((Memref.isWhole_whole cc0_scratch0).unread (outsAt0 m c (t.val - 1) (Nat.lt_of_le_of_lt (Nat.sub_le _ _) t.isLt)).2)
      = (outsAt0 m c (t.val - 1) (Nat.lt_of_le_of_lt (Nat.sub_le _ _) t.isLt)).2 := (Memref.isWhole_whole cc0_scratch0).read_unread _
  by_cases h1 : t.val < 32
  on_goal 1 => rw [outsAt0_B m c t (by omega) h1 (by omega)]
  on_goal 2 => rw [outsAt0_C m c t (by omega) h1 (by omega)]
  all_goals
    frame_out
    rw [hr]
  rfl

end Cert.Ffn
-- ==== Proof.FfnArray.lean ====
module

public import proofs.«01_k».proof.Proof.FfnBlock

@[expose] public section

set_option maxRecDepth 16384

/-! The feed-forward kernel's result array: tile by tile, the normalised rows that its grid's points write back. -/

noncomputable section

namespace Cert.Ffn

open Idealize.ShloMosaic Idealize.ShloMosaic.TcCoe Idealize.SL.Sem Idealize.ShloMosaic.Pipeline
open Cert.Attn (Sh2 Sh1)
open Cert.Kernel2Ideal Cert.Kernel2Ideal.Gen
open scoped BigOperators

/-- The result at row `R` and column `C`, from the arrays. -/
def rowAt (X : Vec Ideal (Sh2 16384 1024) .f32) (M : Vec Ideal (Sh3 8 9 1024) .f32) (W : Vec Ideal (Sh2 1024 5632) .bf16) (O : Vec Ideal (Sh2 2816 1024) .bf16)
    (g b : Vec Ideal (Sh2 3 1024) .f32) (R : Fin 16384) (C : Fin 1024) : EReal :=
  row (fun d => X (ix2 R d)) (fun d => M (ix3 ⟨R.val / 2048, by omega⟩ 6 d)) (fun d => M (ix3 ⟨R.val / 2048, by omega⟩ 7 d))
    (fun d => M (ix3 ⟨R.val / 2048, by omega⟩ 8 d)) W O (g (ix2 2 C)) (b (ix2 2 C)) C

/-- The gated product of row `R` at column `C`, from the arrays. -/
def branchAt (X : Vec Ideal (Sh2 16384 1024) .f32) (M : Vec Ideal (Sh3 8 9 1024) .f32) (W : Vec Ideal (Sh2 1024 5632) .bf16) (O : Vec Ideal (Sh2 2816 1024) .bf16)
    (R : Fin 16384) (C : Fin 1024) : EReal :=
  branch (fun d => X (ix2 R d) * (Ideal.ofBits .f32 0x3F800000#32 + M (ix3 ⟨R.val / 2048, by omega⟩ 7 d)) + M (ix3 ⟨R.val / 2048, by omega⟩ 6 d)) W O C

theorem point_lt (t : Fin cfg0.N) : t.val < 33 := t.isLt

/-- The tiles and batches the windows hold, from the grid point's number. -/
theorem tile_facts : ∀ t : Fin cfg0.N,
    win0_0.index t 0 = min t.val 31 ∧ win0_0.index t 1 = 0 ∧ win0_1.index t 0 = t.val - 1 ∧ win0_1.index t 1 = 0
      ∧ win0_2.index t 0 = min t.val 31 / 4 ∧ win0_2.index t 1 = 0 ∧ win0_2.index t 2 = 0
      ∧ win0_3.index t 0 = (t.val - 1) / 4 ∧ win0_3.index t 1 = 0 ∧ win0_3.index t 2 = 0 :=
  (by decide +kernel : ∀ t : Fin grid0.N,
    win0_0.index t 0 = min t.val 31 ∧ win0_0.index t 1 = 0 ∧ win0_1.index t 0 = t.val - 1 ∧ win0_1.index t 1 = 0
      ∧ win0_2.index t 0 = min t.val 31 / 4 ∧ win0_2.index t 1 = 0 ∧ win0_2.index t 2 = 0
      ∧ win0_3.index t 0 = (t.val - 1) / 4 ∧ win0_3.index t 1 = 0 ∧ win0_3.index t 2 = 0)

/-- The weights' windows hold the whole arrays; the output's holds the tile before the point's. -/
theorem rest_facts : ∀ t : Fin cfg0.N,
    win0_4.index t 0 = 0 ∧ win0_4.index t 1 = 0 ∧ win0_5.index t 0 = 0 ∧ win0_5.index t 1 = 0
      ∧ win0_6.index t 0 = 0 ∧ win0_6.index t 1 = 0 ∧ win0_7.index t 0 = 0 ∧ win0_7.index t 1 = 0
      ∧ win0_8.index t 0 = t.val - 1 ∧ win0_8.index t 1 = 0 :=
  (by decide +kernel : ∀ t : Fin grid0.N,
    win0_4.index t 0 = 0 ∧ win0_4.index t 1 = 0 ∧ win0_5.index t 0 = 0 ∧ win0_5.index t 1 = 0
      ∧ win0_6.index t 0 = 0 ∧ win0_6.index t 1 = 0 ∧ win0_7.index t 0 = 0 ∧ win0_7.index t 1 = 0
      ∧ win0_8.index t 0 = t.val - 1 ∧ win0_8.index t 1 = 0)

/-- Every point but the first writes its output block back. -/
theorem flush_facts : ∀ t : Fin cfg0.N, (cfg0.win 8).flush t = decide (t.val ≠ 0) :=
  (by decide +kernel : ∀ t : Fin grid0.N, (cfg0.win 8).flush t = decide (t.val ≠ 0))

variable (m : (ℓ : Loc nD τ sig) → Buf (Elt Ideal) ℓ) (c : Dev nD)

/-- The current tile's rows. -/
theorem iblk_x (t : Fin cfg0.N) (r : Fin 512) (d : Fin 1024) :
    iblk m c 0 t (ix2 r d) = V m c main_v0 (ix2 (n0 := 16384) (n1 := 1024) ⟨min t.val 31 * 512 + r.val, by omega⟩ d) := by
  obtain ⟨h0, h1, _⟩ := tile_facts t
  refine congrArg (V m c main_v0) (funext fun a => Fin.ext ?_)
  match a with
  | ⟨0, _⟩ =>
    show win0_0.index t 0 * 512 + 1 * r.val = _
    rw [h0, Nat.one_mul]; rfl
  | ⟨1, _⟩ =>
    show win0_0.index t 1 * 1024 + 1 * d.val = _
    rw [h1, Nat.one_mul, Nat.zero_mul, Nat.zero_add]; rfl

/-- The rows of the tile before. -/
theorem iblk_x' (t : Fin cfg0.N) (r : Fin 512) (d : Fin 1024) :
    iblk m c 1 t (ix2 r d) = V m c main_v0 (ix2 (n0 := 16384) (n1 := 1024) ⟨(t.val - 1) * 512 + r.val, by have := point_lt t; omega⟩ d) := by
  obtain ⟨_, _, h0, h1, _⟩ := tile_facts t
  refine congrArg (V m c main_v0) (funext fun a => Fin.ext ?_)
  match a with
  | ⟨0, _⟩ =>
    show win0_1.index t 0 * 512 + 1 * r.val = _
    rw [h0, Nat.one_mul]; rfl
  | ⟨1, _⟩ =>
    show win0_1.index t 1 * 1024 + 1 * d.val = _
    rw [h1, Nat.one_mul, Nat.zero_mul, Nat.zero_add]; rfl

/-- The current tile's modulation. -/
theorem iblk_m (t : Fin cfg0.N) (j : Fin 9) (d : Fin 1024) :
    iblk m c 2 t (ix3 0 j d) = V m c main_v1 (ix3 (n0 := 8) (n1 := 9) (n2 := 1024) ⟨min t.val 31 / 4, by omega⟩ j d) := by
  obtain ⟨_, _, _, _, h0, h1, h2, _⟩ := tile_facts t
  refine congrArg (V m c main_v1) (funext fun a => Fin.ext ?_)
  match a with
  | ⟨0, _⟩ =>
    show win0_2.index t 0 * 1 + 1 * 0 = min t.val 31 / 4
    rw [h0]; omega
  | ⟨1, _⟩ =>
    show win0_2.index t 1 * 9 + 1 * j.val = _
    rw [h1, Nat.one_mul, Nat.zero_mul, Nat.zero_add]; rfl
  | ⟨2, _⟩ =>
    show win0_2.index t 2 * 1024 + 1 * d.val = _
    rw [h2, Nat.one_mul, Nat.zero_mul, Nat.zero_add]; rfl

/-- The modulation of the tile before. -/
theorem iblk_m' (t : Fin cfg0.N) (j : Fin 9) (d : Fin 1024) :
    iblk m c 3 t (ix3 0 j d) = V m c main_v1 (ix3 (n0 := 8) (n1 := 9) (n2 := 1024) ⟨(t.val - 1) / 4, by have := point_lt t; omega⟩ j d) := by
  obtain ⟨_, _, _, _, _, _, _, h0, h1, h2⟩ := tile_facts t
  refine congrArg (V m c main_v1) (funext fun a => Fin.ext ?_)
  match a with
  | ⟨0, _⟩ =>
    show win0_3.index t 0 * 1 + 1 * 0 = (t.val - 1) / 4
    rw [h0]; omega
  | ⟨1, _⟩ =>
    show win0_3.index t 1 * 9 + 1 * j.val = _
    rw [h1, Nat.one_mul, Nat.zero_mul, Nat.zero_add]; rfl
  | ⟨2, _⟩ =>
    show win0_3.index t 2 * 1024 + 1 * d.val = _
    rw [h2, Nat.one_mul, Nat.zero_mul, Nat.zero_add]; rfl

theorem iblk_wi (t : Fin cfg0.N) : iblk m c 4 t = V m c main_v2 := by
  obtain ⟨h0, h1, _⟩ := rest_facts t
  refine funext fun i => congrArg (V m c main_v2) (funext fun a => Fin.ext ?_)
  match a with
  | ⟨0, _⟩ =>
    show win0_4.index t 0 * 1024 + 1 * (i 0).val = _
    rw [h0, Nat.one_mul, Nat.zero_mul, Nat.zero_add]; rfl
  | ⟨1, _⟩ =>
    show win0_4.index t 1 * 5632 + 1 * (i 1).val = _
    rw [h1, Nat.one_mul, Nat.zero_mul, Nat.zero_add]; rfl

theorem iblk_wo (t : Fin cfg0.N) : iblk m c 5 t = V m c main_v3 := by
  obtain ⟨_, _, h0, h1, _⟩ := rest_facts t
  refine funext fun i => congrArg (V m c main_v3) (funext fun a => Fin.ext ?_)
  match a with
  | ⟨0, _⟩ =>
    show win0_5.index t 0 * 2816 + 1 * (i 0).val = _
    rw [h0, Nat.one_mul, Nat.zero_mul, Nat.zero_add]; rfl
  | ⟨1, _⟩ =>
    show win0_5.index t 1 * 1024 + 1 * (i 1).val = _
    rw [h1, Nat.one_mul, Nat.zero_mul, Nat.zero_add]; rfl

theorem iblk_g (t : Fin cfg0.N) : iblk m c 6 t = V m c main_arg4 := by
  obtain ⟨_, _, _, _, h0, h1, _⟩ := rest_facts t
  refine funext fun i => congrArg (V m c main_arg4) (funext fun a => Fin.ext ?_)
  match a with
  | ⟨0, _⟩ =>
    show win0_6.index t 0 * 3 + 1 * (i 0).val = _
    rw [h0, Nat.one_mul, Nat.zero_mul, Nat.zero_add]; rfl
  | ⟨1, _⟩ =>
    show win0_6.index t 1 * 1024 + 1 * (i 1).val = _
    rw [h1, Nat.one_mul, Nat.zero_mul, Nat.zero_add]; rfl

theorem iblk_b (t : Fin cfg0.N) : iblk m c 7 t = V m c main_arg5 := by
  obtain ⟨_, _, _, _, _, _, h0, h1, _⟩ := rest_facts t
  refine funext fun i => congrArg (V m c main_arg5) (funext fun a => Fin.ext ?_)
  match a with
  | ⟨0, _⟩ =>
    show win0_7.index t 0 * 3 + 1 * (i 0).val = _
    rw [h0, Nat.one_mul, Nat.zero_mul, Nat.zero_add]; rfl
  | ⟨1, _⟩ =>
    show win0_7.index t 1 * 1024 + 1 * (i 1).val = _
    rw [h1, Nat.one_mul, Nat.zero_mul, Nat.zero_add]; rfl

/-- The result array, index by index. -/
def resultArray (i : (Sh2 16384 1024).Idx) : EReal :=
  rowAt (V m c main_v0) (V m c main_v1) (V m c main_v2) (V m c main_v3) (V m c main_arg4) (V m c main_arg5) (i 0) (i 1)

/-- The scratch a point leaves: the gated product of its tile's rows. -/
theorem scratch_rows (n : ℕ) (hn : n < cfg0.N) (h : n < 32) (r : Fin 512) (k : Fin 1024) :
    (outsAt0 m c n hn).2 (ix2 r k) = branchAt (V m c main_v0) (V m c main_v1) (V m c main_v2) (V m c main_v3) ⟨n * 512 + r.val, by omega⟩ k := by
  have e : min n 31 = n := by omega
  have e' : (n * 512 + r.val) / 2048 = n / 4 := by omega
  refine (scratch_eq m c ⟨n, hn⟩ h r k).trans ?_
  unfold tileBranch branchAt
  simp only [iblk_x, iblk_m, iblk_wi, iblk_wo, e, e']

/-- The output block a point leaves: the rows of the tile before. -/
theorem out_rows (t : Fin cfg0.N) (h : ¬t.val = 0) (r : Fin 512) (k : Fin 1024) :
    (outsAt0 m c t.val t.isLt).1 (ix2 r k)
      = rowAt (V m c main_v0) (V m c main_v1) (V m c main_v2) (V m c main_v3) (V m c main_arg4) (V m c main_arg5)
        ⟨(t.val - 1) * 512 + r.val, by have := point_lt t; omega⟩ k := by
  have hN := point_lt t
  have e : ((t.val - 1) * 512 + r.val) / 2048 = (t.val - 1) / 4 := by omega
  rw [out_eq m c t h]
  unfold tileNorm rowAt row
  simp only [scratch_rows m c (t.val - 1) (Nat.lt_of_le_of_lt (Nat.sub_le _ _) t.isLt) (by omega), branchAt, iblk_x', iblk_m', iblk_g, iblk_b, e]

/-- What a point writes back is its block of the result array. -/
theorem flushed_eq (t : Fin cfg0.N) (h : ¬t.val = 0) : (dats m 0 c).flushed 8 t = ((cfg0.win 8).blk t).view.read (Elt Ideal) (resultArray m c) := by
  rw [Value.flushed8 m c t]
  funext j
  obtain ⟨r, k, rfl⟩ : ∃ (r : Fin 512) (k : Fin 1024), j = ix2 r k :=
    ⟨j 0, j 1, by funext a; match a with | ⟨0, _⟩ => rfl | ⟨1, _⟩ => rfl⟩
  obtain ⟨_, _, _, _, _, _, _, _, h0, h1⟩ := rest_facts t
  refine (out_rows m c t h r k).trans ?_
  refine congrArg₂ (rowAt (V m c main_v0) (V m c main_v1) (V m c main_v2) (V m c main_v3) (V m c main_arg4) (V m c main_arg5)) (Fin.ext ?_) (Fin.ext ?_)
  · show _ = win0_8.index t 0 * 512 + 1 * r.val
    rw [h0, Nat.one_mul]
  · show _ = win0_8.index t 1 * 1024 + 1 * k.val
    rw [h1, Nat.one_mul, Nat.zero_mul, Nat.zero_add]

/-- The blocks written back tile the array. -/
theorem cover (i : S16384x1024.Idx) : ∃ t : Fin cfg0.N, (cfg0.win 8).flush t = true ∧ i ∈ ((cfg0.win 8).blk t).view.set := by
  have i0 : (i 0).val < 16384 := (i 0).isLt
  have i1 : (i 1).val < 1024 := (i 1).isLt
  have hN : cfg0.N = 33 := N_0
  obtain ⟨t, ht⟩ : ∃ t : Fin cfg0.N, t.val = (i 0).val / 512 + 1 := ⟨⟨_, by omega⟩, rfl⟩
  refine ⟨t, (flush_facts t).trans (decide_eq_true (by omega)), ?_⟩
  obtain ⟨_, _, _, _, _, _, _, _, h0, h1⟩ := rest_facts t
  show i ∈ ((View.whole main_v4).slice (win0_8.rect t)).set
  rw [View.set_slice_whole, Rect.mem_set_unit]
  intro a
  match a with
  | ⟨0, _⟩ =>
    show win0_8.index t 0 * 512 ≤ (i 0).val ∧ (i 0).val < win0_8.index t 0 * 512 + 512
    rw [h0]; omega
  | ⟨1, _⟩ =>
    show win0_8.index t 1 * 1024 ≤ (i 1).val ∧ (i 1).val < win0_8.index t 1 * 1024 + 1024
    rw [h1]; omega

/-- The result array after the run. -/
theorem final : (dats m 0 c).arrAt 8 cfg0.N = resultArray m c :=
  (dats m 0 c).arrAt_eq_of_cover 8 (resultArray m c) (fun t ht => flushed_eq m c t (of_decide_eq_true ((flush_facts t).symm.trans ht))) cover

end Cert.Ffn
-- ==== Proof.FfnRef.lean ====
module

public import proofs.«01_k».proof.Proof.FfnTile
public import proofs.«01_k».proof.Proof.Gen.Reference2Ideal.Run

@[expose] public section

set_option maxRecDepth 16384

/-! The feed-forward reference's result, read at an index. -/

noncomputable section

namespace Cert.Ffn

open Idealize.ShloMosaic Idealize.ShloMosaic.TcCoe Idealize.SL.Sem
open Cert.Reference2Ideal Cert.Reference2Ideal.Gen
open scoped BigOperators

/-- The tokens, scaled and shifted. -/
def refH (x : FVec Ideal S8x2048x1024 .f32) (md : FVec Ideal S8x9216 .f32) : FVec Ideal S8x2048x1024 .f32 :=
  addf (mulf x (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 7168] md slices_S8x9216_S8x1024_0_7168)))))
    (broadcastInDim S8x2048x1024 ![0, 1, 2] bcast_S8x1x1024_S8x2048x1024_0_1_2 (broadcastInDim S8x1x1024 ![0, 2] bcast_S8x1024_S8x1x1024_0_2 (extractStridedSlice S8x1024 ![0, 6144] md slices_S8x9216_S8x1024_0_6144)))

/-- The first product: 2816 columns for the gate and 2816 for the value. -/
def refP (h : FVec Ideal S8x2048x1024 .f32) (w : FVec Ideal S1024x5632 .f32) : FVec Ideal S8x2048x5632 .f32 :=
  Host.dotGeneral dot_S8x2048x1024_S1024x5632_S8x2048x5632_2_0_01_1_n_n none h w

/-- The gated hidden columns. -/
def refG (p : FVec Ideal S8x2048x5632 .f32) : FVec Ideal S8x2048x2816 .f32 :=
  mulf (mulf (extractStridedSlice S8x2048x2816 ![0, 0, 0] p slices_S8x2048x5632_S8x2048x2816_0_0_0)
    (Host.divf (broadcastInDim S8x2048x2816 ![] bcast_S_S8x2048x2816 (constant S_ .f32 0x3F800000#32))
      (addf (broadcastInDim S8x2048x2816 ![] bcast_S_S8x2048x2816 (constant S_ .f32 0x3F800000#32))
        (Host.exp (Host.negf (extractStridedSlice S8x2048x2816 ![0, 0, 0] p slices_S8x2048x5632_S8x2048x2816_0_0_0))))))
    (extractStridedSlice S8x2048x2816 ![0, 0, 2816] p slices_S8x2048x5632_S8x2048x2816_0_0_2816)

/-- The sum with the residual stream. -/
def refY (x : FVec Ideal S8x2048x1024 .f32) (md : FVec Ideal S8x9216 .f32) (g : FVec Ideal S8x2048x2816 .f32) (w : FVec Ideal S2816x1024 .f32) : FVec Ideal S8x2048x1024 .f32 :=
  addf (mulf (broadcastInDim S8x2048x1024 ![] bcast_S_S8x2048x1024 (constant S_ .f32 0x3FB504F3#32)) x)
    (mulf (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 8192] md slices_S8x9216_S8x1024_0_8192))))
      (mulf (broadcastInDim S8x2048x1024 ![] bcast_S_S8x2048x1024 (constant S_ .f32 0x3F000000#32)) (Host.dotGeneral dot_S8x2048x2816_S2816x1024_S8x2048x1024_2_0_01_1_n_n none g w)))

/-- The rows' averages. -/
def refMean (y : FVec Ideal S8x2048x1024 .f32) : FVec Ideal S8x2048x1 .f32 :=
  Host.divf (broadcastInDim S8x2048x1 ![0, 1] bcast_S8x2048_S8x2048x1_0_1 (Host.reduceAdd y (constant S_ .f32 0x00000000#32) reducesTo_S8x2048x1024_S8x2048_d2 h_S_))
    (broadcastInDim S8x2048x1 ![] bcast_S_S8x2048x1 (constant S_ .f32 0x44800000#32))

/-- The rows less their averages. -/
def refC (y : FVec Ideal S8x2048x1024 .f32) : FVec Ideal S8x2048x1024 .f32 :=
  subf y (broadcastInDim S8x2048x1024 ![0, 1, 2] bcast_S8x2048x1_S8x2048x1024_0_1_2 (refMean y))

theorem refH_apply (x : FVec Ideal S8x2048x1024 .f32) (md : FVec Ideal S8x9216 .f32) (b : Fin 8) (s : Fin 2048) (d : Fin 1024) :
    refH x md (ix3 b s d) = x (ix3 b s d) * (Ideal.ofBits .f32 0x3F800000#32 + md (ix2 b ⟨7168 + d.val, by omega⟩)) + md (ix2 b ⟨6144 + d.val, by omega⟩) := by
  pointwise [refH]

theorem refP_apply (h : FVec Ideal S8x2048x1024 .f32) (w : FVec Ideal S1024x5632 .f32) (b : Fin 8) (s : Fin 2048) (e : Fin 5632) :
    refP h w (ix3 b s e) = ∑ d : Fin 1024, h (ix3 b s d) * w (ix2 d e) := by
  pointwise [refP]

theorem refG_apply (p : FVec Ideal S8x2048x5632 .f32) (b : Fin 8) (s : Fin 2048) (e : Fin 2816) :
    refG p (ix3 b s e) = gated (p (ix3 b s ⟨e.val, by omega⟩)) (p (ix3 b s ⟨2816 + e.val, by omega⟩)) := by
  pointwise [refG]
  rfl

theorem refY_apply (x : FVec Ideal S8x2048x1024 .f32) (md : FVec Ideal S8x9216 .f32) (g : FVec Ideal S8x2048x2816 .f32) (w : FVec Ideal S2816x1024 .f32) (b : Fin 8) (s : Fin 2048) (k : Fin 1024) :
    refY x md g w (ix3 b s k) = Ideal.ofBits .f32 0x3FB504F3#32 * x (ix3 b s k)
      + (Ideal.ofBits .f32 0x3F800000#32 + md (ix2 b ⟨8192 + k.val, by omega⟩)) * (Ideal.ofBits .f32 0x3F000000#32 * ∑ e : Fin 2816, g (ix3 b s e) * w (ix2 e k)) := by
  pointwise [refY]

theorem refMean_apply (y : FVec Ideal S8x2048x1024 .f32) (b : Fin 8) (s : Fin 2048) (z : Fin 1) :
    refMean y (ix3 b s z) = mean fun k => y (ix3 b s k) := by
  pointwise [refMean]
  rfl

theorem refC_apply (y : FVec Ideal S8x2048x1024 .f32) (b : Fin 8) (s : Fin 2048) (k : Fin 1024) :
    refC y (ix3 b s k) = y (ix3 b s k) - mean fun k => y (ix3 b s k) := by
  pointwise [refC]
  rw [refMean_apply]

/-- The layer norm, laid out as a matrix: `y` less its rows' averages in `z`, over the root of the averaged squares, scaled and shifted. -/
def refLast (z : FVec Ideal S8x2048x1024 .f32) (g b : FVec Ideal S3x1024 .f32) : FVec Ideal S16384x1024 .f32 :=
  shapeCast _ (addf (mulf (mulf z
      (broadcastInDim S8x2048x1024 ![0, 1, 2] bcast_S8x2048x1_S8x2048x1024_0_1_2 (Host.rsqrt (addf (refMean (mulf z z)) (broadcastInDim S8x2048x1 ![] bcast_S_S8x2048x1 (constant S_ .f32 0x3727C5AC#32))))))
      (broadcastInDim S8x2048x1024 ![0, 1, 2] bcast_S1x1x1024_S8x2048x1024_0_1_2 (broadcastInDim S1x1x1024 ![2] bcast_S1024_S1x1x1024_2 (shapeCast _ (extractStridedSlice S1x1024 ![2, 0] g slices_S3x1024_S1x1024_2_0) shapeCasts_S1x1024_S1024))))
    (broadcastInDim S8x2048x1024 ![0, 1, 2] bcast_S1x1x1024_S8x2048x1024_0_1_2 (broadcastInDim S1x1x1024 ![2] bcast_S1024_S1x1x1024_2 (shapeCast _ (extractStridedSlice S1x1024 ![2, 0] b slices_S3x1024_S1x1024_2_0) shapeCasts_S1x1024_S1024))))
    shapeCasts_S8x2048x1024_S16384x1024

theorem refLast_apply (z : FVec Ideal S8x2048x1024 .f32) (g b : FVec Ideal S3x1024 .f32) (R : Fin 16384) (C : Fin 1024) :
    refLast z g b (ix2 R C) = z (ix3 ⟨R.val / 2048, by omega⟩ ⟨R.val % 2048, by omega⟩ C)
      * Ideal.rsqrt (mean (fun k => z (ix3 ⟨R.val / 2048, by omega⟩ ⟨R.val % 2048, by omega⟩ k) * z (ix3 ⟨R.val / 2048, by omega⟩ ⟨R.val % 2048, by omega⟩ k)) + Ideal.ofBits .f32 0x3727C5AC#32)
      * g (ix2 2 C) + b (ix2 2 C) := by
  pointwise [refLast]
  simp only [refMean_apply]
  rfl

/-- The reference's result from its arguments. -/
def refOut (x : FVec Ideal S8x2048x1024 .f32) (md : FVec Ideal S8x9216 .f32) (wi : FVec Ideal S1024x5632 .f32) (wo : FVec Ideal S2816x1024 .f32)
    (g b : FVec Ideal S3x1024 .f32) : FVec Ideal S16384x1024 .f32 :=
  refLast (refC (refY x md (refG (refP (refH x md) wi)) wo)) g b

/-- Each token's result is the row's. -/
theorem refOut_apply (x : FVec Ideal S8x2048x1024 .f32) (md : FVec Ideal S8x9216 .f32) (wi : FVec Ideal S1024x5632 .f32) (wo : FVec Ideal S2816x1024 .f32)
    (g b : FVec Ideal S3x1024 .f32) (R : Fin 16384) (C : Fin 1024) :
    refOut x md wi wo g b (ix2 R C)
      = row (fun k => x (ix3 ⟨R.val / 2048, by omega⟩ ⟨R.val % 2048, by omega⟩ k))
        (fun k => md (ix2 ⟨R.val / 2048, by omega⟩ ⟨6144 + k.val, by omega⟩))
        (fun k => md (ix2 ⟨R.val / 2048, by omega⟩ ⟨7168 + k.val, by omega⟩))
        (fun k => md (ix2 ⟨R.val / 2048, by omega⟩ ⟨8192 + k.val, by omega⟩)) wi wo (g (ix2 2 C)) (b (ix2 2 C)) C := by
  unfold refOut row norm branch
  simp only [refLast_apply, refC_apply, refY_apply, refG_apply, refP_apply, refH_apply]

theorem res_eq (m : (ℓ : Loc nD τ sig) → Buf (Elt Ideal) ℓ) (c : Dev nD) :
    Value.res_out0 m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  show Value.res_main_v67 m c = _
  unfold Value.res_main_v67
  rfl

end Cert.Ffn
-- ==== Proof.FfnEquation.lean ====
module

public import proofs.«01_k».proof.Proof.FfnArray
public import proofs.«01_k».proof.Proof.FfnRef

@[expose] public section

set_option maxRecDepth 16384

/-! The feed-forward kernel's result array and the reference's result are the same array. -/

noncomputable section

namespace Cert.Ffn

open Idealize.ShloMosaic Idealize.ShloMosaic.TcCoe Idealize.SL.Sem Idealize.ShloMosaic.StableHlo
open Cert.Attn (Sh2 Sh1)
open scoped BigOperators

section
open Cert.Kernel2Ideal Cert.Kernel2Ideal.Gen
variable (m : (ℓ : Loc nD τ sig) → Buf (Elt Ideal) ℓ) (c : Dev nD)

theorem V_x : V m c main_v0 = shapeCast S16384x1024 (m ((c : Thread nD τ).loc main_arg0)) shapeCasts_S8x2048x1024_S16384x1024 := by
  simp only [V, hostOps0, List.flatten_cons, List.flatten_nil, List.append_nil, List.cons_append, List.nil_append,
    TRef.binary, TRef.unary, TRef.toBuf, TRef.ofBuf, cast_eq]
  after_results_simp
  rfl

theorem V_m : V m c main_v1 = shapeCast S8x9x1024 (m ((c : Thread nD τ).loc main_arg1)) shapeCasts_S8x9216_S8x9x1024 := by
  simp only [V, hostOps0, List.flatten_cons, List.flatten_nil, List.append_nil, List.cons_append, List.nil_append,
    TRef.binary, TRef.unary, TRef.toBuf, TRef.ofBuf, cast_eq]
  after_results_simp
  rfl

theorem V_wi : V m c main_v2 = m ((c : Thread nD τ).loc main_arg2) := by
  simp only [V, hostOps0, List.flatten_cons, List.flatten_nil, List.append_nil, List.cons_append, List.nil_append,
    TRef.binary, TRef.unary, TRef.toBuf, TRef.ofBuf, cast_eq]
  after_results_simp
  rfl

theorem V_wo : V m c main_v3 = m ((c : Thread nD τ).loc main_arg3) := by
  simp only [V, hostOps0, List.flatten_cons, List.flatten_nil, List.append_nil, List.cons_append, List.nil_append,
    TRef.binary, TRef.unary, TRef.toBuf, TRef.ofBuf, cast_eq]
  after_results_simp
  rfl

/-- The tokens as a matrix. -/
theorem tokens_apply (x : FVec Ideal S8x2048x1024 .f32) (R : Fin 16384) (d : Fin 1024) :
    shapeCast S16384x1024 x shapeCasts_S8x2048x1024_S16384x1024 (ix2 R d) = x (ix3 ⟨R.val / 2048, by omega⟩ ⟨R.val % 2048, by omega⟩ d) := by
  pointwise

/-- The modulation as nine rows per batch. -/
theorem modulation_apply (x : FVec Ideal S8x9216 .f32) (b : Fin 8) (j : Fin 9) (d : Fin 1024) :
    shapeCast S8x9x1024 x shapeCasts_S8x9216_S8x9x1024 (ix3 b j d) = x (ix2 b ⟨j.val * 1024 + d.val, by omega⟩) := by
  pointwise

end

/-- A token's result from the reshaped arrays is that from the arguments. -/
theorem rowAt_args (x : FVec Ideal (Sh3 8 2048 1024) .f32) (md : FVec Ideal (Sh2 8 9216) .f32) (wi : FVec Ideal (Sh2 1024 5632) .f32) (wo : FVec Ideal (Sh2 2816 1024) .f32)
    (g b : FVec Ideal (Sh2 3 1024) .f32) (hx : _) (hm : _) (R : Fin 16384) (C : Fin 1024) :
    rowAt (shapeCast (Sh2 16384 1024) x hx) (shapeCast (Sh3 8 9 1024) md hm) wi wo g b R C = refOut x md wi wo g b (ix2 R C) := by
  rw [refOut_apply]
  unfold rowAt
  refine congr (congr (congr (congr (congr (congr (congr (congr (congrArg row ?_) ?_) ?_) ?_) rfl) rfl) rfl) rfl) rfl
  · exact funext fun d => tokens_apply x R d
  · exact funext fun d => modulation_apply md _ 6 d
  · exact funext fun d => modulation_apply md _ 7 d
  · exact funext fun d => modulation_apply md _ 8 d

theorem refOut_congr {x x' : FVec Ideal (Sh3 8 2048 1024) .f32} {md md' : FVec Ideal (Sh2 8 9216) .f32} {wi wi' : FVec Ideal (Sh2 1024 5632) .f32}
    {wo wo' : FVec Ideal (Sh2 2816 1024) .f32} {g g' b b' : FVec Ideal (Sh2 3 1024) .f32} (h0 : x = x') (h1 : md = md') (h2 : wi = wi') (h3 : wo = wo') (h4 : g = g')
    (h5 : b = b') (i : (Sh2 16384 1024).Idx) : refOut x md wi wo g b i = refOut x' md' wi' wo' g' b' i := by
  rw [h0, h1, h2, h3, h4, h5]

theorem rowAt_congr {X X' : Vec Ideal (Sh2 16384 1024) .f32} {M M' : Vec Ideal (Sh3 8 9 1024) .f32} {wi wi' : Vec Ideal (Sh2 1024 5632) .bf16}
    {wo wo' : Vec Ideal (Sh2 2816 1024) .bf16} {g g' b b' : Vec Ideal (Sh2 3 1024) .f32} (h0 : X = X') (h1 : M = M') (h2 : wi = wi') (h3 : wo = wo') (h4 : g = g')
    (h5 : b = b') (R : Fin 16384) (C : Fin 1024) : rowAt X M wi wo g b R C = rowAt X' M' wi' wo' g' b' R C := by
  rw [h0, h1, h2, h3, h4, h5]

/-- The two programs' results agree. -/
theorem result_eq (m : (ℓ : Loc Cert.Kernel2Ideal.nD Cert.Kernel2Ideal.τ Cert.Kernel2Ideal.sig) → Buf (Elt Ideal) ℓ) (c : Dev Cert.Kernel2Ideal.nD)
    (m' : (ℓ : Loc Cert.Reference2Ideal.nD Cert.Reference2Ideal.τ Cert.Reference2Ideal.sig) → Buf (Elt Ideal) ℓ)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    Cert.Reference2Ideal.Value.res_out0 m' c = resultArray m c := by
  have key : ∀ (R : Fin 16384) (C : Fin 1024), Cert.Reference2Ideal.Value.res_out0 m' c (ix2 R C) = resultArray m c (ix2 R C) := fun R C => by
    refine (congrFun (res_eq m' c) (ix2 R C)).trans ?_
    refine (refOut_congr h0 h1 h2 h3 h4 h5 _).trans ?_
    refine (rowAt_args _ _ _ _ _ _ Cert.Kernel2Ideal.Gen.facts.shapeCasts_S8x2048x1024_S16384x1024 Cert.Kernel2Ideal.Gen.facts.shapeCasts_S8x9216_S8x9x1024 R C).symm.trans ?_
    exact (rowAt_congr (V_x m c) (V_m m c) (V_wi m c) (V_wo m c) (Cert.Kernel2Ideal.Gen.V_main_arg4 m c) (Cert.Kernel2Ideal.Gen.V_main_arg5 m c) R C).symm
  funext i
  have hi : i = ix2 (n0 := 16384) (n1 := 1024) (i 0) (i 1) := eq_ix2 i
  rw [hi]
  exact key (i 0) (i 1)

end Cert.Ffn
-- ==== Proof.SguTile.lean ====
module

public import proofs.«01_k».proof.Proof.FfnTile
public import proofs.«01_k».proof.Proof.Gen.Kernel3Ideal.Value

@[expose] public section

set_option maxRecDepth 16384

/-! What the gated unit computes: the numbers one token's row is made of, and the kernel's values read at an index. -/

noncomputable section

namespace Cert.Sgu

open Idealize.ShloMosaic Idealize.ShloMosaic.Pipeline
open Cert.Attn (Sh2 Sh1)
open Cert.Ffn (mean norm)
open Cert.Kernel3Ideal Cert.Kernel3Ideal.Gen
open scoped BigOperators

/-- The exact gelu: `t / 2 · (1 + erf (t / √2))`. -/
def gelu (t : EReal) : EReal :=
  Ideal.ofBits .f32 0x3F000000#32 * t * (1 + Ideal.erf (t * Ideal.ofBits .f32 0x3F3504F3#32))

/-- One row's average of 2048 numbers. -/
def wideMean (y : Fin 2048 → EReal) : EReal := Ideal.div (∑ e, y e) (Ideal.ofBits .f32 0x45000000#32)

/-- One row's layer norm over 2048 numbers. -/
def wideNorm (y : Fin 2048 → EReal) (g b : EReal) (e : Fin 2048) : EReal :=
  (y e - wideMean y) * Ideal.rsqrt (wideMean (fun k => (y k - wideMean y) * (y k - wideMean y)) + Ideal.ofBits .f32 0x3727C5AC#32) * g + b

/-- A hidden column of a row. -/
def act (h : Fin 1024 → EReal) (W : FVec Ideal (Sh2 1024 4096) .bf16) (B : Fin 4096 → EReal) (e : Fin 4096) : EReal :=
  gelu (∑ d : Fin 1024, h d * W (ix2 d e) + B e)

/-- A gate column of a row: among the first 2048. -/
def gateCol (h : Fin 1024 → EReal) (W : FVec Ideal (Sh2 1024 4096) .bf16) (B : Fin 4096 → EReal) (e : Fin 2048) : EReal :=
  act h W B ⟨e.val, by omega⟩

/-- A value column of a row: among the last 2048, normalised. -/
def valCol (h : Fin 1024 → EReal) (W : FVec Ideal (Sh2 1024 4096) .bf16) (B : Fin 4096 → EReal) (g b : Fin 2048 → EReal) (e : Fin 2048) : EReal :=
  wideNorm (fun e => act h W B ⟨2048 + e.val, by omega⟩) (g e) (b e) e

/-- A chunk's values mixed over the positions up to `t` with the column's group's weights, and the bias. -/
def mixed (w : FVec Ideal ⟨3, ![16, 128, 128]⟩ .f32) (β : Fin 128 → Fin 2048 → EReal) (v : Fin 128 → Fin 2048 → EReal) (t : Fin 128) (e : Fin 2048) : EReal :=
  ∑ s : Fin 128, (if s ≤ t then w (ix3 ⟨e.val / 128, by omega⟩ t s) else 0) * v s e + β t e

/-- The gate times the mixed values, from the gate's row and the chunk's values. -/
def gatedCol (w : FVec Ideal ⟨3, ![16, 128, 128]⟩ .f32) (β : Fin 128 → Fin 2048 → EReal) (u : Fin 2048 → EReal) (v : Fin 128 → Fin 2048 → EReal) (t : Fin 128) (e : Fin 2048) : EReal :=
  u e * mixed w β v t e

/-- The unit's output at position `t` of a chunk whose modulated rows are `h`. -/
def unit (h : Fin 128 → Fin 1024 → EReal) (W : FVec Ideal (Sh2 1024 4096) .bf16) (B : Fin 4096 → EReal) (g b : Fin 2048 → EReal)
    (w : FVec Ideal ⟨3, ![16, 128, 128]⟩ .f32) (β : Fin 128 → Fin 2048 → EReal) (O : FVec Ideal (Sh2 2048 1024) .bf16) (t : Fin 128) (k : Fin 1024) : EReal :=
  ∑ e : Fin 2048, gatedCol w β (gateCol (h t) W B) (fun s => valCol (h s) W B g b) t e * O (ix2 e k)

/-- One token's result: its chunk's rows `x`, scaled by `1 + sc` and shifted by `sh`, go through the unit; its output at
    position `t`, scaled by `1 + gate`, is added to the weighted row, and the sum is normalised. -/
def row (x : Fin 128 → Fin 1024 → EReal) (sh sc gate : Fin 1024 → EReal) (W : FVec Ideal (Sh2 1024 4096) .bf16) (B : Fin 4096 → EReal) (g b : Fin 2048 → EReal)
    (w : FVec Ideal ⟨3, ![16, 128, 128]⟩ .f32) (β : Fin 128 → Fin 2048 → EReal) (O : FVec Ideal (Sh2 2048 1024) .bf16) (lg lb : EReal) (t : Fin 128) (c : Fin 1024) : EReal :=
  norm (fun k => Ideal.ofBits .f32 0x3FB504F3#32 * x t k
    + (Ideal.ofBits .f32 0x3F800000#32 + gate k)
      * unit (fun s d => x s d * (Ideal.ofBits .f32 0x3F800000#32 + sc d) + sh d) W B g b w β O t k) lg lb c

theorem pay6_apply (sh sc : Vec Ideal S1x1x1024 .f32) (x : Vec Ideal S512x1024 .f32) (r : Fin 512) (d : Fin 1024) :
    k0_pay6 (F := Ideal) sh sc x (ix2 r d) = x (ix2 r d) * (Ideal.ofBits .f32 0x3F800000#32 + sc (ix3 0 0 d)) + sh (ix3 0 0 d) := by
  pointwise [k0_pay6]

theorem pay11_apply (h : FVec Ideal S512x1024 .bf16) (W : FVec Ideal S1024x2048 .bf16) (B : Vec Ideal S1x2048 .f32) (r : Fin 512) (e : Fin 2048) :
    k0_pay11 (F := Ideal) h W B (ix2 r e) = gelu (∑ d : Fin 1024, h (ix2 r d) * W (ix2 d e) + B (ix2 0 e)) := by
  pointwise [k0_pay11]
  rfl

theorem pay9_apply (sh sc : Vec Ideal S1x1x1024 .f32) (x : Vec Ideal S512x1024 .f32) (W : FVec Ideal S1024x2048 .bf16) (B : Vec Ideal S1x2048 .f32) (r : Fin 512) (e : Fin 2048) :
    k0_pay9 (F := Ideal) sh sc x W B (ix2 r e)
      = gelu (∑ d : Fin 1024, k0_pay6 (F := Ideal) sh sc x (ix2 r d) * W (ix2 d e) + B (ix2 0 e))
        - wideMean fun e => gelu (∑ d : Fin 1024, k0_pay6 (F := Ideal) sh sc x (ix2 r d) * W (ix2 d e) + B (ix2 0 e)) := by
  pointwise [k0_pay9]
  rfl

theorem pay10_apply (g b : FVec Ideal S1x2048 .f32) (y : FVec Ideal S512x2048 .f32) (r : Fin 512) (e : Fin 2048) :
    k0_pay10 (F := Ideal) g b y (ix2 r e)
      = y (ix2 r e) * Ideal.rsqrt (wideMean (fun e => y (ix2 r e) * y (ix2 r e)) + Ideal.ofBits .f32 0x3727C5AC#32) * g (ix2 0 e) + b (ix2 0 e) := by
  pointwise [k0_pay10]
  rfl

theorem pay3_apply (G : FVec Ideal S512x2048 .bf16) (O : FVec Ideal S2048x1024 .bf16) (r : Fin 512) (k : Fin 1024) :
    k0_pay3 (F := Ideal) G O (ix2 r k) = ∑ e : Fin 2048, G (ix2 r e) * O (ix2 e k) := by
  pointwise [k0_pay3]

theorem one_bits : Ideal.ofBits .f32 0x3F800000#32 = 1 := by
  simp [Ideal.ofBits, Ideal.ieee, -EReal.coe_mul]
  norm_num

theorem pay4_apply (gate : Vec Ideal S1x1x1024 .f32) (x f : Vec Ideal S512x1024 .f32) (g b : Vec Ideal S1x1024 .f32) (r : Fin 512) (k : Fin 1024) :
    k0_pay4 (F := Ideal) gate x f g b (ix2 r k)
      = norm (fun k => Ideal.ofBits .f32 0x3FB504F3#32 * x (ix2 r k)
          + (Ideal.ofBits .f32 0x3F800000#32 + gate (ix3 0 0 k)) * Ideal.ofBits .f32 0x3F800000#32 * f (ix2 r k)) (g (ix2 0 k)) (b (ix2 0 k)) k := by
  pointwise [k0_pay4]
  rfl

/-- The causal mask. -/
theorem mask_apply (w : Vec Ideal S1x128x128 .f32) (t s : Fin 128) :
    k0_pay13 (F := Ideal) w (ix2 t s) = if s ≤ t then w (ix3 0 t s) else 0 := by
  pointwise [k0_pay13, k0_pay12]
  rw [Cert.Attn.select_sge (by omega) (by omega)]
  rfl

/-- The gate times the mixed values on a block of 128 positions and 128 columns, as the kernel writes it. -/
theorem piece_apply (U : FVec Ideal S512x2048 .f32) (V : FVec Ideal S512x2048 .bf16) (w : FVec Ideal S128x128 .bf16) (B : FVec Ideal S128x128 .f32) (o p : ℕ)
    (h : S512x2048.Slices ![o, p] S128x128) (hc : S128x128.ShapeCasts S128x128) (r d : Fin 128) (hr : o + 128 ≤ 512) (hd : p + 128 ≤ 2048) :
    truncf .bf16 (mulf (extractStridedSlice S128x128 ![o, p] U h)
      (addf (matmul dot_S128x128_S128x128_S128x128_1_0_0_1_n_n none w (extractStridedSlice S128x128 ![o, p] V h) (constant S128x128 .f32 0x00000000#32)) (shapeCast S128x128 B hc)))
      bitsLt_bf16_f32 (ix2 r d)
      = U (ix2 ⟨o + r.val, by omega⟩ ⟨p + d.val, by omega⟩)
        * (∑ s : Fin 128, w (ix2 r s) * V (ix2 ⟨o + s.val, by omega⟩ ⟨p + d.val, by omega⟩) + B (ix2 r d)) := by
  pointwise

end Cert.Sgu
-- ==== Proof.SguBlock.lean ====
module

public import proofs.«01_k».proof.Proof.FfnBlock
public import proofs.«01_k».proof.Proof.SguTile

@[expose] public section

set_option maxRecDepth 16384

/-! What the gated unit's kernel leaves at one grid point: in its scratch the unit's output on the current tile, in its
output block the normalised rows of the tile before. -/

noncomputable section

namespace Cert.Sgu

open Idealize.ShloMosaic Idealize.ShloMosaic.TcCoe Idealize.SL.Sem Idealize.ShloMosaic.Pipeline
open Cert.Attn (Sh2 Sh1)
open Cert.Ffn (Sh3 ld_mat ld_line ld_row norm)
open Cert.Kernel3Ideal Cert.Kernel3Ideal.Gen
open scoped BigOperators

/-- A tile's modulated row. -/
def tileRow (X : Vec Ideal (Sh2 512 1024) .f32) (M : Vec Ideal (Sh3 1 9 1024) .f32) (r : Fin 512) (d : Fin 1024) : EReal :=
  X (ix2 r d) * (Ideal.ofBits .f32 0x3F800000#32 + M (ix3 0 4 d)) + M (ix3 0 3 d)

theorem tileRow_apply (X : Vec Ideal (Sh2 512 1024) .f32) (M : Vec Ideal (Sh3 1 9 1024) .f32) (i3 i4 : _) (r : Fin 512) (d : Fin 1024) :
    k0_pay6 (F := Ideal) (View.ld M (Rect.unit (s := Sh3 1 9 1024) ![0, 3, 0] ![1, 1, 1024] i3))
      (View.ld M (Rect.unit (s := Sh3 1 9 1024) ![0, 4, 0] ![1, 1, 1024] i4)) X (ix2 r d) = tileRow X M r d := by
  rw [pay6_apply, ld_row M i3 d (by omega), ld_row M i4 d (by omega)]
  rfl

/-- A load of part of a line. -/
theorem ld_part {E : EltTy} {B b p : ℕ} (X : Vec Ideal (Sh2 1 B) E) (inb : _) (c : Fin b) (hc : p + c.val < B) :
    View.ld X (Rect.unit (s := Sh2 1 B) ![0, p] ![1, b] inb) (ix2 0 c) = X (ix2 0 ⟨p + c.val, hc⟩) :=
  (ld_mat X inb 0 c (by simp) hc).trans (congrArg X (congrArg₂ ix2 (Fin.ext (Nat.zero_add _)) rfl))

/-- A hidden column, from the kernel's loads of its weights. -/
theorem act_apply (h : Fin 1024 → EReal) (W : Vec Ideal (Sh2 1024 4096) .bf16) (B : Vec Ideal (Sh2 1 4096) .f32) (p : ℕ) (iw ib : _) (e : Fin 2048) (hp : p + 2048 ≤ 4096) :
    gelu (∑ d : Fin 1024, h d * (View.ld W (Rect.unit (s := Sh2 1024 4096) ![0, p] ![1024, 2048] iw) : FVec Ideal S1024x2048 .bf16) (ix2 d e)
      + (View.ld B (Rect.unit (s := Sh2 1 4096) ![0, p] ![1, 2048] ib) : Vec Ideal S1x2048 .f32) (ix2 0 e))
      = act h W (fun e => B (ix2 0 e)) ⟨p + e.val, by omega⟩ := by
  unfold act
  refine congrArg gelu (congrArg₂ (· + ·) (Finset.sum_congr rfl fun d _ => congrArg (h d * ·) ?_) ?_)
  · exact (ld_mat W iw d e (by omega) (by omega)).trans (congrArg W (congrArg₂ ix2 (Fin.ext (Nat.zero_add _)) rfl))
  · exact ld_part B ib e (by omega)

/-- The gate's columns of a tile, from the kernel's loads. -/
theorem gate_loads (X : Vec Ideal (Sh2 512 1024) .f32) (M : Vec Ideal (Sh3 1 9 1024) .f32) (W : Vec Ideal (Sh2 1024 4096) .bf16) (B : Vec Ideal (Sh2 1 4096) .f32)
    (i3 i4 iw ib : _) (r : Fin 512) (e : Fin 2048) :
    k0_pay11 (F := Ideal) (k0_pay6 (F := Ideal) (View.ld M (Rect.unit (s := Sh3 1 9 1024) ![0, 3, 0] ![1, 1, 1024] i3))
      (View.ld M (Rect.unit (s := Sh3 1 9 1024) ![0, 4, 0] ![1, 1, 1024] i4)) X)
      (View.ld W (Rect.unit (s := Sh2 1024 4096) ![0, 0] ![1024, 2048] iw)) (View.ld B (Rect.unit (s := Sh2 1 4096) ![0, 0] ![1, 2048] ib)) (ix2 r e)
      = gateCol (tileRow X M r) W (fun e => B (ix2 0 e)) e := by
  rw [pay11_apply]
  simp only [tileRow_apply]
  refine (act_apply (tileRow X M r) W B 0 iw ib e (by omega)).trans ?_
  unfold gateCol
  exact congrArg (act _ W _) (Fin.ext (Nat.zero_add _))

/-- The value's columns of a tile, from the kernel's loads. -/
theorem value_loads (X : Vec Ideal (Sh2 512 1024) .f32) (M : Vec Ideal (Sh3 1 9 1024) .f32) (W : Vec Ideal (Sh2 1024 4096) .bf16) (B : Vec Ideal (Sh2 1 4096) .f32)
    (g b : Vec Ideal (Sh2 1 2048) .f32) (i3 i4 iw ib : _) (r : Fin 512) (e : Fin 2048) :
    k0_pay10 (F := Ideal) (k0_pay7 (F := Ideal) g) (k0_pay8 (F := Ideal) b)
      (k0_pay9 (F := Ideal) (View.ld M (Rect.unit (s := Sh3 1 9 1024) ![0, 3, 0] ![1, 1, 1024] i3))
      (View.ld M (Rect.unit (s := Sh3 1 9 1024) ![0, 4, 0] ![1, 1, 1024] i4)) X
      (View.ld W (Rect.unit (s := Sh2 1024 4096) ![0, 2048] ![1024, 2048] iw)) (View.ld B (Rect.unit (s := Sh2 1 4096) ![0, 2048] ![1, 2048] ib))) (ix2 r e)
      = valCol (tileRow X M r) W (fun e => B (ix2 0 e)) (fun e => g (ix2 0 e)) (fun e => b (ix2 0 e)) e := by
  unfold k0_pay7 k0_pay8
  rw [pay10_apply]
  simp only [pay9_apply, tileRow_apply, shapeCast_self]
  simp only [act_apply (tileRow X M r) W B 2048 iw ib _ (by omega)]
  rfl

/-- One block of the gated columns, as the kernel stores it. -/
theorem block_apply (U : FVec Ideal S512x2048 .f32) (V : FVec Ideal S512x2048 .bf16) (w : Vec Ideal (Sh3 16 128 128) .f32) (β : Vec Ideal (Sh2 128 2048) .f32)
    (o p n : ℕ) (h : S512x2048.Slices ![o, p] S128x128) (hc : S128x128.ShapeCasts S128x128) (h3 : S1x128x128.ShapeCasts S128x128) (iw ib : _)
    (ho : o % 128 = 0) (ho' : o + 128 ≤ 512) (hp : p = 128 * n) (hn : n < 16)
    (x : S128x128.Idx) (r : Fin 512) (e : Fin 2048) (h0 : r.val = o + (x 0).val) (h1 : e.val = p + (x 1).val) :
    shapeCast S128x128 (truncf .bf16 (mulf (extractStridedSlice S128x128 ![o, p] U h)
      (addf (matmul dot_S128x128_S128x128_S128x128_1_0_0_1_n_n none
        (truncf .bf16 (select k0_pay12 (shapeCast S128x128 (View.ld w (Rect.unit (s := Sh3 16 128 128) ![n, 0, 0] ![1, 128, 128] iw)) h3)
          (broadcast S128x128 (FloatOps.ofBits (F := Ideal) .f32 0x00000000#32))) bitsLt_bf16_f32)
        (extractStridedSlice S128x128 ![o, p] V h) (constant S128x128 .f32 0x00000000#32))
        (shapeCast S128x128 (View.ld β (Rect.unit (s := Sh2 128 2048) ![0, p] ![128, 128] ib)) hc)))
      bitsLt_bf16_f32) hc x
      = gatedCol w (fun t e => β (ix2 t e)) (fun e => U (ix2 r e)) (fun s e => V (ix2 ⟨r.val / 128 * 128 + s.val, by omega⟩ e)) ⟨r.val % 128, by omega⟩ e := by
  rw [shapeCast_self]
  obtain ⟨a, d, rfl⟩ : ∃ (a d : Fin 128), x = ix2 a d := ⟨x 0, x 1, by funext a; match a with | ⟨0, _⟩ => rfl | ⟨1, _⟩ => rfl⟩
  have h0' : r.val = o + a.val := h0
  have h1' : e.val = p + d.val := h1
  refine (piece_apply U V _ _ o p h hc a d ho' (by omega)).trans ?_
  unfold gatedCol mixed
  refine congrArg₂ (· * ·) (congrArg U (congrArg₂ ix2 (Fin.ext h0'.symm) (Fin.ext h1'.symm))) (congrArg₂ (· + ·) (Finset.sum_congr rfl fun s _ => congrArg₂ (· * ·) ?_ ?_) ?_)
  · refine (mask_apply _ a s).trans ?_
    have hra : r.val % 128 = a.val := by omega
    have hle : (s ≤ a) = (s ≤ (⟨r.val % 128, by omega⟩ : Fin 128)) := by
      show (s.val ≤ a.val) = (s.val ≤ r.val % 128)
      rw [hra]
    simp only [hle]
    refine if_congr Iff.rfl ?_ rfl
    refine congrArg w (funext fun t => Fin.ext ?_)
    match t with
    | ⟨0, _⟩ => show n + 1 * 0 = e.val / 128; omega
    | ⟨1, _⟩ => show 0 + 1 * a.val = r.val % 128; omega
    | ⟨2, _⟩ => show 0 + 1 * s.val = s.val; omega
  · exact congrArg V (congrArg₂ ix2 (Fin.ext (by show o + s.val = r.val / 128 * 128 + s.val; omega)) (Fin.ext h1'.symm))
  · refine (ld_mat β ib a d (by omega) (by omega)).trans (congrArg β (congrArg₂ ix2 (Fin.ext ?_) (Fin.ext h1'.symm)))
    show 0 + a.val = r.val % 128; omega

variable (m : (ℓ : Loc nD τ sig) → Buf (Elt Ideal) ℓ) (c : Dev nD)

/-- The unit's output on a tile, from its rows, its batch's modulation and the weights. -/
def tileUnit (X : Vec Ideal (Sh2 512 1024) .f32) (M : Vec Ideal (Sh3 1 9 1024) .f32) (W : Vec Ideal (Sh2 1024 4096) .bf16) (B : Vec Ideal (Sh2 1 4096) .f32)
    (g b : Vec Ideal (Sh2 1 2048) .f32) (w : Vec Ideal (Sh3 16 128 128) .f32) (β : Vec Ideal (Sh2 128 2048) .f32) (O : Vec Ideal (Sh2 2048 1024) .bf16)
    (r : Fin 512) (k : Fin 1024) : EReal :=
  unit (fun s => tileRow X M ⟨r.val / 128 * 128 + s.val, by omega⟩) W (fun e => B (ix2 0 e)) (fun e => g (ix2 0 e)) (fun e => b (ix2 0 e)) w
    (fun t e => β (ix2 t e)) O ⟨r.val % 128, by omega⟩ k

/-- The gated columns of a tile. -/
def tileGated (U : FVec Ideal S512x2048 .f32) (V : FVec Ideal S512x2048 .bf16) (w : Vec Ideal (Sh3 16 128 128) .f32) (β : Vec Ideal (Sh2 128 2048) .f32) (i : S512x2048.Idx) : EReal :=
  gatedCol w (fun t e => β (ix2 t e)) (fun e => U (ix2 (i 0) e)) (fun s e => V (ix2 ⟨(i 0).val / 128 * 128 + s.val, by have := (i 0).isLt; simp only [S512x2048] at this; change (i 0).val < 512 at this; omega⟩ e)) ⟨(i 0).val % 128, by omega⟩ (i 1)

/-- The first group's product is taken from the same values as the rest. -/
theorem first_product (a b : FVec Ideal S1x2048 .f32) (y : FVec Ideal S512x2048 .f32) (w : Vec Ideal S1x128x128 .f32) :
    k0_pay14 (F := Ideal) a b y w = matmul dot_S128x128_S128x128_S128x128_1_0_0_1_n_n none (k0_pay13 (F := Ideal) w)
      (extractStridedSlice S128x128 ![0, 0] (k0_pay10 (F := Ideal) a b y) slices_S512x2048_o0_0_S128x128) (constant S128x128 .f32 0x00000000#32) := rfl

set_option maxHeartbeats 4000000 in
/-- The scratch after a point that computes a tile. -/
theorem scratch_eq (t : Fin cfg0.N) (h1 : t.val < 32) :
    (outsAt0 m c t.val t.isLt).2 = k0_pay3 (F := Ideal)
      (tileGated (k0_pay11 (F := Ideal) (k0_pay6 (F := Ideal) (View.ld (iblk m c 2 t) (Rect.unit ![0, 3, 0] ![1, 1, 1024] inb_S1x9x1024_S1x1x1024_0_3_0))
          (View.ld (iblk m c 2 t) (Rect.unit ![0, 4, 0] ![1, 1, 1024] inb_S1x9x1024_S1x1x1024_0_4_0)) (iblk m c 0 t))
          (View.ld (iblk m c 4 t) (Rect.unit ![0, 0] ![1024, 2048] inb_S1024x4096_S1024x2048_0_0))
          (View.ld (iblk m c 5 t) (Rect.unit ![0, 0] ![1, 2048] inb_S1x4096_S1x2048_0_0)))
        (k0_pay10 (F := Ideal) (k0_pay7 (F := Ideal) (iblk m c 6 t)) (k0_pay8 (F := Ideal) (iblk m c 7 t))
          (k0_pay9 (F := Ideal) (View.ld (iblk m c 2 t) (Rect.unit ![0, 3, 0] ![1, 1, 1024] inb_S1x9x1024_S1x1x1024_0_3_0))
            (View.ld (iblk m c 2 t) (Rect.unit ![0, 4, 0] ![1, 1, 1024] inb_S1x9x1024_S1x1x1024_0_4_0)) (iblk m c 0 t)
            (View.ld (iblk m c 4 t) (Rect.unit ![0, 2048] ![1024, 2048] inb_S1024x4096_S1024x2048_0_2048))
            (View.ld (iblk m c 5 t) (Rect.unit ![0, 2048] ![1, 2048] inb_S1x4096_S1x2048_0_2048))))
        (iblk m c 8 t) (iblk m c 9 t)) (iblk m c 10 t) := by
  by_cases h0 : t.val % 33 = 0
  on_goal 1 => rw [outsAt0_A m c t h0 h1 (by omega)]
  on_goal 2 => rw [outsAt0_B m c t h0 h1 (by omega)]
  all_goals
    frame_out
    rw [first_product]
    generalize (k0_pay10 (F := Ideal) _ _ _) = V
    generalize (k0_pay11 (F := Ideal) _ _ _) = U
    refine congrArg (fun x => k0_pay3 (F := Ideal) x (iblk m c 10 t)) (funext fun i => ?_)
    have hi : (Rect.unit ![0, 0] ![512, 2048] inb_S512x2048_S512x2048_0_0).idx i = i := by
      funext a
      refine Fin.ext ((Rect.idx_unit_val _ _ _ i a).trans ?_)
      match a with
      | ⟨0, _⟩ => exact Nat.zero_add _
      | ⟨1, _⟩ => exact Nat.zero_add _
    rw [View.readCov_eq_canon']
    refine Eq.trans ?_ (congrArg (tileGated U V (iblk m c 8 t) (iblk m c 9 t)) hi)
    canon_tiles x h
    all_goals
      open_payloads
      exact block_apply U V (iblk m c 8 t) (iblk m c 9 t) _ _ _ _ _ _ _ _ (by decide) (by decide) (by decide) (by decide) x _ _ (h0.trans (by simp only [Nat.zero_add])) (h1.trans (by simp only [Nat.zero_add]))

/-- The scratch after a point that computes a tile, index by index. -/
theorem scratch_apply (t : Fin cfg0.N) (h1 : t.val < 32) (r : Fin 512) (k : Fin 1024) :
    (outsAt0 m c t.val t.isLt).2 (ix2 r k) = tileUnit (iblk m c 0 t) (iblk m c 2 t) (iblk m c 4 t) (iblk m c 5 t) (iblk m c 6 t) (iblk m c 7 t) (iblk m c 8 t)
      (iblk m c 9 t) (iblk m c 10 t) r k := by
  refine (congrFun (scratch_eq m c t h1) (ix2 r k)).trans ?_
  refine (pay3_apply _ _ r k).trans ?_
  unfold tileUnit unit
  refine Finset.sum_congr rfl fun e _ => congrArg (· * _) ?_
  have hr : (⟨r.val / 128 * 128 + r.val % 128, by omega⟩ : Fin 512) = r := Fin.ext (Nat.div_add_mod' _ _)
  unfold tileGated
  refine congrArg₂ (fun u v => gatedCol _ _ u v _ _) (funext fun e => ?_) (funext fun s => funext fun e => ?_)
  · refine (gate_loads (iblk m c 0 t) (iblk m c 2 t) (iblk m c 4 t) (iblk m c 5 t) _ _ _ _ r e).trans ?_
    exact congrArg (fun r => gateCol (tileRow (iblk m c 0 t) (iblk m c 2 t) r) (iblk m c 4 t) (fun e => iblk m c 5 t (ix2 0 e)) e) hr.symm
  · exact value_loads (iblk m c 0 t) (iblk m c 2 t) (iblk m c 4 t) (iblk m c 5 t) (iblk m c 6 t) (iblk m c 7 t) _ _ _ _ _ e

/-- A tile's normalised rows, from its rows, its batch's modulation, the unit's output and the norm's two rows. -/
def tileNorm (X : Vec Ideal (Sh2 512 1024) .f32) (M : Vec Ideal (Sh3 1 9 1024) .f32) (f : Fin 512 → Fin 1024 → EReal)
    (g b : Vec Ideal (Sh2 3 1024) .f32) (r : Fin 512) (k : Fin 1024) : EReal :=
  norm (fun k => Ideal.ofBits .f32 0x3FB504F3#32 * X (ix2 r k)
    + (Ideal.ofBits .f32 0x3F800000#32 + M (ix3 0 5 k)) * f r k) (g (ix2 1 k)) (b (ix2 1 k)) k

theorem norm_loads (X : Vec Ideal (Sh2 512 1024) .f32) (M : Vec Ideal (Sh3 1 9 1024) .f32) (f : Vec Ideal (Sh2 512 1024) .f32)
    (g b : Vec Ideal (Sh2 3 1024) .f32) (i5 ig ib : _) (r : Fin 512) (k : Fin 1024) :
    k0_pay4 (F := Ideal) (View.ld M (Rect.unit (s := Sh3 1 9 1024) ![0, 5, 0] ![1, 1, 1024] i5)) X f
      (View.ld g (Rect.unit (s := Sh2 3 1024) ![1, 0] ![1, 1024] ig)) (View.ld b (Rect.unit (s := Sh2 3 1024) ![1, 0] ![1, 1024] ib)) (ix2 r k)
      = tileNorm X M (fun r k => f (ix2 r k)) g b r k := by
  unfold tileNorm
  rw [pay4_apply, ld_line g ig k (by omega), ld_line b ib k (by omega)]
  refine congrArg (fun y => norm y _ _ k) (funext fun j => ?_)
  rw [ld_row M i5 j (by omega), show Ideal.ofBits .f32 0x3F800000#32 = 1 from one_bits, mul_one]
  rfl

/-- The output block after a point that finishes the tile before. -/
theorem out_eq (t : Fin cfg0.N) (h : ¬t.val = 0) (r : Fin 512) (k : Fin 1024) :
    (outsAt0 m c t.val t.isLt).1 (ix2 r k) = tileNorm (iblk m c 1 t) (iblk m c 3 t)
      (fun r k => (outsAt0 m c (t.val - 1) (Nat.lt_of_le_of_lt (Nat.sub_le _ _) t.isLt)).2 (ix2 r k)) (iblk m c 11 t) (iblk m c 12 t) r k := by
  have hN : t.val < 33 := t.isLt
  refine Eq.trans ?_ (norm_loads (iblk m c 1 t) (iblk m c 3 t) (outsAt0 m c (t.val - 1) (Nat.lt_of_le_of_lt (Nat.sub_le _ _) t.isLt)).2
    (iblk m c 11 t) (iblk m c 12 t) inb_S1x9x1024_S1x1x1024_0_5_0 inb_S3x1024_S1x1024_1_0 inb_S3x1024_S1x1024_1_0 r k)
  refine congrFun ?_ (ix2 r k)
  have hr : View.read (Elt Ideal) (View.whole cc0_scratch1) ((Memref.isWhole_whole cc0_scratch1).unread (outsAt0 m c (t.val - 1) (Nat.lt_of_le_of_lt (Nat.sub_le _ _) t.isLt)).2)
      = (outsAt0 m c (t.val - 1) (Nat.lt_of_le_of_lt (Nat.sub_le _ _) t.isLt)).2 := (Memref.isWhole_whole cc0_scratch1).read_unread _
  by_cases h1 : t.val < 32
  on_goal 1 => rw [outsAt0_B m c t (by omega) h1 (by omega)]
  on_goal 2 => rw [outsAt0_C m c t (by omega) h1 (by omega)]
  all_goals
    frame_out
    rw [hr]
  all_goals rfl

end Cert.Sgu
-- ==== Proof.SguArray.lean ====
module

public import proofs.«01_k».proof.Proof.SguBlock

@[expose] public section

set_option maxRecDepth 16384

/-! The gated unit's result array: tile by tile, the normalised rows that its grid's points write back. -/

noncomputable section

namespace Cert.Sgu

open Idealize.ShloMosaic Idealize.ShloMosaic.TcCoe Idealize.SL.Sem Idealize.ShloMosaic.Pipeline
open Cert.Attn (Sh2 Sh1)
open Cert.Ffn (Sh3 norm)
open Cert.Kernel3Ideal Cert.Kernel3Ideal.Gen
open scoped BigOperators

/-- The unit's output for row `R` at column `C`, from the arrays. -/
def unitAt (X : Vec Ideal (Sh2 16384 1024) .f32) (M : Vec Ideal (Sh3 8 9 1024) .f32) (W : Vec Ideal (Sh2 1024 4096) .bf16) (B : Vec Ideal (Sh2 1 4096) .f32)
    (g b : Vec Ideal (Sh2 1 2048) .f32) (w : Vec Ideal (Sh3 16 128 128) .f32) (β : Vec Ideal (Sh2 128 2048) .f32) (O : Vec Ideal (Sh2 2048 1024) .bf16)
    (R : Fin 16384) (C : Fin 1024) : EReal :=
  unit (fun s d => X (ix2 ⟨R.val / 128 * 128 + s.val, by omega⟩ d) * (Ideal.ofBits .f32 0x3F800000#32 + M (ix3 ⟨R.val / 2048, by omega⟩ 4 d))
      + M (ix3 ⟨R.val / 2048, by omega⟩ 3 d)) W (fun e => B (ix2 0 e)) (fun e => g (ix2 0 e)) (fun e => b (ix2 0 e)) w (fun t e => β (ix2 t e)) O
    ⟨R.val % 128, by omega⟩ C

/-- The result at row `R` and column `C`, from the arrays. -/
def rowAt (X : Vec Ideal (Sh2 16384 1024) .f32) (M : Vec Ideal (Sh3 8 9 1024) .f32) (W : Vec Ideal (Sh2 1024 4096) .bf16) (B : Vec Ideal (Sh2 1 4096) .f32)
    (g b : Vec Ideal (Sh2 1 2048) .f32) (w : Vec Ideal (Sh3 16 128 128) .f32) (β : Vec Ideal (Sh2 128 2048) .f32) (O : Vec Ideal (Sh2 2048 1024) .bf16)
    (lg lb : Vec Ideal (Sh2 3 1024) .f32) (R : Fin 16384) (C : Fin 1024) : EReal :=
  norm (fun k => Ideal.ofBits .f32 0x3FB504F3#32 * X (ix2 R k)
    + (Ideal.ofBits .f32 0x3F800000#32 + M (ix3 ⟨R.val / 2048, by omega⟩ 5 k)) * unitAt X M W B g b w β O R k) (lg (ix2 1 C)) (lb (ix2 1 C)) C

theorem point_lt (t : Fin cfg0.N) : t.val < 33 := t.isLt

/-- The tiles and batches the windows hold, from the grid point's number. -/
theorem tile_facts : ∀ t : Fin cfg0.N,
    win0_0.index t 0 = min t.val 31 ∧ win0_0.index t 1 = 0 ∧ win0_1.index t 0 = t.val - 1 ∧ win0_1.index t 1 = 0
      ∧ win0_2.index t 0 = min t.val 31 / 4 ∧ win0_2.index t 1 = 0 ∧ win0_2.index t 2 = 0
      ∧ win0_3.index t 0 = (t.val - 1) / 4 ∧ win0_3.index t 1 = 0 ∧ win0_3.index t 2 = 0 :=
  (by decide +kernel : ∀ t : Fin grid0.N,
    win0_0.index t 0 = min t.val 31 ∧ win0_0.index t 1 = 0 ∧ win0_1.index t 0 = t.val - 1 ∧ win0_1.index t 1 = 0
      ∧ win0_2.index t 0 = min t.val 31 / 4 ∧ win0_2.index t 1 = 0 ∧ win0_2.index t 2 = 0
      ∧ win0_3.index t 0 = (t.val - 1) / 4 ∧ win0_3.index t 1 = 0 ∧ win0_3.index t 2 = 0)

/-- The weights' windows hold the whole arrays. -/
theorem weight_facts : ∀ t : Fin cfg0.N,
    win0_4.index t = 0 ∧ win0_5.index t = 0 ∧ win0_6.index t = 0 ∧ win0_7.index t = 0 ∧ win0_8.index t = 0
      ∧ win0_9.index t = 0 ∧ win0_10.index t = 0 ∧ win0_11.index t = 0 ∧ win0_12.index t = 0 :=
  (by decide +kernel : ∀ t : Fin grid0.N,
    win0_4.index t = 0 ∧ win0_5.index t = 0 ∧ win0_6.index t = 0 ∧ win0_7.index t = 0 ∧ win0_8.index t = 0
      ∧ win0_9.index t = 0 ∧ win0_10.index t = 0 ∧ win0_11.index t = 0 ∧ win0_12.index t = 0)

/-- The output's window holds the tile before the point's. -/
theorem out_facts : ∀ t : Fin cfg0.N, win0_13.index t 0 = t.val - 1 ∧ win0_13.index t 1 = 0 :=
  (by decide +kernel : ∀ t : Fin grid0.N, win0_13.index t 0 = t.val - 1 ∧ win0_13.index t 1 = 0)

/-- Every point but the first writes its output block back. -/
theorem flush_facts : ∀ t : Fin cfg0.N, (cfg0.win 13).flush t = decide (t.val ≠ 0) :=
  (by decide +kernel : ∀ t : Fin grid0.N, (cfg0.win 13).flush t = decide (t.val ≠ 0))

/-- An index in a block that starts at zero. -/
theorem from_zero {k : ℕ} (n v : ℕ) (h : k = 0) : k * n + 1 * v = v := by
  subst h; omega

variable (m : (ℓ : Loc nD τ sig) → Buf (Elt Ideal) ℓ) (c : Dev nD)

/-- The current tile's rows. -/
theorem iblk_x (t : Fin cfg0.N) (r : Fin 512) (d : Fin 1024) :
    iblk m c 0 t (ix2 r d) = V m c main_v0 (ix2 (n0 := 16384) (n1 := 1024) ⟨min t.val 31 * 512 + r.val, by omega⟩ d) := by
  obtain ⟨h0, h1, _⟩ := tile_facts t
  refine congrArg (V m c main_v0) (funext fun a => Fin.ext ?_)
  match a with
  | ⟨0, _⟩ =>
    show win0_0.index t 0 * 512 + 1 * r.val = _
    rw [h0, Nat.one_mul]; rfl
  | ⟨1, _⟩ =>
    show win0_0.index t 1 * 1024 + 1 * d.val = _
    rw [h1, Nat.one_mul, Nat.zero_mul, Nat.zero_add]; rfl

/-- The rows of the tile before. -/
theorem iblk_x' (t : Fin cfg0.N) (r : Fin 512) (d : Fin 1024) :
    iblk m c 1 t (ix2 r d) = V m c main_v0 (ix2 (n0 := 16384) (n1 := 1024) ⟨(t.val - 1) * 512 + r.val, by have := point_lt t; omega⟩ d) := by
  obtain ⟨_, _, h0, h1, _⟩ := tile_facts t
  refine congrArg (V m c main_v0) (funext fun a => Fin.ext ?_)
  match a with
  | ⟨0, _⟩ =>
    show win0_1.index t 0 * 512 + 1 * r.val = _
    rw [h0, Nat.one_mul]; rfl
  | ⟨1, _⟩ =>
    show win0_1.index t 1 * 1024 + 1 * d.val = _
    rw [h1, Nat.one_mul, Nat.zero_mul, Nat.zero_add]; rfl

/-- The current tile's modulation. -/
theorem iblk_m (t : Fin cfg0.N) (j : Fin 9) (d : Fin 1024) :
    iblk m c 2 t (ix3 0 j d) = V m c main_v1 (ix3 (n0 := 8) (n1 := 9) (n2 := 1024) ⟨min t.val 31 / 4, by omega⟩ j d) := by
  obtain ⟨_, _, _, _, h0, h1, h2, _⟩ := tile_facts t
  refine congrArg (V m c main_v1) (funext fun a => Fin.ext ?_)
  match a with
  | ⟨0, _⟩ =>
    show win0_2.index t 0 * 1 + 1 * 0 = min t.val 31 / 4
    rw [h0]; omega
  | ⟨1, _⟩ =>
    show win0_2.index t 1 * 9 + 1 * j.val = _
    rw [h1, Nat.one_mul, Nat.zero_mul, Nat.zero_add]; rfl
  | ⟨2, _⟩ =>
    show win0_2.index t 2 * 1024 + 1 * d.val = _
    rw [h2, Nat.one_mul, Nat.zero_mul, Nat.zero_add]; rfl

/-- The modulation of the tile before. -/
theorem iblk_m' (t : Fin cfg0.N) (j : Fin 9) (d : Fin 1024) :
    iblk m c 3 t (ix3 0 j d) = V m c main_v1 (ix3 (n0 := 8) (n1 := 9) (n2 := 1024) ⟨(t.val - 1) / 4, by have := point_lt t; omega⟩ j d) := by
  obtain ⟨_, _, _, _, _, _, _, h0, h1, h2⟩ := tile_facts t
  refine congrArg (V m c main_v1) (funext fun a => Fin.ext ?_)
  match a with
  | ⟨0, _⟩ =>
    show win0_3.index t 0 * 1 + 1 * 0 = (t.val - 1) / 4
    rw [h0]; omega
  | ⟨1, _⟩ =>
    show win0_3.index t 1 * 9 + 1 * j.val = _
    rw [h1, Nat.one_mul, Nat.zero_mul, Nat.zero_add]; rfl
  | ⟨2, _⟩ =>
    show win0_3.index t 2 * 1024 + 1 * d.val = _
    rw [h2, Nat.one_mul, Nat.zero_mul, Nat.zero_add]; rfl

theorem iblk_w (t : Fin cfg0.N) : iblk m c 4 t = V m c main_v2 := by
  obtain ⟨h, _⟩ := weight_facts t
  exact funext fun i => congrArg (V m c main_v2) (funext fun a => Fin.ext (match a with
    | ⟨0, _⟩ => from_zero 1024 (i 0).val (congrFun h 0)
    | ⟨1, _⟩ => from_zero 4096 (i 1).val (congrFun h 1)))

theorem iblk_bias (t : Fin cfg0.N) : iblk m c 5 t = V m c main_v3 := by
  obtain ⟨_, h, _⟩ := weight_facts t
  exact funext fun i => congrArg (V m c main_v3) (funext fun a => Fin.ext (match a with
    | ⟨0, _⟩ => from_zero 1 (i 0).val (congrFun h 0)
    | ⟨1, _⟩ => from_zero 4096 (i 1).val (congrFun h 1)))

theorem iblk_ug (t : Fin cfg0.N) : iblk m c 6 t = V m c main_v4 := by
  obtain ⟨_, _, h, _⟩ := weight_facts t
  exact funext fun i => congrArg (V m c main_v4) (funext fun a => Fin.ext (match a with
    | ⟨0, _⟩ => from_zero 1 (i 0).val (congrFun h 0)
    | ⟨1, _⟩ => from_zero 2048 (i 1).val (congrFun h 1)))

theorem iblk_ub (t : Fin cfg0.N) : iblk m c 7 t = V m c main_v5 := by
  obtain ⟨_, _, _, h, _⟩ := weight_facts t
  exact funext fun i => congrArg (V m c main_v5) (funext fun a => Fin.ext (match a with
    | ⟨0, _⟩ => from_zero 1 (i 0).val (congrFun h 0)
    | ⟨1, _⟩ => from_zero 2048 (i 1).val (congrFun h 1)))

theorem iblk_ws (t : Fin cfg0.N) : iblk m c 8 t = V m c main_arg6 := by
  obtain ⟨_, _, _, _, h, _⟩ := weight_facts t
  exact funext fun i => congrArg (V m c main_arg6) (funext fun a => Fin.ext (match a with
    | ⟨0, _⟩ => from_zero 16 (i 0).val (congrFun h 0)
    | ⟨1, _⟩ => from_zero 128 (i 1).val (congrFun h 1)
    | ⟨2, _⟩ => from_zero 128 (i 2).val (congrFun h 2)))

theorem iblk_bs (t : Fin cfg0.N) : iblk m c 9 t = V m c main_v8 := by
  obtain ⟨_, _, _, _, _, h, _⟩ := weight_facts t
  exact funext fun i => congrArg (V m c main_v8) (funext fun a => Fin.ext (match a with
    | ⟨0, _⟩ => from_zero 128 (i 0).val (congrFun h 0)
    | ⟨1, _⟩ => from_zero 2048 (i 1).val (congrFun h 1)))

theorem iblk_wo (t : Fin cfg0.N) : iblk m c 10 t = V m c main_v9 := by
  obtain ⟨_, _, _, _, _, _, h, _⟩ := weight_facts t
  exact funext fun i => congrArg (V m c main_v9) (funext fun a => Fin.ext (match a with
    | ⟨0, _⟩ => from_zero 2048 (i 0).val (congrFun h 0)
    | ⟨1, _⟩ => from_zero 1024 (i 1).val (congrFun h 1)))

theorem iblk_lg (t : Fin cfg0.N) : iblk m c 11 t = V m c main_arg9 := by
  obtain ⟨_, _, _, _, _, _, _, h, _⟩ := weight_facts t
  exact funext fun i => congrArg (V m c main_arg9) (funext fun a => Fin.ext (match a with
    | ⟨0, _⟩ => from_zero 3 (i 0).val (congrFun h 0)
    | ⟨1, _⟩ => from_zero 1024 (i 1).val (congrFun h 1)))

theorem iblk_lb (t : Fin cfg0.N) : iblk m c 12 t = V m c main_arg10 := by
  obtain ⟨_, _, _, _, _, _, _, _, h⟩ := weight_facts t
  exact funext fun i => congrArg (V m c main_arg10) (funext fun a => Fin.ext (match a with
    | ⟨0, _⟩ => from_zero 3 (i 0).val (congrFun h 0)
    | ⟨1, _⟩ => from_zero 1024 (i 1).val (congrFun h 1)))

/-- The result array, index by index. -/
def resultArray (i : (Sh2 16384 1024).Idx) : EReal :=
  rowAt (V m c main_v0) (V m c main_v1) (V m c main_v2) (V m c main_v3) (V m c main_v4) (V m c main_v5) (V m c main_arg6) (V m c main_v8) (V m c main_v9) (V m c main_arg9) (V m c main_arg10) (i 0) (i 1)

/-- The scratch a point leaves: the unit's output for its tile's rows. -/
theorem scratch_rows (n : ℕ) (hn : n < cfg0.N) (h : n < 32) (r : Fin 512) (k : Fin 1024) :
    (outsAt0 m c n hn).2 (ix2 r k) = unitAt (V m c main_v0) (V m c main_v1) (V m c main_v2) (V m c main_v3) (V m c main_v4) (V m c main_v5) (V m c main_arg6) (V m c main_v8) (V m c main_v9) ⟨n * 512 + r.val, by omega⟩ k := by
  have e : min n 31 = n := by omega
  have e' : (n * 512 + r.val) / 2048 = n / 4 := by omega
  have e1 : (n * 512 + r.val) % 128 = r.val % 128 := by omega
  have e2 : ∀ s : ℕ, (n * 512 + r.val) / 128 * 128 + s = n * 512 + (r.val / 128 * 128 + s) := fun s => by omega
  have hT : ∀ (X : Vec Ideal (Sh2 512 1024) .f32) (M : Vec Ideal (Sh3 1 9 1024) .f32) (r : Fin 512), tileRow X M r = fun d => X (ix2 r d)
      * (Ideal.ofBits .f32 0x3F800000#32 + M (ix3 0 4 d)) + M (ix3 0 3 d) := fun _ _ _ => rfl
  refine (scratch_apply m c ⟨n, hn⟩ h r k).trans ?_
  unfold tileUnit unitAt
  simp only [hT, iblk_x, iblk_m, iblk_w, iblk_bias, iblk_ug, iblk_ub, iblk_ws, iblk_bs, iblk_wo, e, e', e1, e2]

/-- The output block a point leaves: the rows of the tile before. -/
theorem out_rows (t : Fin cfg0.N) (h : ¬t.val = 0) (r : Fin 512) (k : Fin 1024) :
    (outsAt0 m c t.val t.isLt).1 (ix2 r k)
      = rowAt (V m c main_v0) (V m c main_v1) (V m c main_v2) (V m c main_v3) (V m c main_v4) (V m c main_v5) (V m c main_arg6) (V m c main_v8) (V m c main_v9) (V m c main_arg9) (V m c main_arg10)
        ⟨(t.val - 1) * 512 + r.val, by have := point_lt t; omega⟩ k := by
  have hN := point_lt t
  have e : ((t.val - 1) * 512 + r.val) / 2048 = (t.val - 1) / 4 := by omega
  rw [out_eq m c t h]
  unfold tileNorm rowAt
  simp only [scratch_rows m c (t.val - 1) (Nat.lt_of_le_of_lt (Nat.sub_le _ _) t.isLt) (by omega), iblk_x', iblk_m', iblk_lg, iblk_lb, e]

/-- What a point writes back is its block of the result array. -/
theorem flushed_eq (t : Fin cfg0.N) (h : ¬t.val = 0) : (dats m 0 c).flushed 13 t = ((cfg0.win 13).blk t).view.read (Elt Ideal) (resultArray m c) := by
  rw [Value.flushed13 m c t]
  funext j
  obtain ⟨r, k, rfl⟩ : ∃ (r : Fin 512) (k : Fin 1024), j = ix2 r k :=
    ⟨j 0, j 1, by funext a; match a with | ⟨0, _⟩ => rfl | ⟨1, _⟩ => rfl⟩
  obtain ⟨h0, h1⟩ := out_facts t
  refine (out_rows m c t h r k).trans ?_
  refine congrArg₂ (rowAt (V m c main_v0) (V m c main_v1) (V m c main_v2) (V m c main_v3) (V m c main_v4) (V m c main_v5) (V m c main_arg6) (V m c main_v8) (V m c main_v9) (V m c main_arg9) (V m c main_arg10)) (Fin.ext ?_) (Fin.ext ?_)
  · show _ = win0_13.index t 0 * 512 + 1 * r.val
    rw [h0, Nat.one_mul]
  · show _ = win0_13.index t 1 * 1024 + 1 * k.val
    rw [h1, Nat.one_mul, Nat.zero_mul, Nat.zero_add]

/-- The blocks written back tile the array. -/
theorem cover (i : S16384x1024.Idx) : ∃ t : Fin cfg0.N, (cfg0.win 13).flush t = true ∧ i ∈ ((cfg0.win 13).blk t).view.set := by
  have i0 : (i 0).val < 16384 := (i 0).isLt
  have i1 : (i 1).val < 1024 := (i 1).isLt
  have hN : cfg0.N = 33 := N_0
  obtain ⟨t, ht⟩ : ∃ t : Fin cfg0.N, t.val = (i 0).val / 512 + 1 := ⟨⟨_, by omega⟩, rfl⟩
  refine ⟨t, (flush_facts t).trans (decide_eq_true (by omega)), ?_⟩
  obtain ⟨h0, h1⟩ := out_facts t
  show i ∈ ((View.whole main_v10).slice (win0_13.rect t)).set
  rw [View.set_slice_whole, Rect.mem_set_unit]
  intro a
  match a with
  | ⟨0, _⟩ =>
    show win0_13.index t 0 * 512 ≤ (i 0).val ∧ (i 0).val < win0_13.index t 0 * 512 + 512
    rw [h0]; omega
  | ⟨1, _⟩ =>
    show win0_13.index t 1 * 1024 ≤ (i 1).val ∧ (i 1).val < win0_13.index t 1 * 1024 + 1024
    rw [h1]; omega

/-- The result array after the run. -/
theorem final : (dats m 0 c).arrAt 13 cfg0.N = resultArray m c :=
  (dats m 0 c).arrAt_eq_of_cover 13 (resultArray m c) (fun t ht => flushed_eq m c t (of_decide_eq_true ((flush_facts t).symm.trans ht))) cover

end Cert.Sgu
-- ==== Proof.SguRef.lean ====
module

public import proofs.«01_k».proof.Proof.SguTile
public import proofs.«01_k».proof.Proof.Gen.Reference3Ideal.Run

@[expose] public section

set_option maxRecDepth 16384

/-! The gated unit's reference's result, read at an index. -/

noncomputable section

namespace Cert.Sgu

open Idealize.ShloMosaic Idealize.ShloMosaic.TcCoe Idealize.SL.Sem
open Cert.Ffn (mean norm)
open Cert.Reference3Ideal Cert.Reference3Ideal.Gen
open scoped BigOperators

/-- The tokens, scaled and shifted. -/
def refH (x : FVec Ideal S8x2048x1024 .f32) (md : FVec Ideal S8x9216 .f32) : FVec Ideal S8x2048x1024 .f32 :=
  addf (mulf x (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 4096] md slices_S8x9216_S8x1024_0_4096)))))
    (broadcastInDim S8x2048x1024 ![0, 1, 2] bcast_S8x1x1024_S8x2048x1024_0_1_2 (broadcastInDim S8x1x1024 ![0, 2] bcast_S8x1024_S8x1x1024_0_2 (extractStridedSlice S8x1024 ![0, 3072] md slices_S8x9216_S8x1024_0_3072)))

/-- The hidden columns before the gelu. -/
def refP (h : FVec Ideal S8x2048x1024 .f32) (w : FVec Ideal S1024x4096 .f32) (B : FVec Ideal S4096 .f32) : FVec Ideal S8x2048x4096 .f32 :=
  addf (Host.dotGeneral dot_S8x2048x1024_S1024x4096_S8x2048x4096_2_0_01_1_n_n none h w)
    (broadcastInDim S8x2048x4096 ![0, 1, 2] bcast_S1x1x4096_S8x2048x4096_0_1_2 (broadcastInDim S1x1x4096 ![2] bcast_S4096_S1x1x4096_2 B))

/-- The gelu. -/
def refA (p : FVec Ideal S8x2048x4096 .f32) : FVec Ideal S8x2048x4096 .f32 :=
  mulf (mulf (broadcastInDim S8x2048x4096 ![] bcast_S_S8x2048x4096 (constant S_ .f32 0x3F000000#32)) p) (addf (broadcastInDim S8x2048x4096 ![] bcast_S_S8x2048x4096 (constant S_ .f32 0x3F800000#32)) (Host.erf (mulf p (broadcastInDim S8x2048x4096 ![] bcast_S_S8x2048x4096 (constant S_ .f32 0x3F3504F3#32)))))

/-- The value's columns. -/
def refV (a : FVec Ideal S8x2048x4096 .f32) : FVec Ideal S8x2048x2048 .f32 :=
  extractStridedSlice S8x2048x2048 ![0, 0, 2048] a slices_S8x2048x4096_S8x2048x2048_0_0_2048

/-- The averages of the value's rows. -/
def refWide (v : FVec Ideal S8x2048x2048 .f32) : FVec Ideal S8x2048x1 .f32 :=
  Host.divf (broadcastInDim S8x2048x1 ![0, 1] bcast_S8x2048_S8x2048x1_0_1 (Host.reduceAdd v (constant S_ .f32 0x00000000#32) reducesTo_S8x2048x2048_S8x2048_d2 h_S_)) (broadcastInDim S8x2048x1 ![] bcast_S_S8x2048x1 (constant S_ .f32 0x45000000#32))

/-- The value's rows less their averages. -/
def refD (v : FVec Ideal S8x2048x2048 .f32) : FVec Ideal S8x2048x2048 .f32 :=
  subf v (broadcastInDim S8x2048x2048 ![0, 1, 2] bcast_S8x2048x1_S8x2048x2048_0_1_2 (refWide v))

/-- The value's rows, normalised, from their differences `z` to their averages. -/
def refN (z : FVec Ideal S8x2048x2048 .f32) (g b : FVec Ideal S2048 .f32) : FVec Ideal S8x2048x2048 .f32 :=
  addf (mulf (mulf z (broadcastInDim S8x2048x2048 ![0, 1, 2] bcast_S8x2048x1_S8x2048x2048_0_1_2 (Host.rsqrt (addf (refWide (mulf z z)) (broadcastInDim S8x2048x1 ![] bcast_S_S8x2048x1 (constant S_ .f32 0x3727C5AC#32))))))
    (broadcastInDim S8x2048x2048 ![0, 1, 2] bcast_S1x1x2048_S8x2048x2048_0_1_2 (broadcastInDim S1x1x2048 ![2] bcast_S2048_S1x1x2048_2 g)))
    (broadcastInDim S8x2048x2048 ![0, 1, 2] bcast_S1x1x2048_S8x2048x2048_0_1_2 (broadcastInDim S1x1x2048 ![2] bcast_S2048_S1x1x2048_2 b))

/-- The groups' weights, zero above the diagonal. -/
def refW (w : FVec Ideal S16x128x128 .f32) : FVec Ideal S16x128x128 .f32 :=
  mulf w (broadcastInDim S16x128x128 ![0, 1, 2] bcast_S1x128x128_S16x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))))

/-- The mix over the positions of a chunk, group by group. -/
def refM (n : FVec Ideal S8x2048x2048 .f32) (w : FVec Ideal S16x128x128 .f32) (β : FVec Ideal S16x128 .f32) : FVec Ideal S8x2048x2048 .f32 :=
  shapeCast _ (addf (transpose S8x16x128x16x128 [1, 2, 4, 0, 3] (Host.dotGeneral dot_S8x16x128x16x128_S16x128x128_S16x8x16x128x128_2_2_014_1_3_0 none
    (shapeCast _ n shapeCasts_S8x2048x2048_S8x16x128x16x128) w) transposes_S16x8x16x128x128_S8x16x128x16x128_1_2_4_0_3)
    (broadcastInDim S8x16x128x16x128 ![0, 1, 2, 3, 4] bcast_S1x1x128x16x1_S8x16x128x16x128_0_1_2_3_4 (broadcastInDim S1x1x128x16x1 ![2, 3] bcast_S128x16_S1x1x128x16x1_2_3 (transpose S128x16 [1, 0] β transposes_S16x128_S128x16_1_0)))) shapeCasts_S8x16x128x16x128_S8x2048x2048

/-- The sum with the residual stream, from the hidden columns `a` and the mixed values `v`. -/
def refY (x : FVec Ideal S8x2048x1024 .f32) (md : FVec Ideal S8x9216 .f32) (a : FVec Ideal S8x2048x4096 .f32) (v : FVec Ideal S8x2048x2048 .f32) (w : FVec Ideal S2048x1024 .f32) : FVec Ideal S8x2048x1024 .f32 :=
  addf (mulf (broadcastInDim S8x2048x1024 ![] bcast_S_S8x2048x1024 (constant S_ .f32 0x3FB504F3#32)) x)
    (mulf (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 5120] md slices_S8x9216_S8x1024_0_5120))))
      (Host.dotGeneral dot_S8x2048x2048_S2048x1024_S8x2048x1024_2_0_01_1_n_n none (mulf (extractStridedSlice S8x2048x2048 ![0, 0, 0] a slices_S8x2048x4096_S8x2048x2048_0_0_0) v) w))

/-- The rows' averages. -/
def refMean (y : FVec Ideal S8x2048x1024 .f32) : FVec Ideal S8x2048x1 .f32 :=
  Host.divf (broadcastInDim S8x2048x1 ![0, 1] bcast_S8x2048_S8x2048x1_0_1 (Host.reduceAdd y (constant S_ .f32 0x00000000#32) reducesTo_S8x2048x1024_S8x2048_d2 h_S_))
    (broadcastInDim S8x2048x1 ![] bcast_S_S8x2048x1 (constant S_ .f32 0x44800000#32))

/-- The rows less their averages. -/
def refC (y : FVec Ideal S8x2048x1024 .f32) : FVec Ideal S8x2048x1024 .f32 :=
  subf y (broadcastInDim S8x2048x1024 ![0, 1, 2] bcast_S8x2048x1_S8x2048x1024_0_1_2 (refMean y))

theorem refH_apply (x : FVec Ideal S8x2048x1024 .f32) (md : FVec Ideal S8x9216 .f32) (b : Fin 8) (s : Fin 2048) (d : Fin 1024) :
    refH x md (ix3 b s d) = x (ix3 b s d) * (Ideal.ofBits .f32 0x3F800000#32 + md (ix2 b ⟨4096 + d.val, by omega⟩)) + md (ix2 b ⟨3072 + d.val, by omega⟩) := by
  pointwise [refH]

theorem refP_apply (h : FVec Ideal S8x2048x1024 .f32) (w : FVec Ideal S1024x4096 .f32) (B : FVec Ideal S4096 .f32) (b : Fin 8) (s : Fin 2048) (e : Fin 4096) :
    refP h w B (ix3 b s e) = ∑ d : Fin 1024, h (ix3 b s d) * w (ix2 d e) + B (ix1 e) := by
  pointwise [refP]

theorem refA_apply (p : FVec Ideal S8x2048x4096 .f32) (b : Fin 8) (s : Fin 2048) (e : Fin 4096) : refA p (ix3 b s e) = gelu (p (ix3 b s e)) := by
  pointwise [refA]
  rfl

theorem refV_apply (a : FVec Ideal S8x2048x4096 .f32) (b : Fin 8) (s : Fin 2048) (e : Fin 2048) : refV a (ix3 b s e) = a (ix3 b s ⟨2048 + e.val, by omega⟩) := by
  pointwise [refV]

theorem refWide_apply (v : FVec Ideal S8x2048x2048 .f32) (b : Fin 8) (s : Fin 2048) (z : Fin 1) : refWide v (ix3 b s z) = wideMean fun e => v (ix3 b s e) := by
  pointwise [refWide]
  rfl

theorem refD_apply (v : FVec Ideal S8x2048x2048 .f32) (b : Fin 8) (s : Fin 2048) (e : Fin 2048) : refD v (ix3 b s e) = v (ix3 b s e) - wideMean fun e => v (ix3 b s e) := by
  pointwise [refD]
  rw [refWide_apply]

theorem refN_apply (z : FVec Ideal S8x2048x2048 .f32) (g b : FVec Ideal S2048 .f32) (i : Fin 8) (s : Fin 2048) (e : Fin 2048) :
    refN z g b (ix3 i s e) = z (ix3 i s e) * Ideal.rsqrt (wideMean (fun e => z (ix3 i s e) * z (ix3 i s e)) + Ideal.ofBits .f32 0x3727C5AC#32) * g (ix1 e) + b (ix1 e) := by
  pointwise [refN]
  rw [refWide_apply]
  rfl

theorem refW_apply (w : FVec Ideal S16x128x128 .f32) (g : Fin 16) (t s : Fin 128) : refW w (ix3 g t s) = if s ≤ t then w (ix3 g t s) else 0 := by
  pointwise [refW]
  rw [show IntOp.addi (BitVec.ofNat 32 t.val) 0#32 = BitVec.ofNat 32 t.val from BitVec.add_zero _, Cert.Attn.select_sge (by omega) (by omega)]
  rfl

theorem refM_apply (n : FVec Ideal S8x2048x2048 .f32) (w : FVec Ideal S16x128x128 .f32) (β : FVec Ideal S16x128 .f32) (b : Fin 8) (t : Fin 2048) (e : Fin 2048) :
    refM n w β (ix3 b t e) = ∑ s : Fin 128, w (ix3 ⟨e.val / 128, by omega⟩ ⟨t.val % 128, by omega⟩ s) * n (ix3 b ⟨t.val / 128 * 128 + s.val, by omega⟩ e)
      + β (ix2 ⟨e.val / 128, by omega⟩ ⟨t.val % 128, by omega⟩) := by
  pointwise [refM]
  exact congrArg (· + _) (Finset.sum_congr rfl fun s _ => mul_comm _ _)

theorem refY_apply (x : FVec Ideal S8x2048x1024 .f32) (md : FVec Ideal S8x9216 .f32) (a : FVec Ideal S8x2048x4096 .f32) (v : FVec Ideal S8x2048x2048 .f32) (w : FVec Ideal S2048x1024 .f32) (b : Fin 8) (s : Fin 2048) (k : Fin 1024) :
    refY x md a v w (ix3 b s k) = Ideal.ofBits .f32 0x3FB504F3#32 * x (ix3 b s k)
      + (Ideal.ofBits .f32 0x3F800000#32 + md (ix2 b ⟨5120 + k.val, by omega⟩)) * ∑ e : Fin 2048, a (ix3 b s ⟨e.val, by omega⟩) * v (ix3 b s e) * w (ix2 e k) := by
  pointwise [refY]

theorem refMean_apply (y : FVec Ideal S8x2048x1024 .f32) (b : Fin 8) (s : Fin 2048) (z : Fin 1) :
    refMean y (ix3 b s z) = mean fun k => y (ix3 b s k) := by
  pointwise [refMean]
  rfl

theorem refC_apply (y : FVec Ideal S8x2048x1024 .f32) (b : Fin 8) (s : Fin 2048) (k : Fin 1024) :
    refC y (ix3 b s k) = y (ix3 b s k) - mean fun k => y (ix3 b s k) := by
  pointwise [refC]
  rw [refMean_apply]

/-- The layer norm, laid out as a matrix: `y` less its rows' averages in `z`, over the root of the averaged squares, scaled and shifted. -/
def refLast (z : FVec Ideal S8x2048x1024 .f32) (g b : FVec Ideal S3x1024 .f32) : FVec Ideal S16384x1024 .f32 :=
  shapeCast _ (addf (mulf (mulf z
      (broadcastInDim S8x2048x1024 ![0, 1, 2] bcast_S8x2048x1_S8x2048x1024_0_1_2 (Host.rsqrt (addf (refMean (mulf z z)) (broadcastInDim S8x2048x1 ![] bcast_S_S8x2048x1 (constant S_ .f32 0x3727C5AC#32))))))
      (broadcastInDim S8x2048x1024 ![0, 1, 2] bcast_S1x1x1024_S8x2048x1024_0_1_2 (broadcastInDim S1x1x1024 ![2] bcast_S1024_S1x1x1024_2 (shapeCast _ (extractStridedSlice S1x1024 ![1, 0] g slices_S3x1024_S1x1024_1_0) shapeCasts_S1x1024_S1024))))
    (broadcastInDim S8x2048x1024 ![0, 1, 2] bcast_S1x1x1024_S8x2048x1024_0_1_2 (broadcastInDim S1x1x1024 ![2] bcast_S1024_S1x1x1024_2 (shapeCast _ (extractStridedSlice S1x1024 ![1, 0] b slices_S3x1024_S1x1024_1_0) shapeCasts_S1x1024_S1024))))
    shapeCasts_S8x2048x1024_S16384x1024

theorem refLast_apply (z : FVec Ideal S8x2048x1024 .f32) (g b : FVec Ideal S3x1024 .f32) (R : Fin 16384) (C : Fin 1024) :
    refLast z g b (ix2 R C) = z (ix3 ⟨R.val / 2048, by omega⟩ ⟨R.val % 2048, by omega⟩ C)
      * Ideal.rsqrt (mean (fun k => z (ix3 ⟨R.val / 2048, by omega⟩ ⟨R.val % 2048, by omega⟩ k) * z (ix3 ⟨R.val / 2048, by omega⟩ ⟨R.val % 2048, by omega⟩ k)) + Ideal.ofBits .f32 0x3727C5AC#32)
      * g (ix2 1 C) + b (ix2 1 C) := by
  pointwise [refLast]
  simp only [refMean_apply]
  rfl

/-- The reference's result from its arguments. -/
def refOut (x : FVec Ideal S8x2048x1024 .f32) (md : FVec Ideal S8x9216 .f32) (wi : FVec Ideal S1024x4096 .f32) (B : FVec Ideal S4096 .f32) (ug ub : FVec Ideal S2048 .f32)
    (w : FVec Ideal S16x128x128 .f32) (β : FVec Ideal S16x128 .f32) (wo : FVec Ideal S2048x1024 .f32) (g b : FVec Ideal S3x1024 .f32) : FVec Ideal S16384x1024 .f32 :=
  refLast (refC (refY x md (refA (refP (refH x md) wi B)) (refM (refN (refD (refV (refA (refP (refH x md) wi B)))) ug ub) (refW w) β) wo)) g b

/-- Each token's result is the row's. -/
theorem refOut_apply (x : FVec Ideal S8x2048x1024 .f32) (md : FVec Ideal S8x9216 .f32) (wi : FVec Ideal S1024x4096 .f32) (B : FVec Ideal S4096 .f32) (ug ub : FVec Ideal S2048 .f32)
    (w : FVec Ideal S16x128x128 .f32) (β : FVec Ideal S16x128 .f32) (wo : FVec Ideal S2048x1024 .f32) (g b : FVec Ideal S3x1024 .f32) (R : Fin 16384) (C : Fin 1024) :
    refOut x md wi B ug ub w β wo g b (ix2 R C)
      = row (fun s d => x (ix3 ⟨R.val / 2048, by omega⟩ ⟨R.val % 2048 / 128 * 128 + s.val, by omega⟩ d))
        (fun k => md (ix2 ⟨R.val / 2048, by omega⟩ ⟨3072 + k.val, by omega⟩))
        (fun k => md (ix2 ⟨R.val / 2048, by omega⟩ ⟨4096 + k.val, by omega⟩))
        (fun k => md (ix2 ⟨R.val / 2048, by omega⟩ ⟨5120 + k.val, by omega⟩)) wi (fun e => B (ix1 e)) (fun e => ug (ix1 e)) (fun e => ub (ix1 e)) w
        (fun t e => β (ix2 ⟨e.val / 128, by omega⟩ t)) wo (g (ix2 1 C)) (b (ix2 1 C)) ⟨R.val % 2048 % 128, by omega⟩ C := by
  unfold refOut row Cert.Ffn.norm unit gatedCol mixed gateCol valCol wideNorm act
  simp only [refLast_apply, refC_apply, refY_apply, refM_apply, refW_apply, refN_apply, refD_apply, refV_apply, refA_apply, refP_apply, refH_apply, Nat.div_add_mod']

end Cert.Sgu
-- ==== Proof.SguEquation.lean ====
module

public import proofs.«01_k».proof.Proof.SguArray
public import proofs.«01_k».proof.Proof.SguRef
public import proofs.«01_k».proof.Proof.FfnEquation

@[expose] public section

set_option maxRecDepth 16384

/-! The gated unit's result array and its reference's result are the same array. -/

noncomputable section

namespace Cert.Sgu

open Idealize.ShloMosaic Idealize.ShloMosaic.TcCoe Idealize.SL.Sem Idealize.ShloMosaic.StableHlo
open Cert.Attn (Sh2 Sh1)
open Cert.Ffn (Sh3 tokens_apply modulation_apply)
open scoped BigOperators

section
open Cert.Kernel3Ideal Cert.Kernel3Ideal.Gen
variable (m : (ℓ : Loc nD τ sig) → Buf (Elt Ideal) ℓ) (c : Dev nD)

/-- The chunk's bias, each group's column taken 128 times. -/
def repeated (β : FVec Ideal S16x128 .f32) : FVec Ideal S128x2048 .f32 :=
  shapeCast S128x2048 (broadcastInDim S128x16x128 ![0, 1] bcast_S128x16_S128x16x128_0_1 (transpose S128x16 [1, 0] β transposes_S16x128_S128x16_1_0)) shapeCasts_S128x16x128_S128x2048

theorem repeated_apply (β : FVec Ideal S16x128 .f32) (t : Fin 128) (e : Fin 2048) : repeated β (ix2 t e) = β (ix2 ⟨e.val / 128, by omega⟩ t) := by
  pointwise [repeated]

theorem hidden_bias_apply (B : FVec Ideal S4096 .f32) (e : Fin 4096) : shapeCast S1x4096 B shapeCasts_S4096_S1x4096 (ix2 0 e) = B (ix1 e) := by
  pointwise

theorem line_apply (B : FVec Ideal S2048 .f32) (e : Fin 2048) : shapeCast S1x2048 B shapeCasts_S2048_S1x2048 (ix2 0 e) = B (ix1 e) := by
  pointwise

theorem V_x : V m c main_v0 = shapeCast S16384x1024 (m ((c : Thread nD τ).loc main_arg0)) shapeCasts_S8x2048x1024_S16384x1024 := by
  simp only [V, hostOps0, List.flatten_cons, List.flatten_nil, List.append_nil, List.cons_append, List.nil_append,
    TRef.binary, TRef.unary, TRef.toBuf, TRef.ofBuf, cast_eq]
  after_results_simp
  rfl

theorem V_m : V m c main_v1 = shapeCast S8x9x1024 (m ((c : Thread nD τ).loc main_arg1)) shapeCasts_S8x9216_S8x9x1024 := by
  simp only [V, hostOps0, List.flatten_cons, List.flatten_nil, List.append_nil, List.cons_append, List.nil_append,
    TRef.binary, TRef.unary, TRef.toBuf, TRef.ofBuf, cast_eq]
  after_results_simp
  rfl

theorem V_w : V m c main_v2 = m ((c : Thread nD τ).loc main_arg2) := by
  simp only [V, hostOps0, List.flatten_cons, List.flatten_nil, List.append_nil, List.cons_append, List.nil_append,
    TRef.binary, TRef.unary, TRef.toBuf, TRef.ofBuf, cast_eq]
  after_results_simp
  rfl

theorem V_bias : V m c main_v3 = shapeCast S1x4096 (m ((c : Thread nD τ).loc main_arg3)) shapeCasts_S4096_S1x4096 := by
  simp only [V, hostOps0, List.flatten_cons, List.flatten_nil, List.append_nil, List.cons_append, List.nil_append,
    TRef.binary, TRef.unary, TRef.toBuf, TRef.ofBuf, cast_eq]
  after_results_simp
  rfl

theorem V_ug : V m c main_v4 = shapeCast S1x2048 (m ((c : Thread nD τ).loc main_arg4)) shapeCasts_S2048_S1x2048 := by
  simp only [V, hostOps0, List.flatten_cons, List.flatten_nil, List.append_nil, List.cons_append, List.nil_append,
    TRef.binary, TRef.unary, TRef.toBuf, TRef.ofBuf, cast_eq]
  after_results_simp
  rfl

theorem V_ub : V m c main_v5 = shapeCast S1x2048 (m ((c : Thread nD τ).loc main_arg5)) shapeCasts_S2048_S1x2048 := by
  simp only [V, hostOps0, List.flatten_cons, List.flatten_nil, List.append_nil, List.cons_append, List.nil_append,
    TRef.binary, TRef.unary, TRef.toBuf, TRef.ofBuf, cast_eq]
  after_results_simp
  rfl

theorem V_bs : V m c main_v8 = repeated (m ((c : Thread nD τ).loc main_arg7)) := by
  simp only [V, hostOps0, List.flatten_cons, List.flatten_nil, List.append_nil, List.cons_append, List.nil_append,
    TRef.binary, TRef.unary, TRef.toBuf, TRef.ofBuf, cast_eq]
  after_results_simp
  rfl

theorem V_wo : V m c main_v9 = m ((c : Thread nD τ).loc main_arg8) := by
  simp only [V, hostOps0, List.flatten_cons, List.flatten_nil, List.append_nil, List.cons_append, List.nil_append,
    TRef.binary, TRef.unary, TRef.toBuf, TRef.ofBuf, cast_eq]
  after_results_simp
  rfl

end

/-- A token's result from the reshaped arrays is that from the arguments. -/
theorem rowAt_args (x : FVec Ideal (Sh3 8 2048 1024) .f32) (md : FVec Ideal (Sh2 8 9216) .f32) (wi : FVec Ideal (Sh2 1024 4096) .f32) (B : FVec Ideal (Sh1 4096) .f32) (ug : FVec Ideal (Sh1 2048) .f32) (ub : FVec Ideal (Sh1 2048) .f32) (w : FVec Ideal (Sh3 16 128 128) .f32) (β : FVec Ideal (Sh2 16 128) .f32) (wo : FVec Ideal (Sh2 2048 1024) .f32) (g : FVec Ideal (Sh2 3 1024) .f32) (b : FVec Ideal (Sh2 3 1024) .f32)
    (hx hm hB hu : _) (R : Fin 16384) (C : Fin 1024) :
    rowAt (shapeCast (Sh2 16384 1024) x hx) (shapeCast (Sh3 8 9 1024) md hm) wi (shapeCast (Sh2 1 4096) B hB) (shapeCast (Sh2 1 2048) ug hu) (shapeCast (Sh2 1 2048) ub hu) w
      (repeated β) wo g b R C = refOut x md wi B ug ub w β wo g b (ix2 R C) := by
  have hX : ∀ s : Fin 128, ∀ d, shapeCast (Sh2 16384 1024) x hx (ix2 ⟨R.val / 128 * 128 + s.val, by omega⟩ d)
      = x (ix3 ⟨R.val / 2048, by omega⟩ ⟨R.val % 2048 / 128 * 128 + s.val, by omega⟩ d) := fun s d =>
    (tokens_apply x _ d).trans (congrArg x (congrArg₂ (fun a b => ix3 a b d) (Fin.ext (by show (R.val / 128 * 128 + s.val) / 2048 = R.val / 2048; omega))
      (Fin.ext (by show (R.val / 128 * 128 + s.val) % 2048 = R.val % 2048 / 128 * 128 + s.val; omega))))
  have hR : ∀ d, shapeCast (Sh2 16384 1024) x hx (ix2 R d)
      = x (ix3 ⟨R.val / 2048, by omega⟩ ⟨R.val % 2048 / 128 * 128 + R.val % 2048 % 128, by omega⟩ d) := fun d =>
    (tokens_apply x R d).trans (congrArg x (congrArg (fun a => ix3 _ a d) (Fin.ext (Nat.div_add_mod' _ _).symm)))
  have ht : R.val % 2048 % 128 = R.val % 128 := by omega
  have hM : ∀ (i : Fin 8) (j : Fin 9) (d : Fin 1024), shapeCast (Sh3 8 9 1024) md hm (ix3 i j d) = md (ix2 i ⟨j.val * 1024 + d.val, by omega⟩) := fun i j d => modulation_apply md i j d
  have hb : ∀ e, shapeCast (Sh2 1 4096) B hB (ix2 0 e) = B (ix1 e) := hidden_bias_apply B
  have hg : ∀ e, shapeCast (Sh2 1 2048) ug hu (ix2 0 e) = ug (ix1 e) := line_apply ug
  have hh : ∀ e, shapeCast (Sh2 1 2048) ub hu (ix2 0 e) = ub (ix1 e) := line_apply ub
  have hβ : ∀ t e, repeated β (ix2 t e) = β (ix2 ⟨e.val / 128, by omega⟩ t) := repeated_apply β
  rw [refOut_apply]
  unfold rowAt row unitAt
  simp only [hX, hR, hM, hb, hg, hh, hβ, ht]
  rfl

theorem refOut_congr {x x' : FVec Ideal (Sh3 8 2048 1024) .f32} {md md' : FVec Ideal (Sh2 8 9216) .f32} {wi wi' : FVec Ideal (Sh2 1024 4096) .f32} {B B' : FVec Ideal (Sh1 4096) .f32} {ug ug' : FVec Ideal (Sh1 2048) .f32} {ub ub' : FVec Ideal (Sh1 2048) .f32} {w w' : FVec Ideal (Sh3 16 128 128) .f32} {β β' : FVec Ideal (Sh2 16 128) .f32} {wo wo' : FVec Ideal (Sh2 2048 1024) .f32} {g g' : FVec Ideal (Sh2 3 1024) .f32} {b b' : FVec Ideal (Sh2 3 1024) .f32}
    (h0 : x = x') (h1 : md = md') (h2 : wi = wi') (h3 : B = B') (h4 : ug = ug') (h5 : ub = ub') (h6 : w = w') (h7 : β = β') (h8 : wo = wo') (h9 : g = g') (h10 : b = b') (i : (Sh2 16384 1024).Idx) :
    refOut x md wi B ug ub w β wo g b i = refOut x' md' wi' B' ug' ub' w' β' wo' g' b' i := by
  rw [h0, h1, h2, h3, h4, h5, h6, h7, h8, h9, h10]

theorem rowAt_congr {X X' : Vec Ideal (Sh2 16384 1024) .f32} {M M' : Vec Ideal (Sh3 8 9 1024) .f32} {wi wi' : Vec Ideal (Sh2 1024 4096) .bf16} {B B' : Vec Ideal (Sh2 1 4096) .f32} {ug ug' : Vec Ideal (Sh2 1 2048) .f32} {ub ub' : Vec Ideal (Sh2 1 2048) .f32} {w w' : Vec Ideal (Sh3 16 128 128) .f32} {β β' : Vec Ideal (Sh2 128 2048) .f32} {wo wo' : Vec Ideal (Sh2 2048 1024) .bf16} {g g' : Vec Ideal (Sh2 3 1024) .f32} {b b' : Vec Ideal (Sh2 3 1024) .f32}
    (h0 : X = X') (h1 : M = M') (h2 : wi = wi') (h3 : B = B') (h4 : ug = ug') (h5 : ub = ub') (h6 : w = w') (h7 : β = β') (h8 : wo = wo') (h9 : g = g') (h10 : b = b') (R : Fin 16384) (C : Fin 1024) :
    rowAt X M wi B ug ub w β wo g b R C = rowAt X' M' wi' B' ug' ub' w' β' wo' g' b' R C := by
  rw [h0, h1, h2, h3, h4, h5, h6, h7, h8, h9, h10]

/-- The two programs' results agree. -/
theorem result_eq (m : (ℓ : Loc Cert.Kernel3Ideal.nD Cert.Kernel3Ideal.τ Cert.Kernel3Ideal.sig) → Buf (Elt Ideal) ℓ) (c : Dev Cert.Kernel3Ideal.nD)
    (m' : (ℓ : Loc Cert.Reference3Ideal.nD Cert.Reference3Ideal.τ Cert.Reference3Ideal.sig) → Buf (Elt Ideal) ℓ)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7))
    (h8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8))
    (h9 : m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9))
    (h10 : m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) :
    refOut (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) = resultArray m c := by
  have key : ∀ (R : Fin 16384) (C : Fin 1024), refOut (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (ix2 R C) = resultArray m c (ix2 R C) := fun R C => by
    refine (refOut_congr h0 h1 h2 h3 h4 h5 h6 h7 h8 h9 h10 _).trans ?_
    refine (rowAt_args _ _ _ _ _ _ _ _ _ _ _ Cert.Kernel3Ideal.Gen.facts.shapeCasts_S8x2048x1024_S16384x1024 Cert.Kernel3Ideal.Gen.facts.shapeCasts_S8x9216_S8x9x1024
      Cert.Kernel3Ideal.Gen.facts.shapeCasts_S4096_S1x4096 Cert.Kernel3Ideal.Gen.facts.shapeCasts_S2048_S1x2048 R C).symm.trans ?_
    exact (rowAt_congr (V_x m c) (V_m m c) (V_w m c) (V_bias m c) (V_ug m c) (V_ub m c) (Cert.Kernel3Ideal.Gen.V_main_arg6 m c) (V_bs m c) (V_wo m c)
      (Cert.Kernel3Ideal.Gen.V_main_arg9 m c) (Cert.Kernel3Ideal.Gen.V_main_arg10 m c) R C).symm
  funext i
  have hi : i = ix2 (n0 := 16384) (n1 := 1024) (i 0) (i 1) := eq_ix2 i
  rw [hi]
  exact key (i 0) (i 1)

end Cert.Sgu
-- ==== Proof.OutBlock.lean ====
module

public import proofs.«01_k».proof.Proof.FfnBlock
public import proofs.«01_k».proof.Proof.Gen.Kernel4Ideal.Value

@[expose] public section

set_option maxRecDepth 16384

/-! What the mixer's second projection leaves at one grid point: in its scratch the product of the current tile with both
halves of the weights, in its output block the normalised rows of the tile before. -/

noncomputable section

namespace Cert.Out

open Idealize.ShloMosaic Idealize.ShloMosaic.TcCoe Idealize.SL.Sem Idealize.ShloMosaic.Pipeline
open Cert.Attn (Sh2 Sh1)
open Cert.Ffn (norm Sh3 ld_mat ld_line ld_row)
open Cert.Kernel4Ideal Cert.Kernel4Ideal.Gen
open scoped BigOperators

/-- One column of the product: the recurrence's row with the first half of the weights, the attention's with the second. -/
def mix (ys ya : Fin 1024 → EReal) (W : FVec Ideal (Sh2 2048 1024) .bf16) (k : Fin 1024) : EReal :=
  ∑ e : Fin 1024, ys e * W (ix2 ⟨e.val, by omega⟩ k) + ∑ e : Fin 1024, ya e * W (ix2 ⟨1024 + e.val, by omega⟩ k)

/-- One token's result: the product, scaled by `1 + gate`, is added to the weighted row `x`, and the sum is normalised. -/
def row (x gate ys ya : Fin 1024 → EReal) (W : FVec Ideal (Sh2 2048 1024) .bf16) (g b : EReal) (c : Fin 1024) : EReal :=
  norm (fun k => Ideal.ofBits .f32 0x3FB504F3#32 * x k + (Ideal.ofBits .f32 0x3F800000#32 + gate k) * mix ys ya W k) g b c

theorem one_bits : Ideal.ofBits .f32 0x3F800000#32 = 1 := by
  simp [Ideal.ofBits, Ideal.ieee, -EReal.coe_mul]
  norm_num

theorem pay2_apply (ys w ya w' : FVec Ideal S1024x1024 .bf16) (r k : Fin 1024) :
    k0_pay2 (F := Ideal) ys w ya w' (ix2 r k) = ∑ e : Fin 1024, ys (ix2 r e) * w (ix2 e k) + ∑ e : Fin 1024, ya (ix2 r e) * w' (ix2 e k) := by
  pointwise [k0_pay2]

theorem pay3_apply (gate : Vec Ideal S1x1x1024 .f32) (x f : Vec Ideal S1024x1024 .f32) (g b : Vec Ideal S1x1024 .f32) (r k : Fin 1024) :
    k0_pay3 (F := Ideal) gate x f g b (ix2 r k)
      = norm (fun k => Ideal.ofBits .f32 0x3FB504F3#32 * x (ix2 r k)
          + (Ideal.ofBits .f32 0x3F800000#32 + gate (ix3 0 0 k)) * Ideal.ofBits .f32 0x3F800000#32 * f (ix2 r k)) (g (ix2 0 k)) (b (ix2 0 k)) k := by
  pointwise [k0_pay3]
  rfl

variable (m : (ℓ : Loc nD τ sig) → Buf (Elt Ideal) ℓ) (c : Dev nD)

theorem mix_loads (ys ya : Vec Ideal (Sh2 1024 1024) .bf16) (W : Vec Ideal (Sh2 2048 1024) .bf16) (i0 i1 : _) (r k : Fin 1024) :
    k0_pay2 (F := Ideal) ys (View.ld W (Rect.unit (s := Sh2 2048 1024) ![0, 0] ![1024, 1024] i0)) ya
      (View.ld W (Rect.unit (s := Sh2 2048 1024) ![1024, 0] ![1024, 1024] i1)) (ix2 r k)
      = mix (fun e => ys (ix2 r e)) (fun e => ya (ix2 r e)) W k := by
  rw [pay2_apply]
  unfold mix
  refine congrArg₂ (· + ·) (Finset.sum_congr rfl fun e _ => congrArg (_ * ·) ?_) (Finset.sum_congr rfl fun e _ => congrArg (_ * ·) ?_)
  · rw [ld_mat W i0 e k (by omega) (by omega)]
    exact congrArg W (congrArg₂ ix2 (Fin.ext (Nat.zero_add _)) (Fin.ext (Nat.zero_add _)))
  · rw [ld_mat W i1 e k (by omega) (by omega)]
    exact congrArg W (congrArg₂ ix2 rfl (Fin.ext (Nat.zero_add _)))

/-- The scratch after a point that computes a tile. -/
theorem scratch_eq (t : Fin cfg0.N) (h1 : t.val < 16) (r k : Fin 1024) :
    (outsAt0 m c t.val t.isLt).2 (ix2 r k) = mix (fun e => iblk m c 2 t (ix2 r e)) (fun e => iblk m c 3 t (ix2 r e)) (iblk m c 4 t) k := by
  refine Eq.trans ?_ (mix_loads (iblk m c 2 t) (iblk m c 3 t) (iblk m c 4 t) inb_S2048x1024_S1024x1024_0_0 inb_S2048x1024_S1024x1024_1024_0 r k)
  refine congrFun ?_ (ix2 r k)
  by_cases h0 : t.val % 17 = 0
  on_goal 1 => rw [outsAt0_A m c t h0 h1 (by omega)]
  on_goal 2 => rw [outsAt0_B m c t h0 h1 (by omega)]
  all_goals
    frame_out
  all_goals rfl

/-- A tile's normalised rows, from its rows, its batch's modulation, its product and the norm's two rows. -/
def tileNorm (X : Vec Ideal (Sh2 1024 1024) .f32) (M : Vec Ideal (Sh3 1 9 1024) .f32) (f : Fin 1024 → Fin 1024 → EReal)
    (g b : Vec Ideal (Sh2 3 1024) .f32) (r k : Fin 1024) : EReal :=
  norm (fun k => Ideal.ofBits .f32 0x3FB504F3#32 * X (ix2 r k) + (Ideal.ofBits .f32 0x3F800000#32 + M (ix3 0 5 k)) * f r k) (g (ix2 1 k)) (b (ix2 1 k)) k

theorem norm_loads (X : Vec Ideal (Sh2 1024 1024) .f32) (M : Vec Ideal (Sh3 1 9 1024) .f32) (f : Vec Ideal (Sh2 1024 1024) .f32)
    (g b : Vec Ideal (Sh2 3 1024) .f32) (i5 ig ib : _) (r k : Fin 1024) :
    k0_pay3 (F := Ideal) (View.ld M (Rect.unit (s := Sh3 1 9 1024) ![0, 5, 0] ![1, 1, 1024] i5)) X f
      (View.ld g (Rect.unit (s := Sh2 3 1024) ![1, 0] ![1, 1024] ig)) (View.ld b (Rect.unit (s := Sh2 3 1024) ![1, 0] ![1, 1024] ib)) (ix2 r k)
      = tileNorm X M (fun r k => f (ix2 r k)) g b r k := by
  unfold tileNorm
  rw [pay3_apply, ld_line g ig k (by omega), ld_line b ib k (by omega)]
  refine congrArg (fun y => norm y _ _ k) (funext fun j => ?_)
  have h1 : ∀ a : EReal, a * Ideal.ofBits .f32 0x3F800000#32 = a := fun a => by rw [one_bits, mul_one]
  rw [ld_row M i5 j (by omega), h1]
  rfl

/-- The output block after a point that finishes the tile before. -/
theorem out_eq (t : Fin cfg0.N) (h : ¬t.val = 0) (r k : Fin 1024) :
    (outsAt0 m c t.val t.isLt).1 (ix2 r k) = tileNorm (iblk m c 0 t) (iblk m c 1 t)
      (fun r k => (outsAt0 m c (t.val - 1) (Nat.lt_of_le_of_lt (Nat.sub_le _ _) t.isLt)).2 (ix2 r k)) (iblk m c 5 t) (iblk m c 6 t) r k := by
  have hN : t.val < 17 := t.isLt
  refine Eq.trans ?_ (norm_loads (iblk m c 0 t) (iblk m c 1 t) (outsAt0 m c (t.val - 1) (Nat.lt_of_le_of_lt (Nat.sub_le _ _) t.isLt)).2
    (iblk m c 5 t) (iblk m c 6 t) inb_S1x9x1024_S1x1x1024_0_5_0 inb_S3x1024_S1x1024_1_0 inb_S3x1024_S1x1024_1_0 r k)
  refine congrFun ?_ (ix2 r k)
  have hr : View.read (Elt Ideal) (View.whole cc0_scratch0) ((Memref.isWhole_whole cc0_scratch0).unread (outsAt0 m c (t.val - 1) (Nat.lt_of_le_of_lt (Nat.sub_le _ _) t.isLt)).2)
      = (outsAt0 m c (t.val - 1) (Nat.lt_of_le_of_lt (Nat.sub_le _ _) t.isLt)).2 := (Memref.isWhole_whole cc0_scratch0).read_unread _
  by_cases h1 : t.val < 16
  on_goal 1 => rw [outsAt0_B m c t (by omega) h1 (by omega)]
  on_goal 2 => rw [outsAt0_C m c t (by omega) h1 (by omega)]
  all_goals
    frame_out
    rw [hr]
  all_goals rfl

end Cert.Out
-- ==== Proof.OutArray.lean ====
module

public import proofs.«01_k».proof.Proof.OutBlock

@[expose] public section

set_option maxRecDepth 16384

/-! The second projection's result array: tile by tile, the normalised rows that its grid's points write back. -/

noncomputable section

namespace Cert.Out

open Idealize.ShloMosaic Idealize.ShloMosaic.TcCoe Idealize.SL.Sem Idealize.ShloMosaic.Pipeline
open Cert.Attn (Sh2 Sh1)
open Cert.Ffn (norm Sh3)
open Cert.Kernel4Ideal Cert.Kernel4Ideal.Gen
open scoped BigOperators

/-- The product of row `R` at column `C`, from the arrays. -/
def mixAt (S A : Vec Ideal (Sh2 16384 1024) .bf16) (W : Vec Ideal (Sh2 2048 1024) .bf16) (R : Fin 16384) (C : Fin 1024) : EReal :=
  mix (fun e => S (ix2 R e)) (fun e => A (ix2 R e)) W C

/-- The result at row `R` and column `C`, from the arrays. -/
def rowAt (X : Vec Ideal (Sh2 16384 1024) .f32) (M : Vec Ideal (Sh3 8 9 1024) .f32) (S A : Vec Ideal (Sh2 16384 1024) .bf16) (W : Vec Ideal (Sh2 2048 1024) .bf16)
    (g b : Vec Ideal (Sh2 3 1024) .f32) (R : Fin 16384) (C : Fin 1024) : EReal :=
  row (fun d => X (ix2 R d)) (fun d => M (ix3 ⟨R.val / 2048, by omega⟩ 5 d)) (fun e => S (ix2 R e)) (fun e => A (ix2 R e)) W (g (ix2 1 C)) (b (ix2 1 C)) C

theorem point_lt (t : Fin cfg0.N) : t.val < 17 := t.isLt

/-- The tiles and batches the windows hold, from the grid point's number. -/
theorem tile_facts : ∀ t : Fin cfg0.N,
    win0_0.index t 0 = t.val - 1 ∧ win0_0.index t 1 = 0 ∧ win0_1.index t 0 = (t.val - 1) / 2 ∧ win0_1.index t 1 = 0 ∧ win0_1.index t 2 = 0
      ∧ win0_2.index t 0 = min t.val 15 ∧ win0_2.index t 1 = 0 ∧ win0_3.index t 0 = min t.val 15 ∧ win0_3.index t 1 = 0
      ∧ win0_7.index t 0 = t.val - 1 ∧ win0_7.index t 1 = 0 :=
  (by decide +kernel : ∀ t : Fin grid0.N,
    win0_0.index t 0 = t.val - 1 ∧ win0_0.index t 1 = 0 ∧ win0_1.index t 0 = (t.val - 1) / 2 ∧ win0_1.index t 1 = 0 ∧ win0_1.index t 2 = 0
      ∧ win0_2.index t 0 = min t.val 15 ∧ win0_2.index t 1 = 0 ∧ win0_3.index t 0 = min t.val 15 ∧ win0_3.index t 1 = 0
      ∧ win0_7.index t 0 = t.val - 1 ∧ win0_7.index t 1 = 0)

/-- The weights' and the norm's windows hold the whole arrays. -/
theorem whole_facts : ∀ t : Fin cfg0.N,
    win0_4.index t 0 = 0 ∧ win0_4.index t 1 = 0 ∧ win0_5.index t 0 = 0 ∧ win0_5.index t 1 = 0 ∧ win0_6.index t 0 = 0 ∧ win0_6.index t 1 = 0 :=
  (by decide +kernel : ∀ t : Fin grid0.N,
    win0_4.index t 0 = 0 ∧ win0_4.index t 1 = 0 ∧ win0_5.index t 0 = 0 ∧ win0_5.index t 1 = 0 ∧ win0_6.index t 0 = 0 ∧ win0_6.index t 1 = 0)

/-- Every point but the first writes its output block back. -/
theorem flush_facts : ∀ t : Fin cfg0.N, (cfg0.win 7).flush t = decide (t.val ≠ 0) :=
  (by decide +kernel : ∀ t : Fin grid0.N, (cfg0.win 7).flush t = decide (t.val ≠ 0))

variable (m : (ℓ : Loc nD τ sig) → Buf (Elt Ideal) ℓ) (c : Dev nD)

/-- The rows of the tile before. -/
theorem iblk_x (t : Fin cfg0.N) (r d : Fin 1024) :
    iblk m c 0 t (ix2 r d) = V m c main_v0 (ix2 (n0 := 16384) (n1 := 1024) ⟨(t.val - 1) * 1024 + r.val, by have := point_lt t; omega⟩ d) := by
  obtain ⟨h0, h1, _⟩ := tile_facts t
  refine congrArg (V m c main_v0) (funext fun a => Fin.ext ?_)
  match a with
  | ⟨0, _⟩ => show win0_0.index t 0 * 1024 + 1 * r.val = (t.val - 1) * 1024 + r.val; rw [h0, Nat.one_mul]
  | ⟨1, _⟩ => show win0_0.index t 1 * 1024 + 1 * d.val = d.val; rw [h1]; omega

/-- The modulation of the tile before. -/
theorem iblk_m (t : Fin cfg0.N) (j : Fin 9) (d : Fin 1024) :
    iblk m c 1 t (ix3 0 j d) = V m c main_v1 (ix3 (n0 := 8) (n1 := 9) (n2 := 1024) ⟨(t.val - 1) / 2, by have := point_lt t; omega⟩ j d) := by
  obtain ⟨_, _, h0, h1, h2, _⟩ := tile_facts t
  refine congrArg (V m c main_v1) (funext fun a => Fin.ext ?_)
  match a with
  | ⟨0, _⟩ => show win0_1.index t 0 * 1 + 1 * 0 = (t.val - 1) / 2; rw [h0]; omega
  | ⟨1, _⟩ => show win0_1.index t 1 * 9 + 1 * j.val = j.val; rw [h1]; omega
  | ⟨2, _⟩ => show win0_1.index t 2 * 1024 + 1 * d.val = d.val; rw [h2]; omega

/-- The current tile's rows of the recurrence. -/
theorem iblk_s (t : Fin cfg0.N) (r d : Fin 1024) :
    iblk m c 2 t (ix2 r d) = V m c main_v3 (ix2 (n0 := 16384) (n1 := 1024) ⟨min t.val 15 * 1024 + r.val, by omega⟩ d) := by
  obtain ⟨_, _, _, _, _, h0, h1, _⟩ := tile_facts t
  refine congrArg (V m c main_v3) (funext fun a => Fin.ext ?_)
  match a with
  | ⟨0, _⟩ => show win0_2.index t 0 * 1024 + 1 * r.val = min t.val 15 * 1024 + r.val; rw [h0, Nat.one_mul]
  | ⟨1, _⟩ => show win0_2.index t 1 * 1024 + 1 * d.val = d.val; rw [h1]; omega

/-- The current tile's rows of the attention. -/
theorem iblk_a (t : Fin cfg0.N) (r d : Fin 1024) :
    iblk m c 3 t (ix2 r d) = V m c main_v5 (ix2 (n0 := 16384) (n1 := 1024) ⟨min t.val 15 * 1024 + r.val, by omega⟩ d) := by
  obtain ⟨_, _, _, _, _, _, _, h0, h1, _⟩ := tile_facts t
  refine congrArg (V m c main_v5) (funext fun a => Fin.ext ?_)
  match a with
  | ⟨0, _⟩ => show win0_3.index t 0 * 1024 + 1 * r.val = min t.val 15 * 1024 + r.val; rw [h0, Nat.one_mul]
  | ⟨1, _⟩ => show win0_3.index t 1 * 1024 + 1 * d.val = d.val; rw [h1]; omega

theorem iblk_w (t : Fin cfg0.N) : iblk m c 4 t = V m c main_v6 := by
  obtain ⟨h0, h1, _⟩ := whole_facts t
  refine funext fun i => congrArg (V m c main_v6) (funext fun a => Fin.ext ?_)
  match a with
  | ⟨0, _⟩ => show win0_4.index t 0 * 2048 + 1 * (i 0).val = (i 0).val; rw [h0, Nat.one_mul, Nat.zero_mul, Nat.zero_add]
  | ⟨1, _⟩ => show win0_4.index t 1 * 1024 + 1 * (i 1).val = (i 1).val; rw [h1, Nat.one_mul, Nat.zero_mul, Nat.zero_add]

theorem iblk_g (t : Fin cfg0.N) : iblk m c 5 t = V m c main_arg5 := by
  obtain ⟨_, _, h0, h1, _⟩ := whole_facts t
  refine funext fun i => congrArg (V m c main_arg5) (funext fun a => Fin.ext ?_)
  match a with
  | ⟨0, _⟩ => show win0_5.index t 0 * 3 + 1 * (i 0).val = (i 0).val; rw [h0, Nat.one_mul, Nat.zero_mul, Nat.zero_add]
  | ⟨1, _⟩ => show win0_5.index t 1 * 1024 + 1 * (i 1).val = (i 1).val; rw [h1, Nat.one_mul, Nat.zero_mul, Nat.zero_add]

theorem iblk_b (t : Fin cfg0.N) : iblk m c 6 t = V m c main_arg6 := by
  obtain ⟨_, _, _, _, h0, h1⟩ := whole_facts t
  refine funext fun i => congrArg (V m c main_arg6) (funext fun a => Fin.ext ?_)
  match a with
  | ⟨0, _⟩ => show win0_6.index t 0 * 3 + 1 * (i 0).val = (i 0).val; rw [h0, Nat.one_mul, Nat.zero_mul, Nat.zero_add]
  | ⟨1, _⟩ => show win0_6.index t 1 * 1024 + 1 * (i 1).val = (i 1).val; rw [h1, Nat.one_mul, Nat.zero_mul, Nat.zero_add]

/-- The result array, index by index. -/
def resultArray (i : (Sh2 16384 1024).Idx) : EReal :=
  rowAt (V m c main_v0) (V m c main_v1) (V m c main_v3) (V m c main_v5) (V m c main_v6) (V m c main_arg5) (V m c main_arg6) (i 0) (i 1)

/-- The scratch a point leaves: the product of its tile's rows. -/
theorem scratch_rows (n : ℕ) (hn : n < cfg0.N) (h : n < 16) (r k : Fin 1024) :
    (outsAt0 m c n hn).2 (ix2 r k) = mixAt (V m c main_v3) (V m c main_v5) (V m c main_v6) ⟨n * 1024 + r.val, by omega⟩ k := by
  have e : min n 15 = n := by omega
  refine (scratch_eq m c ⟨n, hn⟩ h r k).trans ?_
  unfold mixAt
  simp only [iblk_s, iblk_a, iblk_w, e]

/-- The output block a point leaves: the rows of the tile before. -/
theorem out_rows (t : Fin cfg0.N) (h : ¬t.val = 0) (r k : Fin 1024) :
    (outsAt0 m c t.val t.isLt).1 (ix2 r k)
      = rowAt (V m c main_v0) (V m c main_v1) (V m c main_v3) (V m c main_v5) (V m c main_v6) (V m c main_arg5) (V m c main_arg6)
        ⟨(t.val - 1) * 1024 + r.val, by have := point_lt t; omega⟩ k := by
  have hN := point_lt t
  have e : ((t.val - 1) * 1024 + r.val) / 2048 = (t.val - 1) / 2 := by omega
  rw [out_eq m c t h]
  unfold tileNorm rowAt row
  simp only [scratch_rows m c (t.val - 1) (Nat.lt_of_le_of_lt (Nat.sub_le _ _) t.isLt) (by omega), mixAt, iblk_x, iblk_m, iblk_g, iblk_b, e]

/-- What a point writes back is its block of the result array. -/
theorem flushed_eq (t : Fin cfg0.N) (h : ¬t.val = 0) : (dats m 0 c).flushed 7 t = ((cfg0.win 7).blk t).view.read (Elt Ideal) (resultArray m c) := by
  rw [Value.flushed7 m c t]
  funext j
  obtain ⟨r, k, rfl⟩ : ∃ (r k : Fin 1024), j = ix2 r k :=
    ⟨j 0, j 1, by funext a; match a with | ⟨0, _⟩ => rfl | ⟨1, _⟩ => rfl⟩
  obtain ⟨_, _, _, _, _, _, _, _, _, h0, h1⟩ := tile_facts t
  refine (out_rows m c t h r k).trans ?_
  refine congrArg₂ (rowAt (V m c main_v0) (V m c main_v1) (V m c main_v3) (V m c main_v5) (V m c main_v6) (V m c main_arg5) (V m c main_arg6)) (Fin.ext ?_) (Fin.ext ?_)
  · show _ = win0_7.index t 0 * 1024 + 1 * r.val
    rw [h0, Nat.one_mul]
  · show _ = win0_7.index t 1 * 1024 + 1 * k.val
    rw [h1, Nat.one_mul, Nat.zero_mul, Nat.zero_add]

/-- The blocks written back tile the array. -/
theorem cover (i : S16384x1024.Idx) : ∃ t : Fin cfg0.N, (cfg0.win 7).flush t = true ∧ i ∈ ((cfg0.win 7).blk t).view.set := by
  have i0 : (i 0).val < 16384 := (i 0).isLt
  have i1 : (i 1).val < 1024 := (i 1).isLt
  have hN : cfg0.N = 17 := N_0
  obtain ⟨t, ht⟩ : ∃ t : Fin cfg0.N, t.val = (i 0).val / 1024 + 1 := ⟨⟨_, by omega⟩, rfl⟩
  refine ⟨t, (flush_facts t).trans (decide_eq_true (by omega)), ?_⟩
  obtain ⟨_, _, _, _, _, _, _, _, _, h0, h1⟩ := tile_facts t
  show i ∈ ((View.whole main_v7).slice (win0_7.rect t)).set
  rw [View.set_slice_whole, Rect.mem_set_unit]
  intro a
  match a with
  | ⟨0, _⟩ =>
    show win0_7.index t 0 * 1024 ≤ (i 0).val ∧ (i 0).val < win0_7.index t 0 * 1024 + 1024
    rw [h0]; omega
  | ⟨1, _⟩ =>
    show win0_7.index t 1 * 1024 ≤ (i 1).val ∧ (i 1).val < win0_7.index t 1 * 1024 + 1024
    rw [h1]; omega

/-- The result array after the run. -/
theorem final : (dats m 0 c).arrAt 7 cfg0.N = resultArray m c :=
  (dats m 0 c).arrAt_eq_of_cover 7 (resultArray m c) (fun t ht => flushed_eq m c t (of_decide_eq_true ((flush_facts t).symm.trans ht))) cover

end Cert.Out
-- ==== Proof.OutEquation.lean ====
module

public import proofs.«01_k».proof.Proof.OutArray
public import proofs.«01_k».proof.Proof.FfnEquation
public import proofs.«01_k».proof.Proof.Gen.Reference4Ideal.Run

@[expose] public section

set_option maxRecDepth 16384

/-! The second projection's result array and its reference's result are the same array. -/

noncomputable section

namespace Cert.Out

open Idealize.ShloMosaic Idealize.ShloMosaic.TcCoe Idealize.SL.Sem Idealize.ShloMosaic.StableHlo
open Cert.Attn (Sh2 Sh1)
open Cert.Ffn (Sh3 mean norm refMean refC refMean_apply refC_apply tokens_apply modulation_apply)
open scoped BigOperators

section
open Cert.Reference4Ideal Cert.Reference4Ideal.Gen

/-- The sum with the residual stream. -/
def refY (x : FVec Ideal S8x2048x1024 .f32) (md : FVec Ideal S8x9216 .f32) (s a : FVec Ideal S8x2048x1024 .f32) (w : FVec Ideal S2048x1024 .f32) : FVec Ideal S8x2048x1024 .f32 :=
  addf (mulf (broadcastInDim S8x2048x1024 ![] bcast_S_S8x2048x1024 (constant S_ .f32 0x3FB504F3#32)) x)
    (mulf (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 5120] md slices_S8x9216_S8x1024_0_5120))))
      (Host.dotGeneral dot_S8x2048x2048_S2048x1024_S8x2048x1024_2_0_01_1_n_n none (concatenate S8x2048x2048 2 [⟨S8x2048x1024, s⟩, ⟨S8x2048x1024, a⟩] concatenates_S8x2048x1024_S8x2048x1024_S8x2048x2048_d2) w))

theorem refY_apply (x : FVec Ideal S8x2048x1024 .f32) (md : FVec Ideal S8x9216 .f32) (s a : FVec Ideal S8x2048x1024 .f32) (w : FVec Ideal S2048x1024 .f32) (b : Fin 8) (t : Fin 2048) (k : Fin 1024) :
    refY x md s a w (ix3 b t k) = Ideal.ofBits .f32 0x3FB504F3#32 * x (ix3 b t k)
      + (Ideal.ofBits .f32 0x3F800000#32 + md (ix2 b ⟨5120 + k.val, by omega⟩)) * mix (fun e => s (ix3 b t e)) (fun e => a (ix3 b t e)) w k := by
  pointwise [refY]
  rfl

/-- The layer norm, laid out as a matrix: `y` less its rows' averages in `z`, over the root of the averaged squares, scaled and shifted. -/
def refLast (z : FVec Ideal S8x2048x1024 .f32) (g b : FVec Ideal S3x1024 .f32) : FVec Ideal S16384x1024 .f32 :=
  shapeCast _ (addf (mulf (mulf z
      (broadcastInDim S8x2048x1024 ![0, 1, 2] bcast_S8x2048x1_S8x2048x1024_0_1_2 (Host.rsqrt (addf (refMean (mulf z z)) (broadcastInDim S8x2048x1 ![] bcast_S_S8x2048x1 (constant S_ .f32 0x3727C5AC#32))))))
      (broadcastInDim S8x2048x1024 ![0, 1, 2] bcast_S1x1x1024_S8x2048x1024_0_1_2 (broadcastInDim S1x1x1024 ![2] bcast_S1024_S1x1x1024_2 (shapeCast _ (extractStridedSlice S1x1024 ![1, 0] g slices_S3x1024_S1x1024_1_0) shapeCasts_S1x1024_S1024))))
    (broadcastInDim S8x2048x1024 ![0, 1, 2] bcast_S1x1x1024_S8x2048x1024_0_1_2 (broadcastInDim S1x1x1024 ![2] bcast_S1024_S1x1x1024_2 (shapeCast _ (extractStridedSlice S1x1024 ![1, 0] b slices_S3x1024_S1x1024_1_0) shapeCasts_S1x1024_S1024))))
    shapeCasts_S8x2048x1024_S16384x1024

theorem refLast_apply (z : FVec Ideal S8x2048x1024 .f32) (g b : FVec Ideal S3x1024 .f32) (R : Fin 16384) (C : Fin 1024) :
    refLast z g b (ix2 R C) = z (ix3 ⟨R.val / 2048, by omega⟩ ⟨R.val % 2048, by omega⟩ C)
      * Ideal.rsqrt (mean (fun k => z (ix3 ⟨R.val / 2048, by omega⟩ ⟨R.val % 2048, by omega⟩ k) * z (ix3 ⟨R.val / 2048, by omega⟩ ⟨R.val % 2048, by omega⟩ k)) + Ideal.ofBits .f32 0x3727C5AC#32)
      * g (ix2 1 C) + b (ix2 1 C) := by
  pointwise [refLast]
  simp only [refMean_apply]
  rfl

/-- The reference's result from its arguments. -/
def refOut (x : FVec Ideal S8x2048x1024 .f32) (md : FVec Ideal S8x9216 .f32) (s a : FVec Ideal S8x2048x1024 .f32) (w : FVec Ideal S2048x1024 .f32)
    (g b : FVec Ideal S3x1024 .f32) : FVec Ideal S16384x1024 .f32 :=
  refLast (refC (refY x md s a w)) g b

/-- Each token's result is the row's. -/
theorem refOut_apply (x : FVec Ideal S8x2048x1024 .f32) (md : FVec Ideal S8x9216 .f32) (s a : FVec Ideal S8x2048x1024 .f32) (w : FVec Ideal S2048x1024 .f32)
    (g b : FVec Ideal S3x1024 .f32) (R : Fin 16384) (C : Fin 1024) :
    refOut x md s a w g b (ix2 R C)
      = row (fun k => x (ix3 ⟨R.val / 2048, by omega⟩ ⟨R.val % 2048, by omega⟩ k))
        (fun k => md (ix2 ⟨R.val / 2048, by omega⟩ ⟨5120 + k.val, by omega⟩))
        (fun k => s (ix3 ⟨R.val / 2048, by omega⟩ ⟨R.val % 2048, by omega⟩ k))
        (fun k => a (ix3 ⟨R.val / 2048, by omega⟩ ⟨R.val % 2048, by omega⟩ k)) w (g (ix2 1 C)) (b (ix2 1 C)) C := by
  unfold refOut row Cert.Ffn.norm
  simp only [refLast_apply, refC_apply, refY_apply]

theorem res_eq (m : (ℓ : Loc nD τ sig) → Buf (Elt Ideal) ℓ) (c : Dev nD) :
    Value.res_out0 m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  show Value.res_main_v55 m c = _
  unfold Value.res_main_v55
  rfl

end

section
open Cert.Kernel4Ideal Cert.Kernel4Ideal.Gen
variable (m : (ℓ : Loc nD τ sig) → Buf (Elt Ideal) ℓ) (c : Dev nD)

theorem V_x : V m c main_v0 = shapeCast S16384x1024 (m ((c : Thread nD τ).loc main_arg0)) shapeCasts_S8x2048x1024_S16384x1024 := by
  simp only [V, hostOps0, List.flatten_cons, List.flatten_nil, List.append_nil, List.cons_append, List.nil_append,
    TRef.binary, TRef.unary, TRef.toBuf, TRef.ofBuf, cast_eq]
  after_results_simp
  rfl

theorem V_m : V m c main_v1 = shapeCast S8x9x1024 (m ((c : Thread nD τ).loc main_arg1)) shapeCasts_S8x9216_S8x9x1024 := by
  simp only [V, hostOps0, List.flatten_cons, List.flatten_nil, List.append_nil, List.cons_append, List.nil_append,
    TRef.binary, TRef.unary, TRef.toBuf, TRef.ofBuf, cast_eq]
  after_results_simp
  rfl

theorem V_s : V m c main_v3 = shapeCast S16384x1024 (m ((c : Thread nD τ).loc main_arg2)) shapeCasts_S8x2048x1024_S16384x1024 := by
  simp only [V, hostOps0, List.flatten_cons, List.flatten_nil, List.append_nil, List.cons_append, List.nil_append,
    TRef.binary, TRef.unary, TRef.toBuf, TRef.ofBuf, cast_eq]
  after_results_simp
  rfl

theorem V_a : V m c main_v5 = shapeCast S16384x1024 (m ((c : Thread nD τ).loc main_arg3)) shapeCasts_S8x2048x1024_S16384x1024 := by
  simp only [V, hostOps0, List.flatten_cons, List.flatten_nil, List.append_nil, List.cons_append, List.nil_append,
    TRef.binary, TRef.unary, TRef.toBuf, TRef.ofBuf, cast_eq]
  after_results_simp
  rfl

theorem V_w : V m c main_v6 = m ((c : Thread nD τ).loc main_arg4) := by
  simp only [V, hostOps0, List.flatten_cons, List.flatten_nil, List.append_nil, List.cons_append, List.nil_append,
    TRef.binary, TRef.unary, TRef.toBuf, TRef.ofBuf, cast_eq]
  after_results_simp
  rfl

end

/-- A token's result from the reshaped arrays is that from the arguments. -/
theorem rowAt_args (x : FVec Ideal (Sh3 8 2048 1024) .f32) (md : FVec Ideal (Sh2 8 9216) .f32) (s a : FVec Ideal (Sh3 8 2048 1024) .f32) (w : FVec Ideal (Sh2 2048 1024) .f32)
    (g b : FVec Ideal (Sh2 3 1024) .f32) (hx : _) (hm : _) (R : Fin 16384) (C : Fin 1024) :
    rowAt (shapeCast (Sh2 16384 1024) x hx) (shapeCast (Sh3 8 9 1024) md hm) (shapeCast (Sh2 16384 1024) s hx) (shapeCast (Sh2 16384 1024) a hx) w g b R C
      = refOut x md s a w g b (ix2 R C) := by
  rw [refOut_apply]
  unfold rowAt
  refine congr (congr (congr (congr (congr (congr (congr (congrArg row ?_) ?_) ?_) ?_) rfl) rfl) rfl) rfl
  · exact funext fun d => tokens_apply x R d
  · exact funext fun d => modulation_apply md _ 5 d
  · exact funext fun d => tokens_apply s R d
  · exact funext fun d => tokens_apply a R d

theorem refOut_congr {x x' : FVec Ideal (Sh3 8 2048 1024) .f32} {md md' : FVec Ideal (Sh2 8 9216) .f32} {s s' a a' : FVec Ideal (Sh3 8 2048 1024) .f32}
    {w w' : FVec Ideal (Sh2 2048 1024) .f32} {g g' b b' : FVec Ideal (Sh2 3 1024) .f32} (h0 : x = x') (h1 : md = md') (h2 : s = s') (h3 : a = a') (h4 : w = w')
    (h5 : g = g') (h6 : b = b') (i : (Sh2 16384 1024).Idx) : refOut x md s a w g b i = refOut x' md' s' a' w' g' b' i := by
  rw [h0, h1, h2, h3, h4, h5, h6]

theorem rowAt_congr {X X' : Vec Ideal (Sh2 16384 1024) .f32} {M M' : Vec Ideal (Sh3 8 9 1024) .f32} {S S' A A' : Vec Ideal (Sh2 16384 1024) .bf16}
    {W W' : Vec Ideal (Sh2 2048 1024) .bf16} {g g' b b' : Vec Ideal (Sh2 3 1024) .f32} (h0 : X = X') (h1 : M = M') (h2 : S = S') (h3 : A = A') (h4 : W = W')
    (h5 : g = g') (h6 : b = b') (R : Fin 16384) (C : Fin 1024) : rowAt X M S A W g b R C = rowAt X' M' S' A' W' g' b' R C := by
  rw [h0, h1, h2, h3, h4, h5, h6]

/-- The two programs' results agree. -/
theorem result_eq (m : (ℓ : Loc Cert.Kernel4Ideal.nD Cert.Kernel4Ideal.τ Cert.Kernel4Ideal.sig) → Buf (Elt Ideal) ℓ) (c : Dev Cert.Kernel4Ideal.nD)
    (m' : (ℓ : Loc Cert.Reference4Ideal.nD Cert.Reference4Ideal.τ Cert.Reference4Ideal.sig) → Buf (Elt Ideal) ℓ)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (h4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4))
    (h5 : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5))
    (h6 : m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) :
    Cert.Reference4Ideal.Value.res_out0 m' c = resultArray m c := by
  have key : ∀ (R : Fin 16384) (C : Fin 1024), Cert.Reference4Ideal.Value.res_out0 m' c (ix2 R C) = resultArray m c (ix2 R C) := fun R C => by
    refine (congrFun (res_eq m' c) (ix2 R C)).trans ?_
    refine (refOut_congr h0 h1 h2 h3 h4 h5 h6 _).trans ?_
    refine (rowAt_args _ _ _ _ _ _ _ Cert.Kernel4Ideal.Gen.facts.shapeCasts_S8x2048x1024_S16384x1024 Cert.Kernel4Ideal.Gen.facts.shapeCasts_S8x9216_S8x9x1024 R C).symm.trans ?_
    exact (rowAt_congr (V_x m c) (V_m m c) (V_s m c) (V_a m c) (V_w m c) (Cert.Kernel4Ideal.Gen.V_main_arg5 m c) (Cert.Kernel4Ideal.Gen.V_main_arg6 m c) R C).symm
  funext i
  have hi : i = ix2 (n0 := 16384) (n1 := 1024) (i 0) (i 1) := eq_ix2 i
  rw [hi]
  exact key (i 0) (i 1)

end Cert.Out
-- ==== Proof.Ada.lean ====
module

public import proofs.«01_k».proof.Proof.FfnTile
public import proofs.«01_k».proof.Proof.Gen.Kernel5Ideal.Value
public import proofs.«01_k».proof.Proof.Gen.Reference5Ideal.Run
public import Idealize.ShloMosaic.Lib.Pipeline.ValueKit

@[expose] public section

set_option maxRecDepth 16384

/-! The conditioning: the kernel's result array, one block of 1024 columns per grid point, and the reference's result are the
same array. -/

noncomputable section

namespace Cert.Ada

open Idealize.ShloMosaic Idealize.ShloMosaic.TcCoe Idealize.SL.Sem Idealize.ShloMosaic.Pipeline Idealize.ShloMosaic.StableHlo
open Cert.Attn (Sh2 Sh1)
open scoped BigOperators

/-- One column of the conditioning, from a row of `8 × 1024` numbers, the column's weights and its bias. -/
def col (a w : Fin 1024 → EReal) (b : EReal) : EReal := ∑ d : Fin 1024, a d * Ideal.logistic (a d) * w d + b

section
open Cert.Kernel5Ideal Cert.Kernel5Ideal.Gen
variable (m : (ℓ : Loc nD τ sig) → Buf (Elt Ideal) ℓ) (c : Dev nD)

theorem pay1_apply (a : Vec Ideal S8x1024 .f32) (w : Vec Ideal S1024x1024 .f32) (b : Vec Ideal S1x1024 .f32) (r : Fin 8) (k : Fin 1024) :
    k0_pay1 (F := Ideal) a w b (ix2 r k) = col (fun d => a (ix2 r d)) (fun d => w (ix2 d k)) (b (ix2 0 k)) := by
  pointwise [k0_pay1]
  rfl

theorem block_facts : ∀ t : Fin cfg0.N,
    win0_0.index t 0 = 0 ∧ win0_0.index t 1 = 0 ∧ win0_1.index t 0 = 0 ∧ win0_1.index t 1 = t.val
      ∧ win0_2.index t 0 = 0 ∧ win0_2.index t 1 = t.val ∧ win0_3.index t 0 = 0 ∧ win0_3.index t 1 = t.val ∧ (cfg0.win 3).flush t = true :=
  (by decide +kernel : ∀ t : Fin grid0.N,
    win0_0.index t 0 = 0 ∧ win0_0.index t 1 = 0 ∧ win0_1.index t 0 = 0 ∧ win0_1.index t 1 = t.val
      ∧ win0_2.index t 0 = 0 ∧ win0_2.index t 1 = t.val ∧ win0_3.index t 0 = 0 ∧ win0_3.index t 1 = t.val ∧ (cfg0.win 3).flush t = true)

theorem point_lt (t : Fin cfg0.N) : t.val < 9 := t.isLt

/-- The result from the arrays. -/
def colAt (a : Vec Ideal (Sh2 8 1024) .f32) (w : Vec Ideal (Sh2 1024 9216) .f32) (b : Vec Ideal (Sh2 1 9216) .f32) (R : Fin 8) (C : Fin 9216) : EReal :=
  col (fun d => a (ix2 R d)) (fun d => w (ix2 d C)) (b (ix2 0 C))

/-- The result array, index by index. -/
def resultArray (i : (Sh2 8 9216).Idx) : EReal := colAt (V m c main_arg0) (V m c main_arg1) (V m c main_v0) (i 0) (i 1)

theorem out_apply (t : Fin cfg0.N) (r : Fin 8) (k : Fin 1024) :
    out0_3 (iblk m c 0 t) (iblk m c 1 t) (iblk m c 2 t) (ix2 r k)
      = colAt (V m c main_arg0) (V m c main_arg1) (V m c main_v0) r ⟨t.val * 1024 + k.val, by have := point_lt t; omega⟩ := by
  obtain ⟨a0, a1, w0, w1, b0, b1, _⟩ := block_facts t
  refine Eq.trans ?_ ((pay1_apply (iblk m c 0 t) (iblk m c 1 t) (iblk m c 2 t) r k).trans ?_)
  · refine congrFun ?_ (ix2 r k)
    unfold out0_3
    frame_out
    all_goals rfl
  · unfold colAt
    refine congr (congrArg₂ col (funext fun d => ?_) (funext fun d => ?_)) ?_
    · refine congrArg (V m c main_arg0) (funext fun a => Fin.ext ?_)
      match a with
      | ⟨0, _⟩ => show win0_0.index t 0 * 8 + 1 * r.val = r.val; rw [a0]; omega
      | ⟨1, _⟩ => show win0_0.index t 1 * 1024 + 1 * d.val = d.val; rw [a1]; omega
    · refine congrArg (V m c main_arg1) (funext fun a => Fin.ext ?_)
      match a with
      | ⟨0, _⟩ => show win0_1.index t 0 * 1024 + 1 * d.val = d.val; rw [w0]; omega
      | ⟨1, _⟩ => show win0_1.index t 1 * 1024 + 1 * k.val = t.val * 1024 + k.val; rw [w1]; omega
    · refine congrArg (V m c main_v0) (funext fun a => Fin.ext ?_)
      match a with
      | ⟨0, _⟩ => show win0_2.index t 0 * 1 + 1 * 0 = 0; rw [b0]
      | ⟨1, _⟩ => show win0_2.index t 1 * 1024 + 1 * k.val = t.val * 1024 + k.val; rw [b1]; omega

theorem flushed_eq (t : Fin cfg0.N) : (dats m 0 c).flushed 3 t = ((cfg0.win 3).blk t).view.read (Elt Ideal) (resultArray m c) := by
  rw [Value.flushed3 m c t]
  funext j
  obtain ⟨r, k, rfl⟩ : ∃ (r : Fin 8) (k : Fin 1024), j = ix2 r k :=
    ⟨j 0, j 1, by funext a; match a with | ⟨0, _⟩ => rfl | ⟨1, _⟩ => rfl⟩
  obtain ⟨_, _, _, _, _, _, h0, h1, _⟩ := block_facts t
  refine (out_apply m c t r k).trans ?_
  refine congrArg₂ (colAt (V m c main_arg0) (V m c main_arg1) (V m c main_v0)) (Fin.ext ?_) (Fin.ext ?_)
  · show r.val = win0_3.index t 0 * 8 + 1 * r.val
    rw [h0]; omega
  · show t.val * 1024 + k.val = win0_3.index t 1 * 1024 + 1 * k.val
    rw [h1]; omega

/-- The blocks written back tile the array. -/
theorem cover (i : S8x9216.Idx) : ∃ t : Fin cfg0.N, (cfg0.win 3).flush t = true ∧ i ∈ ((cfg0.win 3).blk t).view.set := by
  have i0 : (i 0).val < 8 := (i 0).isLt
  have i1 : (i 1).val < 9216 := (i 1).isLt
  have hN : cfg0.N = 9 := N_0
  obtain ⟨t, ht⟩ : ∃ t : Fin cfg0.N, t.val = (i 1).val / 1024 := ⟨⟨_, by omega⟩, rfl⟩
  obtain ⟨_, _, _, _, _, _, h0, h1, hf⟩ := block_facts t
  refine ⟨t, hf, ?_⟩
  show i ∈ ((View.whole main_v1).slice (win0_3.rect t)).set
  rw [View.set_slice_whole, Rect.mem_set_unit]
  intro a
  match a with
  | ⟨0, _⟩ =>
    show win0_3.index t 0 * 8 ≤ (i 0).val ∧ (i 0).val < win0_3.index t 0 * 8 + 8
    rw [h0]; omega
  | ⟨1, _⟩ =>
    show win0_3.index t 1 * 1024 ≤ (i 1).val ∧ (i 1).val < win0_3.index t 1 * 1024 + 1024
    rw [h1]; omega

/-- The result array after the run. -/
theorem final : (dats m 0 c).arrAt 3 cfg0.N = resultArray m c :=
  (dats m 0 c).arrAt_eq_of_cover 3 (resultArray m c) (fun t _ => flushed_eq m c t) cover

theorem V_b : V m c main_v0 = shapeCast S1x9216 (m ((c : Thread nD τ).loc main_arg2)) shapeCasts_S9216_S1x9216 := by
  simp only [V, hostOps0, List.flatten_cons, List.flatten_nil, List.append_nil, List.cons_append, List.nil_append,
    TRef.binary, TRef.unary, TRef.toBuf, TRef.ofBuf, cast_eq]
  after_results_simp
  rfl

theorem bias_apply (b : FVec Ideal S9216 .f32) (C : Fin 9216) : shapeCast S1x9216 b shapeCasts_S9216_S1x9216 (ix2 0 C) = b (ix1 C) := by
  pointwise

end

section
open Cert.Reference5Ideal Cert.Reference5Ideal.Gen

/-- The reference's result from its arguments. -/
def refOut (a : FVec Ideal S8x1024 .f32) (w : FVec Ideal S1024x9216 .f32) (b : FVec Ideal S9216 .f32) : FVec Ideal S8x9216 .f32 :=
  addf (Host.dotGeneral dot_S8x1024_S1024x9216_S8x9216_1_0_0_1_n_n none (mulf a (Host.divf (broadcastInDim S8x1024 ![] bcast_S_S8x1024 (constant S_ .f32 0x3F800000#32))
    (addf (broadcastInDim S8x1024 ![] bcast_S_S8x1024 (constant S_ .f32 0x3F800000#32)) (Host.exp (Host.negf a))))) w)
    (broadcastInDim S8x9216 ![0, 1] bcast_S1x9216_S8x9216_0_1 (broadcastInDim S1x9216 ![1] bcast_S9216_S1x9216_1 b))

theorem refOut_apply (a : FVec Ideal S8x1024 .f32) (w : FVec Ideal S1024x9216 .f32) (b : FVec Ideal S9216 .f32) (R : Fin 8) (C : Fin 9216) :
    refOut a w b (ix2 R C) = col (fun d => a (ix2 R d)) (fun d => w (ix2 d C)) (b (ix1 C)) := by
  pointwise [refOut]
  rfl

end

/-- The two programs' results agree. -/
theorem result_eq (m : (ℓ : Loc Cert.Kernel5Ideal.nD Cert.Kernel5Ideal.τ Cert.Kernel5Ideal.sig) → Buf (Elt Ideal) ℓ) (c : Dev Cert.Kernel5Ideal.nD)
    (m' : (ℓ : Loc Cert.Reference5Ideal.nD Cert.Reference5Ideal.τ Cert.Reference5Ideal.sig) → Buf (Elt Ideal) ℓ)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) :
    refOut (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2)) = resultArray m c := by
  have key : ∀ (R : Fin 8) (C : Fin 9216), refOut (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2)) (ix2 R C) = resultArray m c (ix2 R C) := fun R C => by
    refine (refOut_apply _ _ _ R C).trans ?_
    refine congr (congrArg₂ col (funext fun d => congrFun ?_ (ix2 R d)) (funext fun d => congrFun ?_ (ix2 d C))) ?_
    · exact h0.trans (Cert.Kernel5Ideal.Gen.V_main_arg0 m c).symm
    · exact h1.trans (Cert.Kernel5Ideal.Gen.V_main_arg1 m c).symm
    · exact (congrFun h2 (ix1 C)).trans ((bias_apply _ C).symm.trans (congrFun (V_b m c).symm (ix2 0 C)))
  funext i
  have hi : i = ix2 (n0 := 8) (n1 := 9216) (i 0) (i 1) := eq_ix2 i
  rw [hi]
  exact key (i 0) (i 1)

end Cert.Ada
-- ==== Proof.ProjTile.lean ====
module

public import proofs.«01_k».proof.Proof.FfnBlock
public import proofs.«01_k».proof.Proof.Gen.Kernel6Ideal.Value

@[expose] public section

set_option maxRecDepth 16384

/-! What the mixer's first projection computes from one tile of 512 tokens: the modulated rows, their product with the
weights, the causal convolution over the tile and the last rows of the tile before, and the normalised latent's product. -/

noncomputable section

namespace Cert.Proj

open Idealize.ShloMosaic Idealize.ShloMosaic.TcCoe Idealize.SL.Sem Idealize.ShloMosaic.Pipeline
open Cert.Attn (Sh2 Sh1)
open Cert.Ffn (Sh3 ld_mat ld_line ld_row)
open Cert.Kernel6Ideal Cert.Kernel6Ideal.Gen
open scoped BigOperators

/-- `y · sigmoid y`. -/
def silu (y : EReal) : EReal := y * Ideal.logistic y

/-- The row `j` places before row `r`: of the tile, or of the eight rows before it. -/
def earlier (a : Fin 8 → EReal) (x : Fin 512 → EReal) (j : ℕ) (r : Fin 512) : EReal :=
  if r.val < j then a ⟨(r.val + 8 - j) % 8, Nat.mod_lt _ (by decide)⟩ else x ⟨r.val - j, by omega⟩

/-- The convolution's four taps, the latest row first. -/
def taps (b w3 w2 w1 w0 x0 x1 x2 x3 : EReal) : EReal := b + w3 * x0 + w2 * x1 + w1 * x2 + w0 * x3

/-- One column of the normalised latent's product. -/
def latent (y g : Fin 256 → EReal) (w : Fin 256 → EReal) : EReal :=
  ∑ e, y e * Ideal.rsqrt (Ideal.div (∑ d, y d * y d) (Ideal.ofBits .f32 0x43800000#32) + Ideal.ofBits .f32 0x3727C5AC#32) * g e * w e

theorem select_slt {α : Type} (r j : ℕ) (hr : r < 8) (hj : j < 4) (a b : α) :
    Scalar.select (IntOp.cmpi CmpIPredicate.slt (BitVec.ofNat 32 r) (BitVec.ofNat 32 j)) a b = if r < j then a else b := by
  have h : ∀ (r : Fin 8) (j : Fin 4), IntOp.cmpi CmpIPredicate.slt (BitVec.ofNat 32 r.val) (BitVec.ofNat 32 j.val) = if r.val < j.val then 1#1 else 0#1 := by decide
  rw [h ⟨r, hr⟩ ⟨j, hj⟩]
  show Scalar.select (if r < j then 1#1 else 0#1) a b = _
  split <;> rfl

/-- The tile's rows moved down `j` places, the first of them taken from the eight rows before. -/
theorem moved (a : Fin 8 → EReal) (x : Fin 512 → EReal) (j : ℕ) (hj : j < 4) (r : Fin 512) (p q : _) :
    (if h : r.val < 8 then
        Scalar.select (IntOp.cmpi CmpIPredicate.slt (BitVec.ofNat 32 r.val) (BitVec.ofNat 32 j)) (a ⟨(r.val + 8 - j) % 8, Nat.mod_lt _ (by decide)⟩)
          (x ⟨(r.val + 512 - j) % 512, p⟩)
      else x ⟨(8 + (r.val - 8) + 512 - j) % 512, q⟩) = earlier a x j r := by
  have hr := r.isLt
  unfold earlier
  by_cases h : r.val < 8
  · rw [dif_pos h, select_slt r.val j h hj]
    by_cases h' : r.val < j
    · rw [if_pos h', if_pos h']
    · rw [if_neg h', if_neg h']
      exact congrArg x (Fin.ext (by show (r.val + 512 - j) % 512 = r.val - j; omega))
  · rw [dif_neg h, if_neg (by omega)]
    exact congrArg x (Fin.ext (by show (8 + (r.val - 8) + 512 - j) % 512 = r.val - j; omega))

theorem pay3_apply (x : Vec Ideal S512x1024 .f32) (sh sc : Vec Ideal S1x1x1024 .f32) (r : Fin 512) (d : Fin 1024) :
    k0_pay3 (F := Ideal) x sh sc (ix2 r d) = x (ix2 r d) * (Ideal.ofBits .f32 0x3F800000#32 + sc (ix3 0 0 d)) + sh (ix3 0 0 d) := by
  pointwise [k0_pay3]

theorem pay5_apply (x : Vec Ideal S512x1024 .f32) (sh sc : Vec Ideal S1x1x1024 .f32) (w : Vec Ideal S1024x1536 .bf16) (r : Fin 512) (k : Fin 1536) :
    k0_pay5 (F := Ideal) x sh sc w (ix2 r k) = ∑ e : Fin 1024, k0_pay3 (F := Ideal) x sh sc (ix2 r e) * w (ix2 e k) := by
  pointwise [k0_pay5]

theorem pay7_apply (x : Vec Ideal S512x1024 .f32) (sh sc : Vec Ideal S1x1x1024 .f32) (w : Vec Ideal S1024x1536 .bf16) (s : Fin 8) (k : Fin 1536) :
    k0_pay7 (F := Ideal) (k0_pay6 x sh sc w) (ix2 s k) = k0_pay5 (F := Ideal) x sh sc w (ix2 ⟨504 + s.val, by omega⟩ k) := by
  pointwise [k0_pay7, k0_pay6]

theorem pay8_apply (h : FVec Ideal S512x1024 .bf16) (w : FVec Ideal S1024x1024 .bf16) (r : Fin 512) (k : Fin 1024) :
    k0_pay8 (F := Ideal) h w (ix2 r k) = ∑ e : Fin 1024, h (ix2 r e) * w (ix2 e k) := by
  pointwise [k0_pay8]

theorem pay9_apply (h : FVec Ideal S512x1024 .bf16) (w : FVec Ideal S1024x1024 .bf16) (r : Fin 512) (k : Fin 1024) :
    k0_pay9 (F := Ideal) h w (ix2 r k) = ∑ e : Fin 1024, h (ix2 r e) * w (ix2 e k) := by
  pointwise [k0_pay9]

theorem pay10_apply (h : FVec Ideal S512x1024 .bf16) (w : FVec Ideal S1024x1024 .bf16) (r : Fin 512) (k : Fin 128) :
    k0_pay10 (F := Ideal) h w (ix2 r k) = k0_pay9 (F := Ideal) h w (ix2 r ⟨k.val, by omega⟩) := by
  pointwise [k0_pay10]

/-- The convolved and activated rows. -/
abbrev convolved (a : FVec Ideal S8x1536 .f32) (x : FVec Ideal S512x1536 .f32) (b w3 w2 w1 w0 : Vec Ideal S1x1536 .f32) : FVec Ideal S512x1536 .f32 :=
  k0_pay14 (F := Ideal) a x (iota .tc S8x1536 32 [0] iota_S8x1536_d0_w32) (k0_pay11 a x b w3 w2) (k0_pay12 x) k0_pay13 w1 w0

theorem convolved_apply (a : FVec Ideal S8x1536 .f32) (x : FVec Ideal S512x1536 .f32) (b w3 w2 w1 w0 : Vec Ideal S1x1536 .f32) (r : Fin 512) (k : Fin 1536) :
    convolved a x b w3 w2 w1 w0 (ix2 r k) = silu (taps (b (ix2 0 k)) (w3 (ix2 0 k)) (w2 (ix2 0 k)) (w1 (ix2 0 k)) (w0 (ix2 0 k)) (x (ix2 r k))
      (earlier (fun s => a (ix2 s k)) (fun r => x (ix2 r k)) 1 r) (earlier (fun s => a (ix2 s k)) (fun r => x (ix2 r k)) 2 r)
      (earlier (fun s => a (ix2 s k)) (fun r => x (ix2 r k)) 3 r)) := by
  unfold convolved
  pointwise [k0_pay14, k0_pay11, k0_pay12, k0_pay13]
  have e1 := moved (fun s => a (ix2 s k)) (fun r => x (ix2 r k)) 1 (by decide) r (Nat.mod_lt _ (by decide)) (Nat.mod_lt _ (by decide))
  have e2 := moved (fun s => a (ix2 s k)) (fun r => x (ix2 r k)) 2 (by decide) r (Nat.mod_lt _ (by decide)) (Nat.mod_lt _ (by decide))
  have e3 := moved (fun s => a (ix2 s k)) (fun r => x (ix2 r k)) 3 (by decide) r (Nat.mod_lt _ (by decide)) (Nat.mod_lt _ (by decide))
  rw [← e1, ← e2, ← e3]
  rfl

theorem pay15_apply (a : FVec Ideal S8x1536 .f32) (x : FVec Ideal S512x1536 .f32) (b w3 w2 w1 w0 : Vec Ideal S1x1536 .f32) (r : Fin 512) (k : Fin 1024) :
    k0_pay15 (F := Ideal) a x (iota .tc S8x1536 32 [0] iota_S8x1536_d0_w32) (k0_pay11 a x b w3 w2) (k0_pay12 x) k0_pay13 w1 w0 (ix2 r k)
      = convolved a x b w3 w2 w1 w0 (ix2 r ⟨k.val, by omega⟩) := by
  pointwise [k0_pay15]

theorem pay16_apply (a : FVec Ideal S8x1536 .f32) (x : FVec Ideal S512x1536 .f32) (b w3 w2 w1 w0 : Vec Ideal S1x1536 .f32) (r : Fin 512) (k : Fin 512) :
    k0_pay16 (F := Ideal) a x (iota .tc S8x1536 32 [0] iota_S8x1536_d0_w32) (k0_pay11 a x b w3 w2) (k0_pay12 x) k0_pay13 w1 w0 (ix2 r k)
      = convolved a x b w3 w2 w1 w0 (ix2 r ⟨1024 + k.val, by omega⟩) := by
  pointwise [k0_pay16]

theorem pay44_apply (p : FVec Ideal S512x1024 .f32) (g : Vec Ideal S1x256 .f32) (w : FVec Ideal S256x2048 .bf16) (r : Fin 512) (k : Fin 2048) :
    k0_pay44 (F := Ideal) p g w (ix2 r k) = latent (fun e => p (ix2 r ⟨512 + e.val, by omega⟩)) (fun e => g (ix2 0 e)) (fun e => w (ix2 e k)) := by
  pointwise [k0_pay44]
  rfl

theorem pay1_apply (x : FVec Ideal S512x2048 .f32) (r : Fin 512) (k : Fin 1024) :
    k0_pay1 (F := Ideal) x (ix2 r k) = x (ix2 r ⟨1024 + k.val, by omega⟩) := by
  pointwise [k0_pay1]

/-- Whether a grid point's tile begins a sequence, as the kernel's word. -/
def first (i : grid0.Coords) : BitVec 1 :=
  let d : BitVec 32 := Scalar.select (Scalar.cmpi .eq 4#32 0#32) 1#32 4#32
  let q : BitVec 32 := Scalar.remsi (BitVec.ofNat 32 (i 0).val) d
  Scalar.cmpi .eq (Scalar.select (Scalar.andi (Scalar.xori (Scalar.cmpi .slt q 0#32) (Scalar.cmpi .slt d 0#32)) (Scalar.cmpi .ne q 0#32)) (Scalar.addi q d) q) 0#32

theorem first_eq : ∀ t : Fin grid0.N, first (grid0.coords t) = if t.val % 4 = 0 then 1#1 else 0#1 := by decide +kernel

/-- The rows before a tile that begins a sequence are zero. -/
theorem pay4_zero (t : Fin grid0.N) (h : t.val % 4 = 0) (a : Vec Ideal S8x1536 .f32) (s : Fin 8) (k : Fin 1536) :
    k0_pay4 (F := Ideal) (grid0.coords t) a (ix2 s k) = 0 := by
  have e : k0_pay4 (F := Ideal) (grid0.coords t) a = Scalar.select (first (grid0.coords t)) (broadcast S8x1536 (Scalar.ofBits .f32 0x00000000#32)) a := rfl
  rw [e, first_eq, if_pos h]
  show Ideal.ofBits .f32 0x00000000#32 = 0
  simp [Ideal.ofBits, Ideal.ieee, -EReal.coe_mul]

theorem pay4_keep (t : Fin grid0.N) (h : ¬t.val % 4 = 0) (a : Vec Ideal S8x1536 .f32) : k0_pay4 (F := Ideal) (grid0.coords t) a = a := by
  have e : k0_pay4 (F := Ideal) (grid0.coords t) a = Scalar.select (first (grid0.coords t)) (broadcast S8x1536 (Scalar.ofBits .f32 0x00000000#32)) a := rfl
  rw [e, first_eq, if_neg h]
  rfl

end Cert.Proj
-- ==== Proof.ProjBlock.lean ====
module

public import proofs.«01_k».proof.Proof.ProjTile

@[expose] public section

set_option maxRecDepth 16384

/-! What the mixer's first projection leaves at one grid point, in its five output blocks and in the eight rows it keeps
for the next tile. -/

noncomputable section

namespace Cert.Proj

open Idealize.ShloMosaic Idealize.ShloMosaic.TcCoe Idealize.SL.Sem Idealize.ShloMosaic.Pipeline
open Cert.Attn (Sh2 Sh1)
open Cert.Ffn (Sh3 ld_mat ld_line ld_row)
open Cert.Kernel6Ideal Cert.Kernel6Ideal.Gen
open scoped BigOperators

variable (m : (ℓ : Loc nD τ sig) → Buf (Elt Ideal) ℓ) (c : Dev nD)

/-- The loads of the shift, of the scale, of three parts of the weights, and of the convolution's taps. -/
abbrev shift (t : Fin cfg0.N) : Vec Ideal S1x1x1024 .f32 := View.ld (iblk m c 1 t) (Rect.unit (s := S1x9x1024) ![0, 3, 0] S1x1x1024.size inb_S1x9x1024_S1x1x1024_0_3_0)
abbrev scale (t : Fin cfg0.N) : Vec Ideal S1x1x1024 .f32 := View.ld (iblk m c 1 t) (Rect.unit (s := S1x9x1024) ![0, 4, 0] S1x1x1024.size inb_S1x9x1024_S1x1x1024_0_4_0)
abbrev wz (t : Fin cfg0.N) : Vec Ideal S1024x1024 .bf16 := View.ld (iblk m c 2 t) (Rect.unit (s := S1024x3584) ![0, 0] S1024x1024.size inb_S1024x3584_S1024x1024_0_0)
abbrev wx (t : Fin cfg0.N) : Vec Ideal S1024x1536 .bf16 := View.ld (iblk m c 2 t) (Rect.unit (s := S1024x3584) ![0, 1024] S1024x1536.size inb_S1024x3584_S1024x1536_0_1024)
abbrev wp (t : Fin cfg0.N) : Vec Ideal S1024x1024 .bf16 := View.ld (iblk m c 2 t) (Rect.unit (s := S1024x3584) ![0, 2560] S1024x1024.size inb_S1024x3584_S1024x1024_0_2560)
abbrev w3 (t : Fin cfg0.N) : Vec Ideal S1x1536 .f32 := View.ld (iblk m c 3 t) (Rect.unit (s := S4x1536) ![3, 0] S1x1536.size inb_S4x1536_S1x1536_3_0)
abbrev w2 (t : Fin cfg0.N) : Vec Ideal S1x1536 .f32 := View.ld (iblk m c 3 t) (Rect.unit (s := S4x1536) ![2, 0] S1x1536.size inb_S4x1536_S1x1536_2_0)
abbrev w1 (t : Fin cfg0.N) : Vec Ideal S1x1536 .f32 := View.ld (iblk m c 3 t) (Rect.unit (s := S4x1536) ![1, 0] S1x1536.size inb_S4x1536_S1x1536_1_0)
abbrev w0 (t : Fin cfg0.N) : Vec Ideal S1x1536 .f32 := View.ld (iblk m c 3 t) (Rect.unit (s := S4x1536) ![0, 0] S1x1536.size inb_S4x1536_S1x1536_0_0)

/-- The modulated rows, and the product the convolution reads. -/
abbrev hid (t : Fin cfg0.N) : FVec Ideal S512x1024 .bf16 := k0_pay3 (F := Ideal) (iblk m c 0 t) (shift m c t) (scale m c t)
abbrev conv (t : Fin cfg0.N) : FVec Ideal S512x1536 .f32 := k0_pay5 (F := Ideal) (iblk m c 0 t) (shift m c t) (scale m c t) (wx m c t)

/-- The eight rows kept by the point before. -/
abbrev kept (t : Fin cfg0.N) : Vec Ideal S8x1536 .f32 := (outsAt0 m c (t.val - 1) (Nat.lt_of_le_of_lt (Nat.sub_le _ _) t.isLt)).2.2.2.2.2.2.2

theorem out_z (t : Fin cfg0.N) : (outsAt0 m c t.val t.isLt).1 = k0_pay8 (F := Ideal) (hid m c t) (wz m c t) := by
  by_cases h0 : t.val % 32 = 0
  on_goal 1 => rw [outsAt0_A m c t h0]
  on_goal 2 => rw [outsAt0_B m c t h0]
  all_goals
    frame_out
  all_goals rfl

theorem out_dt (t : Fin cfg0.N) : (outsAt0 m c t.val t.isLt).2.2.2.1 = k0_pay10 (F := Ideal) (hid m c t) (wp m c t) := by
  by_cases h0 : t.val % 32 = 0
  on_goal 1 => rw [outsAt0_A m c t h0]
  on_goal 2 => rw [outsAt0_B m c t h0]
  all_goals
    frame_out
  all_goals rfl

theorem out_v (t : Fin cfg0.N) :
    (outsAt0 m c t.val t.isLt).2.2.2.2.2.2.1 = k0_pay1 (F := Ideal) (k0_pay44 (F := Ideal) (k0_pay9 (F := Ideal) (hid m c t) (wp m c t)) (iblk m c 7 t) (iblk m c 8 t)) := by
  by_cases h0 : t.val % 32 = 0
  on_goal 1 => rw [outsAt0_A m c t h0]
  on_goal 2 => rw [outsAt0_B m c t h0]
  all_goals
    frame_out
  all_goals rfl

theorem out_kept (t : Fin cfg0.N) :
    (outsAt0 m c t.val t.isLt).2.2.2.2.2.2.2 = k0_pay7 (F := Ideal) (k0_pay6 (F := Ideal) (iblk m c 0 t) (shift m c t) (scale m c t) (wx m c t)) := by
  by_cases h0 : t.val % 32 = 0
  on_goal 1 => rw [outsAt0_A m c t h0]
  on_goal 2 => rw [outsAt0_B m c t h0]
  all_goals
    frame_out
  all_goals rfl

/-- The eight rows before a tile: zero where a sequence begins, else those kept. -/
def rowsBefore (t : Fin cfg0.N) : FVec Ideal S8x1536 .f32 := if t.val % 4 = 0 then fun _ => 0 else kept m c t

theorem pay4_first (t : Fin cfg0.N) (h : t.val % 4 = 0) (a : Vec Ideal S8x1536 .f32) : k0_pay4 (F := Ideal) (grid0.coords t) a = rowsBefore m c t := by
  unfold rowsBefore
  rw [if_pos h]
  funext i
  obtain ⟨s, k, rfl⟩ : ∃ (s : Fin 8) (k : Fin 1536), i = ix2 s k := ⟨i 0, i 1, by funext a; match a with | ⟨0, _⟩ => rfl | ⟨1, _⟩ => rfl⟩
  exact pay4_zero t h a s k

theorem pay4_rest (t : Fin cfg0.N) : k0_pay4 (F := Ideal) (grid0.coords t) (kept m c t) = rowsBefore m c t := by
  by_cases h : t.val % 4 = 0
  · exact pay4_first m c t h _
  · unfold rowsBefore
    rw [if_neg h]
    exact pay4_keep t h _

/-- The convolved rows of a tile. -/
abbrev rows (t : Fin cfg0.N) : FVec Ideal S512x1536 .f32 :=
  convolved (rowsBefore m c t) (conv m c t) (iblk m c 4 t) (w3 m c t) (w2 m c t) (w1 m c t) (w0 m c t)

theorem out_xs (t : Fin cfg0.N) : (outsAt0 m c t.val t.isLt).2.1
    = k0_pay15 (F := Ideal) (rowsBefore m c t) (conv m c t) (iota .tc S8x1536 32 [0] iota_S8x1536_d0_w32)
      (k0_pay11 (rowsBefore m c t) (conv m c t) (iblk m c 4 t) (w3 m c t) (w2 m c t)) (k0_pay12 (conv m c t)) k0_pay13 (w1 m c t) (w0 m c t) := by
  have hr : View.read (Elt Ideal) (View.whole cc0_scratch0) ((Memref.isWhole_whole cc0_scratch0).unread (kept m c t)) = kept m c t :=
    (Memref.isWhole_whole cc0_scratch0).read_unread _
  by_cases h0 : t.val % 32 = 0
  · rw [outsAt0_A m c t h0, ← pay4_first m c t (by omega) (k0_pay2 (F := Ideal))]
    frame_out
    rfl
  · rw [outsAt0_B m c t h0, ← pay4_rest m c t]
    frame_out
    rw [hr]
    rfl

theorem out_bc (t : Fin cfg0.N) : (outsAt0 m c t.val t.isLt).2.2.1
    = k0_pay16 (F := Ideal) (rowsBefore m c t) (conv m c t) (iota .tc S8x1536 32 [0] iota_S8x1536_d0_w32)
      (k0_pay11 (rowsBefore m c t) (conv m c t) (iblk m c 4 t) (w3 m c t) (w2 m c t)) (k0_pay12 (conv m c t)) k0_pay13 (w1 m c t) (w0 m c t) := by
  have hr : View.read (Elt Ideal) (View.whole cc0_scratch0) ((Memref.isWhole_whole cc0_scratch0).unread (kept m c t)) = kept m c t :=
    (Memref.isWhole_whole cc0_scratch0).read_unread _
  by_cases h0 : t.val % 32 = 0
  · rw [outsAt0_A m c t h0, ← pay4_first m c t (by omega) (k0_pay2 (F := Ideal))]
    frame_out
    rfl
  · rw [outsAt0_B m c t h0, ← pay4_rest m c t]
    frame_out
    rw [hr]
    rfl

end Cert.Proj
-- ==== Proof.ProjArray.lean ====
module

public import proofs.«01_k».proof.Proof.ProjBlock

@[expose] public section

set_option maxRecDepth 16384

/-! The first projection's result arrays, read from the arrays that its windows hold. -/

noncomputable section

namespace Cert.Proj

open Idealize.ShloMosaic Idealize.ShloMosaic.TcCoe Idealize.SL.Sem Idealize.ShloMosaic.Pipeline
open Cert.Attn (Sh2 Sh1)
open Cert.Ffn (Sh3 ld_mat ld_line ld_row)
open Cert.Kernel6Ideal Cert.Kernel6Ideal.Gen
open scoped BigOperators

/-- Row `R`, scaled by its batch's `1 + scale` and shifted. -/
def hidAt (X : Vec Ideal (Sh2 16384 1024) .f32) (M : Vec Ideal (Sh3 8 9 1024) .f32) (R : Fin 16384) (d : Fin 1024) : EReal :=
  X (ix2 R d) * (Ideal.ofBits .f32 0x3F800000#32 + M (ix3 ⟨R.val / 2048, by omega⟩ 4 d)) + M (ix3 ⟨R.val / 2048, by omega⟩ 3 d)

/-- Row `R` of the product. -/
def prodAt (X : Vec Ideal (Sh2 16384 1024) .f32) (M : Vec Ideal (Sh3 8 9 1024) .f32) (W : Vec Ideal (Sh2 1024 3584) .bf16) (R : Fin 16384) (j : Fin 3584) : EReal :=
  ∑ e : Fin 1024, hidAt X M R e * W (ix2 e j)

/-- The product the convolution reads `j` rows earlier in the sequence, zero before the sequence begins. -/
def pastAt (X : Vec Ideal (Sh2 16384 1024) .f32) (M : Vec Ideal (Sh3 8 9 1024) .f32) (W : Vec Ideal (Sh2 1024 3584) .bf16) (R : Fin 16384) (k : Fin 1536) (j : ℕ) : EReal :=
  if R.val % 2048 < j then 0 else prodAt X M W ⟨R.val - j, by omega⟩ ⟨1024 + k.val, by omega⟩

/-- The convolved and activated row. -/
def rowAt (X : Vec Ideal (Sh2 16384 1024) .f32) (M : Vec Ideal (Sh3 8 9 1024) .f32) (W : Vec Ideal (Sh2 1024 3584) .bf16) (cw : Vec Ideal (Sh2 4 1536) .f32)
    (cb : Vec Ideal (Sh2 1 1536) .f32) (R : Fin 16384) (k : Fin 1536) : EReal :=
  silu (taps (cb (ix2 0 k)) (cw (ix2 3 k)) (cw (ix2 2 k)) (cw (ix2 1 k)) (cw (ix2 0 k)) (prodAt X M W R ⟨1024 + k.val, by omega⟩)
    (pastAt X M W R k 1) (pastAt X M W R k 2) (pastAt X M W R k 3))

/-- The values' row: the normalised latent with its half of the weights. -/
def valueAt (X : Vec Ideal (Sh2 16384 1024) .f32) (M : Vec Ideal (Sh3 8 9 1024) .f32) (W : Vec Ideal (Sh2 1024 3584) .bf16) (g : Vec Ideal (Sh2 1 256) .f32)
    (U : Vec Ideal (Sh2 256 2048) .bf16) (R : Fin 16384) (k : Fin 2048) : EReal :=
  latent (fun e => prodAt X M W R ⟨3072 + e.val, by omega⟩) (fun e => g (ix2 0 e)) (fun e => U (ix2 e k))

theorem point_lt (t : Fin cfg0.N) : t.val < 32 := t.isLt

/-- The tiles and batches the windows hold, from the grid point's number. -/
theorem tile_facts : ∀ t : Fin cfg0.N,
    win0_0.index t 0 = t.val ∧ win0_0.index t 1 = 0 ∧ win0_1.index t 0 = t.val / 4 ∧ win0_1.index t 1 = 0 ∧ win0_1.index t 2 = 0 :=
  (by decide +kernel : ∀ t : Fin grid0.N,
    win0_0.index t 0 = t.val ∧ win0_0.index t 1 = 0 ∧ win0_1.index t 0 = t.val / 4 ∧ win0_1.index t 1 = 0 ∧ win0_1.index t 2 = 0)

/-- The weights' windows hold the whole arrays. -/
theorem whole_facts : ∀ t : Fin cfg0.N,
    win0_2.index t = ![0, 0] ∧ win0_3.index t = ![0, 0] ∧ win0_4.index t = ![0, 0] ∧ win0_7.index t = ![0, 0] ∧ win0_8.index t = ![0, 0] :=
  (by decide +kernel : ∀ t : Fin grid0.N,
    win0_2.index t = ![0, 0] ∧ win0_3.index t = ![0, 0] ∧ win0_4.index t = ![0, 0] ∧ win0_7.index t = ![0, 0] ∧ win0_8.index t = ![0, 0])

/-- The results' tiles. -/
theorem out_facts : ∀ t : Fin cfg0.N,
    win0_11.index t = ![t.val, 0] ∧ win0_12.index t = ![t.val, 0] ∧ win0_13.index t = ![t.val, 0] ∧ win0_14.index t = ![t.val, 0] ∧ win0_17.index t = ![t.val, 0] :=
  (by decide +kernel : ∀ t : Fin grid0.N,
    win0_11.index t = ![t.val, 0] ∧ win0_12.index t = ![t.val, 0] ∧ win0_13.index t = ![t.val, 0] ∧ win0_14.index t = ![t.val, 0] ∧ win0_17.index t = ![t.val, 0])

variable (m : (ℓ : Loc nD τ sig) → Buf (Elt Ideal) ℓ) (c : Dev nD)

theorem iblk_x (t : Fin cfg0.N) (r : Fin 512) (d : Fin 1024) :
    iblk m c 0 t (ix2 r d) = V m c main_v36 (ix2 (n0 := 16384) (n1 := 1024) ⟨t.val * 512 + r.val, by have := point_lt t; omega⟩ d) := by
  obtain ⟨h0, h1, _⟩ := tile_facts t
  refine congrArg (V m c main_v36) (funext fun a => Fin.ext ?_)
  match a with
  | ⟨0, _⟩ => show win0_0.index t 0 * 512 + 1 * r.val = t.val * 512 + r.val; rw [h0, Nat.one_mul]
  | ⟨1, _⟩ => show win0_0.index t 1 * 1024 + 1 * d.val = d.val; rw [h1]; omega

theorem iblk_m (t : Fin cfg0.N) (j : Fin 9) (d : Fin 1024) :
    iblk m c 1 t (ix3 0 j d) = V m c main_v37 (ix3 (n0 := 8) (n1 := 9) (n2 := 1024) ⟨t.val / 4, by have := point_lt t; omega⟩ j d) := by
  obtain ⟨_, _, h0, h1, h2⟩ := tile_facts t
  refine congrArg (V m c main_v37) (funext fun a => Fin.ext ?_)
  match a with
  | ⟨0, _⟩ => show win0_1.index t 0 * 1 + 1 * 0 = t.val / 4; rw [h0]; omega
  | ⟨1, _⟩ => show win0_1.index t 1 * 9 + 1 * j.val = j.val; rw [h1]; omega
  | ⟨2, _⟩ => show win0_1.index t 2 * 1024 + 1 * d.val = d.val; rw [h2]; omega

/-- A block at block number zero begins at the array's first entry. -/
theorem at_zero (k n x : ℕ) (h : k = 0) : k * n + 1 * x = x := by rw [h]; omega

theorem iblk_w (t : Fin cfg0.N) : iblk m c 2 t = V m c main_v13 := by
  have h := (whole_facts t).1
  refine funext fun i => congrArg (V m c main_v13) (funext fun a => Fin.ext ?_)
  match a with
  | ⟨0, _⟩ => exact at_zero _ 1024 _ (congrFun h 0)
  | ⟨1, _⟩ => exact at_zero _ 3584 _ (congrFun h 1)

theorem iblk_cw (t : Fin cfg0.N) : iblk m c 3 t = V m c main_arg3 := by
  have h := (whole_facts t).2.1
  refine funext fun i => congrArg (V m c main_arg3) (funext fun a => Fin.ext ?_)
  match a with
  | ⟨0, _⟩ => exact at_zero _ 4 _ (congrFun h 0)
  | ⟨1, _⟩ => exact at_zero _ 1536 _ (congrFun h 1)

theorem iblk_cb (t : Fin cfg0.N) : iblk m c 4 t = V m c main_v38 := by
  have h := (whole_facts t).2.2.1
  refine funext fun i => congrArg (V m c main_v38) (funext fun a => Fin.ext ?_)
  match a with
  | ⟨0, _⟩ => exact at_zero _ 1 _ (congrFun h 0)
  | ⟨1, _⟩ => exact at_zero _ 1536 _ (congrFun h 1)

theorem iblk_g (t : Fin cfg0.N) : iblk m c 7 t = V m c main_v54 := by
  have h := (whole_facts t).2.2.2.1
  refine funext fun i => congrArg (V m c main_v54) (funext fun a => Fin.ext ?_)
  match a with
  | ⟨0, _⟩ => exact at_zero _ 1 _ (congrFun h 0)
  | ⟨1, _⟩ => exact at_zero _ 256 _ (congrFun h 1)

theorem iblk_u (t : Fin cfg0.N) : iblk m c 8 t = V m c main_v61 := by
  have h := (whole_facts t).2.2.2.2
  refine funext fun i => congrArg (V m c main_v61) (funext fun a => Fin.ext ?_)
  match a with
  | ⟨0, _⟩ => exact at_zero _ 256 _ (congrFun h 0)
  | ⟨1, _⟩ => exact at_zero _ 2048 _ (congrFun h 1)

/-- The row of the arrays that a tile's row is. -/
abbrev at' (t : Fin cfg0.N) (r : Fin 512) : Fin 16384 := ⟨t.val * 512 + r.val, by have := point_lt t; omega⟩

/-- The product and the convolved rows, over the arrays the windows hold. -/
abbrev prod (R : Fin 16384) (j : Fin 3584) : EReal := prodAt (V m c main_v36) (V m c main_v37) (V m c main_v13) R j
abbrev past (R : Fin 16384) (k : Fin 1536) (j : ℕ) : EReal := pastAt (V m c main_v36) (V m c main_v37) (V m c main_v13) R k j

theorem hid_apply (t : Fin cfg0.N) (r : Fin 512) (d : Fin 1024) : hid m c t (ix2 r d) = hidAt (V m c main_v36) (V m c main_v37) (at' t r) d := by
  have hN := point_lt t
  have e : (t.val * 512 + r.val) / 2048 = t.val / 4 := by omega
  unfold hidAt
  refine (pay3_apply _ _ _ r d).trans ?_
  refine congrArg₂ (fun a b : EReal => a + b) (congrArg₂ (fun a b : EReal => a * b) (iblk_x m c t r d) (congrArg (fun a : EReal => Ideal.ofBits .f32 0x3F800000#32 + a) ?_)) ?_
  · refine (ld_row (iblk m c 1 t) _ d (by omega)).trans ((iblk_m m c t 4 d).trans ?_)
    exact congrArg (fun b => V m c main_v37 (ix3 b 4 d)) (Fin.ext e.symm)
  · refine (ld_row (iblk m c 1 t) _ d (by omega)).trans ((iblk_m m c t 3 d).trans ?_)
    exact congrArg (fun b => V m c main_v37 (ix3 b 3 d)) (Fin.ext e.symm)

/-- A load of some of the weights' columns. -/
theorem ld_cols {n p : ℕ} (t : Fin cfg0.N) (inb : _) (e : Fin 1024) (k : Fin n) (h : p + k.val < 3584) :
    View.ld (iblk m c 2 t) (Rect.unit (s := Sh2 1024 3584) ![0, p] ![1024, n] inb) (ix2 e k) = V m c main_v13 (ix2 (n0 := 1024) (n1 := 3584) e ⟨p + k.val, h⟩) := by
  refine (ld_mat (iblk m c 2 t) inb e k (by omega) h).trans ?_
  rw [iblk_w]
  exact congrArg (V m c main_v13) (congrArg₂ ix2 (Fin.ext (Nat.zero_add _)) rfl)

theorem z_apply (t : Fin cfg0.N) (r : Fin 512) (k : Fin 1024) : (outsAt0 m c t.val t.isLt).1 (ix2 r k) = prod m c (at' t r) ⟨k.val, by omega⟩ := by
  rw [out_z]
  refine (pay8_apply _ _ r k).trans (Finset.sum_congr rfl fun e _ => congrArg₂ (· * ·) (hid_apply m c t r e) ?_)
  refine (ld_cols m c t _ e k (by omega)).trans ?_
  exact congrArg (V m c main_v13) (congrArg₂ ix2 rfl (Fin.ext (Nat.zero_add _)))

theorem wide_apply (t : Fin cfg0.N) (r : Fin 512) (k : Fin 1024) :
    k0_pay9 (F := Ideal) (hid m c t) (wp m c t) (ix2 r k) = prod m c (at' t r) ⟨2560 + k.val, by omega⟩ :=
  (pay9_apply _ _ r k).trans (Finset.sum_congr rfl fun e _ => congrArg₂ (· * ·) (hid_apply m c t r e) (ld_cols m c t _ e k (by omega)))

theorem dt_apply (t : Fin cfg0.N) (r : Fin 512) (k : Fin 128) : (outsAt0 m c t.val t.isLt).2.2.2.1 (ix2 r k) = prod m c (at' t r) ⟨2560 + k.val, by omega⟩ := by
  rw [out_dt]
  exact (pay10_apply _ _ r k).trans (wide_apply m c t r ⟨k.val, by omega⟩)

theorem v_apply (t : Fin cfg0.N) (r : Fin 512) (k : Fin 1024) : (outsAt0 m c t.val t.isLt).2.2.2.2.2.2.1 (ix2 r k)
    = valueAt (V m c main_v36) (V m c main_v37) (V m c main_v13) (V m c main_v54) (V m c main_v61) (at' t r) ⟨1024 + k.val, by omega⟩ := by
  rw [out_v]
  refine (pay1_apply _ r k).trans ((pay44_apply _ _ _ r _).trans ?_)
  unfold valueAt
  rw [iblk_g, iblk_u]
  refine congrArg (fun y => latent y _ _) (funext fun e => ?_)
  refine (wide_apply m c t r _).trans (congrArg (prod m c (at' t r)) (Fin.ext ?_))
  show 2560 + (512 + e.val) = 3072 + e.val
  omega

theorem conv_apply (t : Fin cfg0.N) (r : Fin 512) (k : Fin 1536) : conv m c t (ix2 r k) = prod m c (at' t r) ⟨1024 + k.val, by omega⟩ :=
  (pay5_apply _ _ _ _ r k).trans (Finset.sum_congr rfl fun e _ => congrArg₂ (· * ·) (hid_apply m c t r e) (ld_cols m c t _ e k (by omega)))

/-- The rows kept by the point before are the last of its tile. -/
theorem kept_apply (t : Fin cfg0.N) (h : ¬t.val = 0) (s : Fin 8) (k : Fin 1536) :
    kept m c t (ix2 s k) = prod m c ⟨t.val * 512 + s.val - 8, by have := point_lt t; omega⟩ ⟨1024 + k.val, by omega⟩ := by
  have hN := point_lt t
  have e := congrFun (out_kept m c ⟨t.val - 1, Nat.lt_of_le_of_lt (Nat.sub_le _ _) t.isLt⟩) (ix2 s k)
  refine e.trans ((pay7_apply _ _ _ _ s k).trans ((conv_apply m c _ _ k).trans ?_))
  refine congrArg (fun R => prod m c R _) (Fin.ext ?_)
  show (t.val - 1) * 512 + (504 + s.val) = t.val * 512 + s.val - 8
  omega

/-- The rows before a row, over the whole sequence. -/
theorem earlier_apply (t : Fin cfg0.N) (r : Fin 512) (k : Fin 1536) (j : ℕ) (hj : j < 4) :
    earlier (fun s => rowsBefore m c t (ix2 s k)) (fun r => conv m c t (ix2 r k)) j r = past m c (at' t r) k j := by
  have hN := point_lt t
  have hr := r.isLt
  unfold earlier past pastAt
  by_cases h : r.val < j
  · rw [if_pos h]
    unfold rowsBefore
    by_cases h4 : t.val % 4 = 0
    · rw [if_pos h4, if_pos (by show (t.val * 512 + r.val) % 2048 < j; omega)]
    · rw [if_neg h4, if_neg (by show ¬(t.val * 512 + r.val) % 2048 < j; omega)]
      refine (kept_apply m c t (by omega) _ k).trans (congrArg (fun R => prod m c R _) (Fin.ext ?_))
      show t.val * 512 + (r.val + 8 - j) % 8 - 8 = t.val * 512 + r.val - j
      omega
  · rw [if_neg h, if_neg (by show ¬(t.val * 512 + r.val) % 2048 < j; omega)]
    refine (conv_apply m c t _ k).trans (congrArg (fun R => prod m c R _) (Fin.ext ?_))
    show t.val * 512 + (r.val - j) = t.val * 512 + r.val - j
    omega

/-- A load of one of the convolution's taps. -/
theorem ld_tap {o : ℕ} (t : Fin cfg0.N) (inb : _) (k : Fin 1536) (ho : o < 4) :
    View.ld (iblk m c 3 t) (Rect.unit (s := Sh2 4 1536) ![o, 0] ![1, 1536] inb) (ix2 0 k) = V m c main_arg3 (ix2 (n0 := 4) (n1 := 1536) ⟨o, ho⟩ k) := by
  refine (ld_line (iblk m c 3 t) inb k ho).trans ?_
  rw [iblk_cw]

theorem taps_congr {b b' u3 u3' u2 u2' u1 u1' u0 u0' x0 x0' x1 x1' x2 x2' x3 x3' : EReal} (hb : b = b') (h3 : u3 = u3') (h2 : u2 = u2') (h1 : u1 = u1') (h0 : u0 = u0')
    (k0 : x0 = x0') (k1 : x1 = x1') (k2 : x2 = x2') (k3 : x3 = x3') : silu (taps b u3 u2 u1 u0 x0 x1 x2 x3) = silu (taps b' u3' u2' u1' u0' x0' x1' x2' x3') := by
  rw [hb, h3, h2, h1, h0, k0, k1, k2, k3]

theorem rows_apply (t : Fin cfg0.N) (r : Fin 512) (k : Fin 1536) : rows m c t (ix2 r k)
    = rowAt (V m c main_v36) (V m c main_v37) (V m c main_v13) (V m c main_arg3) (V m c main_v38) (at' t r) k :=
  (convolved_apply _ _ _ _ _ _ _ r k).trans (taps_congr (congrFun (iblk_cb m c t) (ix2 0 k)) (ld_tap m c t _ k (by omega)) (ld_tap m c t _ k (by omega))
    (ld_tap m c t _ k (by omega)) (ld_tap m c t _ k (by omega)) (conv_apply m c t r k) (earlier_apply m c t r k 1 (by decide))
    (earlier_apply m c t r k 2 (by decide)) (earlier_apply m c t r k 3 (by decide)))

theorem xs_apply (t : Fin cfg0.N) (r : Fin 512) (k : Fin 1024) : (outsAt0 m c t.val t.isLt).2.1 (ix2 r k)
    = rowAt (V m c main_v36) (V m c main_v37) (V m c main_v13) (V m c main_arg3) (V m c main_v38) (at' t r) ⟨k.val, by omega⟩ := by
  rw [out_xs]
  exact (pay15_apply _ _ _ _ _ _ _ r k).trans (rows_apply m c t r _)

theorem bc_apply (t : Fin cfg0.N) (r k : Fin 512) : (outsAt0 m c t.val t.isLt).2.2.1 (ix2 r k)
    = rowAt (V m c main_v36) (V m c main_v37) (V m c main_v13) (V m c main_arg3) (V m c main_v38) (at' t r) ⟨1024 + k.val, by omega⟩ := by
  rw [out_bc]
  exact (pay16_apply _ _ _ _ _ _ _ r k).trans (rows_apply m c t r _)

/-- The five result arrays, index by index. -/
def arrayZ (i : (Sh2 16384 1024).Idx) : EReal := prod m c (i 0) ⟨(i 1).val, by have : (i 1).val < 1024 := (i 1).isLt; omega⟩
def arrayX (i : (Sh2 16384 1024).Idx) : EReal :=
  rowAt (V m c main_v36) (V m c main_v37) (V m c main_v13) (V m c main_arg3) (V m c main_v38) (i 0) ⟨(i 1).val, by have : (i 1).val < 1024 := (i 1).isLt; omega⟩
def arrayB (i : (Sh2 16384 512).Idx) : EReal :=
  rowAt (V m c main_v36) (V m c main_v37) (V m c main_v13) (V m c main_arg3) (V m c main_v38) (i 0) ⟨1024 + (i 1).val, by have : (i 1).val < 512 := (i 1).isLt; omega⟩
def arrayD (i : (Sh2 16384 128).Idx) : EReal := prod m c (i 0) ⟨2560 + (i 1).val, by have : (i 1).val < 128 := (i 1).isLt; omega⟩
def arrayV (i : (Sh2 16384 1024).Idx) : EReal :=
  valueAt (V m c main_v36) (V m c main_v37) (V m c main_v13) (V m c main_v54) (V m c main_v61) (i 0) ⟨1024 + (i 1).val, by have : (i 1).val < 1024 := (i 1).isLt; omega⟩

/-- A block at tile `t` of the rows and at the first column. -/
theorem row_at (k t x : ℕ) (h : k = t) : t * 512 + x = k * 512 + 1 * x := by rw [h]; omega
theorem col_at (k n x : ℕ) (h : k = 0) : x = k * n + 1 * x := by rw [h]; omega

/-- An index of a block is a row and a column. -/
theorem eq_pair {a b : ℕ} (j : (Sh2 a b).Idx) : ∃ (r : Fin a) (k : Fin b), j = ix2 r k :=
  ⟨j 0, j 1, by funext a; match a with | ⟨0, _⟩ => rfl | ⟨1, _⟩ => rfl⟩

theorem finalZ : Value.G11 m c = arrayZ m c := by
  refine (Value.final11 m c).symm.trans ((dats m 0 c).arrAt_eq_of_cover 11 (arrayZ m c) (fun t _ => ?_) (fun i => (Value.covered_iff11 i).2 ?_))
  · rw [Value.flushed11 m c t]
    funext j
    obtain ⟨r, k, rfl⟩ : ∃ (r : Fin 512) (k : Fin 1024), j = ix2 r k := eq_pair j
    have h := (out_facts t).1
    exact (z_apply m c t r k).trans (congrArg₂ (prod m c) (Fin.ext (row_at _ _ r.val (congrFun h 0))) (Fin.ext (col_at _ 1024 k.val (congrFun h 1))))
  · have h0 : (i 0).val < 16384 := (i 0).isLt
    have h1 : (i 1).val < 1024 := (i 1).isLt
    omega

theorem finalX : Value.G12 m c = arrayX m c := by
  refine (Value.final12 m c).symm.trans ((dats m 0 c).arrAt_eq_of_cover 12 (arrayX m c) (fun t _ => ?_) (fun i => (Value.covered_iff12 i).2 ?_))
  · rw [Value.flushed12 m c t]
    funext j
    obtain ⟨r, k, rfl⟩ : ∃ (r : Fin 512) (k : Fin 1024), j = ix2 r k := eq_pair j
    have h := (out_facts t).2.1
    exact (xs_apply m c t r k).trans (congrArg₂ (rowAt _ _ _ _ _) (Fin.ext (row_at _ _ r.val (congrFun h 0))) (Fin.ext (col_at _ 1024 k.val (congrFun h 1))))
  · have h0 : (i 0).val < 16384 := (i 0).isLt
    have h1 : (i 1).val < 1024 := (i 1).isLt
    omega

theorem finalB : Value.G13 m c = arrayB m c := by
  refine (Value.final13 m c).symm.trans ((dats m 0 c).arrAt_eq_of_cover 13 (arrayB m c) (fun t _ => ?_) (fun i => (Value.covered_iff13 i).2 ?_))
  · rw [Value.flushed13 m c t]
    funext j
    obtain ⟨r, k, rfl⟩ : ∃ (r : Fin 512) (k : Fin 512), j = ix2 r k := eq_pair j
    have h := (out_facts t).2.2.1
    exact (bc_apply m c t r k).trans (congrArg₂ (rowAt _ _ _ _ _) (Fin.ext (row_at _ _ r.val (congrFun h 0)))
      (Fin.ext (congrArg (1024 + ·) (col_at _ 512 k.val (congrFun h 1)))))
  · have h0 : (i 0).val < 16384 := (i 0).isLt
    have h1 : (i 1).val < 512 := (i 1).isLt
    omega

theorem finalD : Value.G14 m c = arrayD m c := by
  refine (Value.final14 m c).symm.trans ((dats m 0 c).arrAt_eq_of_cover 14 (arrayD m c) (fun t _ => ?_) (fun i => (Value.covered_iff14 i).2 ?_))
  · rw [Value.flushed14 m c t]
    funext j
    obtain ⟨r, k, rfl⟩ : ∃ (r : Fin 512) (k : Fin 128), j = ix2 r k := eq_pair j
    have h := (out_facts t).2.2.2.1
    exact (dt_apply m c t r k).trans (congrArg₂ (prod m c) (Fin.ext (row_at _ _ r.val (congrFun h 0)))
      (Fin.ext (congrArg (2560 + ·) (col_at _ 128 k.val (congrFun h 1)))))
  · have h0 : (i 0).val < 16384 := (i 0).isLt
    have h1 : (i 1).val < 128 := (i 1).isLt
    omega

theorem finalV : Value.G17 m c = arrayV m c := by
  refine (Value.final17 m c).symm.trans ((dats m 0 c).arrAt_eq_of_cover 17 (arrayV m c) (fun t _ => ?_) (fun i => (Value.covered_iff17 i).2 ?_))
  · rw [Value.flushed17 m c t]
    funext j
    obtain ⟨r, k, rfl⟩ : ∃ (r : Fin 512) (k : Fin 1024), j = ix2 r k := eq_pair j
    have h := (out_facts t).2.2.2.2
    exact (v_apply m c t r k).trans (congrArg₂ (valueAt _ _ _ _ _) (Fin.ext (row_at _ _ r.val (congrFun h 0)))
      (Fin.ext (congrArg (1024 + ·) (col_at _ 1024 k.val (congrFun h 1)))))
  · have h0 : (i 0).val < 16384 := (i 0).isLt
    have h1 : (i 1).val < 1024 := (i 1).isLt
    omega

end Cert.Proj
-- ==== Proof.ProjRef.lean ====
module

public import proofs.«01_k».proof.Proof.ProjArray
public import proofs.«01_k».proof.Proof.FfnEquation
public import proofs.«01_k».proof.Proof.Gen.Reference6Ideal.Run

@[expose] public section

set_option maxRecDepth 16384

/-! The first projection's reference, read at each token and column. -/

noncomputable section

namespace Cert.Proj

open Idealize.ShloMosaic Idealize.ShloMosaic.TcCoe Idealize.SL.Sem Idealize.ShloMosaic.StableHlo
open Cert.Attn (Sh2 Sh1)
open Cert.Ffn (Sh3)
open scoped BigOperators

open Cert.Reference6Ideal Cert.Reference6Ideal.Gen

theorem sitofp_zero : FloatOps.sitofp (F := Ideal) .f32 (0#32) = 0 := by
  show (((0#32 : BitVec 32).toInt : ℝ) : EReal) = 0
  simp

/-- The reference's projection of the scaled and shifted tokens. -/
def refP (x : FVec Ideal S8x2048x1024 .f32) (md : FVec Ideal S8x9216 .f32) (w : FVec Ideal S1024x3280 .f32) : FVec Ideal S8x2048x3280 .f32 :=
  Host.dotGeneral dot_S8x2048x1024_S1024x3280_S8x2048x3280_2_0_01_1_n_n none
    (addf (mulf x (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 4096] md slices_S8x9216_S8x1024_0_4096)))))
      (broadcastInDim S8x2048x1024 ![0, 1, 2] bcast_S8x1x1024_S8x2048x1024_0_1_2 (broadcastInDim S8x1x1024 ![0, 2] bcast_S8x1024_S8x1x1024_0_2 (extractStridedSlice S8x1024 ![0, 3072] md slices_S8x9216_S8x1024_0_3072)))) w

/-- A token's column of the projection. -/
def cell (x : FVec Ideal S8x2048x1024 .f32) (md : FVec Ideal S8x9216 .f32) (w : FVec Ideal S1024x3280 .f32) (b : Fin 8) (t : Fin 2048) (j : Fin 3280) : EReal :=
  ∑ e : Fin 1024, (x (ix3 b t e) * (1 + md (ix2 b ⟨4096 + e.val, by omega⟩)) + md (ix2 b ⟨3072 + e.val, by omega⟩)) * w (ix2 e j)

theorem refP_apply (x : FVec Ideal S8x2048x1024 .f32) (md : FVec Ideal S8x9216 .f32) (w : FVec Ideal S1024x3280 .f32) (b : Fin 8) (t : Fin 2048) (j : Fin 3280) :
    refP x md w (ix3 b t j) = cell x md w b t j := by
  pointwise [refP]
  rfl

/-- The gate's columns as a matrix. -/
def refZ (p : FVec Ideal S8x2048x3280 .f32) : FVec Ideal S16384x1024 .f32 :=
  shapeCast _ (extractStridedSlice S8x2048x1024 ![0, 0, 0] p slices_S8x2048x3280_S8x2048x1024_0_0_0) shapeCasts_S8x2048x1024_S16384x1024

theorem refZ_apply (p : FVec Ideal S8x2048x3280 .f32) (R : Fin 16384) (k : Fin 1024) :
    refZ p (ix2 R k) = p (ix3 ⟨R.val / 2048, by omega⟩ ⟨R.val % 2048, by omega⟩ ⟨k.val, by omega⟩) := by
  pointwise [refZ]

/-- The steps' columns as a matrix with zeros behind them. -/
def refD (p : FVec Ideal S8x2048x3280 .f32) : FVec Ideal S16384x128 .f32 :=
  pad S16384x128 ![0, 0] ![0, 112] ![0, 0] (shapeCast _ (extractStridedSlice S8x2048x16 ![0, 0, 2560] p slices_S8x2048x3280_S8x2048x16_0_0_2560) shapeCasts_S8x2048x16_S16384x16)
    (sitofp .f32 (constantI S_ 32 0#32)) pads_S16384x16_S16384x128_000_01120 h_S_

theorem refD_keep (p : FVec Ideal S8x2048x3280 .f32) (R : Fin 16384) (k : Fin 128) (hk : k.val < 16) :
    refD p (ix2 R k) = p (ix3 ⟨R.val / 2048, by omega⟩ ⟨R.val % 2048, by omega⟩ ⟨2560 + k.val, by omega⟩) := by
  pointwise [refD]
  exact dif_pos hk

theorem refD_zero (p : FVec Ideal S8x2048x3280 .f32) (R : Fin 16384) (k : Fin 128) (hk : 16 ≤ k.val) :
    refD p (ix2 R k) = 0 := by
  pointwise [refD]
  exact (dif_neg (by omega)).trans sitofp_zero

/-- The convolved columns with three rows of zeros in front. -/
def refQ (p : FVec Ideal S8x2048x3280 .f32) : FVec Ideal S8x2051x1536 .f32 :=
  pad S8x2051x1536 ![0, 3, 0] ![0, 0, 0] ![0, 0, 0] (extractStridedSlice S8x2048x1536 ![0, 0, 1024] p slices_S8x2048x3280_S8x2048x1536_0_0_1024)
    (sitofp .f32 (constantI S_ 32 0#32)) pads_S8x2048x1536_S8x2051x1536_000_300_000 h_S_

theorem refQ_zero (p : FVec Ideal S8x2048x3280 .f32) (b : Fin 8) (s : Fin 2051) (k : Fin 1536) (hs : s.val < 3) :
    refQ p (ix3 b s k) = 0 := by
  pointwise [refQ]
  exact (dif_neg (by omega)).trans sitofp_zero

theorem refQ_keep (p : FVec Ideal S8x2048x3280 .f32) (b : Fin 8) (s : Fin 2051) (k : Fin 1536) (hs : 3 ≤ s.val) :
    refQ p (ix3 b s k) = p (ix3 b ⟨s.val - 3, by omega⟩ ⟨1024 + k.val, by omega⟩) := by
  pointwise [refQ]
  exact dif_pos ⟨hs, by omega⟩

/-- A tap's weights beside every token. -/
def refW (o : Fin 2 → ℕ) (cw : FVec Ideal S4x1536 .f32) (hs : S4x1536.Slices o S1x1536) : FVec Ideal S8x2048x1536 .f32 :=
  broadcastInDim S8x2048x1536 ![0, 1, 2] bcast_S1x1x1536_S8x2048x1536_0_1_2 (broadcastInDim S1x1x1536 ![2] bcast_S1536_S1x1x1536_2 (shapeCast _ (extractStridedSlice S1x1536 o cw hs) shapeCasts_S1x1536_S1536))

/-- The convolution: the four taps' products, added up with the bias. -/
def refY (q : FVec Ideal S8x2051x1536 .f32) (cw : FVec Ideal S4x1536 .f32) (cb : FVec Ideal S1536 .f32) : FVec Ideal S8x2048x1536 .f32 :=
  addf (addf (addf (addf (mulf (extractStridedSlice S8x2048x1536 ![0, 0, 0] q slices_S8x2051x1536_S8x2048x1536_0_0_0) (refW ![0, 0] cw slices_S4x1536_S1x1536_0_0))
    (mulf (extractStridedSlice S8x2048x1536 ![0, 1, 0] q slices_S8x2051x1536_S8x2048x1536_0_1_0) (refW ![1, 0] cw slices_S4x1536_S1x1536_1_0)))
    (mulf (extractStridedSlice S8x2048x1536 ![0, 2, 0] q slices_S8x2051x1536_S8x2048x1536_0_2_0) (refW ![2, 0] cw slices_S4x1536_S1x1536_2_0)))
    (mulf (extractStridedSlice S8x2048x1536 ![0, 3, 0] q slices_S8x2051x1536_S8x2048x1536_0_3_0) (refW ![3, 0] cw slices_S4x1536_S1x1536_3_0)))
    (broadcastInDim S8x2048x1536 ![0, 1, 2] bcast_S1x1x1536_S8x2048x1536_0_1_2 (broadcastInDim S1x1x1536 ![2] bcast_S1536_S1x1x1536_2 cb))

theorem refY_apply (q : FVec Ideal S8x2051x1536 .f32) (cw : FVec Ideal S4x1536 .f32) (cb : FVec Ideal S1536 .f32) (b : Fin 8) (t : Fin 2048) (k : Fin 1536) :
    refY q cw cb (ix3 b t k) = q (ix3 b ⟨t.val, by omega⟩ k) * cw (ix2 0 k) + q (ix3 b ⟨1 + t.val, by omega⟩ k) * cw (ix2 1 k) + q (ix3 b ⟨2 + t.val, by omega⟩ k) * cw (ix2 2 k)
      + q (ix3 b ⟨3 + t.val, by omega⟩ k) * cw (ix2 3 k) + cb (ix1 k) := by
  pointwise [refY, refW]

/-- The activation, from its exponential. -/
def refA (y : FVec Ideal S8x2048x1536 .f32) : FVec Ideal S8x2048x1536 .f32 :=
  mulf y (Host.divf (broadcastInDim S8x2048x1536 ![] bcast_S_S8x2048x1536 (constant S_ .f32 0x3F800000#32))
    (addf (broadcastInDim S8x2048x1536 ![] bcast_S_S8x2048x1536 (constant S_ .f32 0x3F800000#32)) (Host.exp (Host.negf y))))

theorem refA_apply (y : FVec Ideal S8x2048x1536 .f32) (b : Fin 8) (t : Fin 2048) (k : Fin 1536) : refA y (ix3 b t k) = silu (y (ix3 b t k)) := by
  pointwise [refA, silu]
  rfl

/-- The recurrence's inputs as a matrix. -/
def refX (a : FVec Ideal S8x2048x1536 .f32) : FVec Ideal S16384x1024 .f32 :=
  shapeCast _ (extractStridedSlice S8x2048x1024 ![0, 0, 0] a slices_S8x2048x1536_S8x2048x1024_0_0_0) shapeCasts_S8x2048x1024_S16384x1024

theorem refX_apply (a : FVec Ideal S8x2048x1536 .f32) (R : Fin 16384) (k : Fin 1024) :
    refX a (ix2 R k) = a (ix3 ⟨R.val / 2048, by omega⟩ ⟨R.val % 2048, by omega⟩ ⟨k.val, by omega⟩) := by
  pointwise [refX]

/-- The recurrence's in- and output weights as a matrix. -/
def refB (a : FVec Ideal S8x2048x1536 .f32) : FVec Ideal S16384x512 .bf16 :=
  truncf .bf16 (shapeCast _ (extractStridedSlice S8x2048x512 ![0, 0, 1024] a slices_S8x2048x1536_S8x2048x512_0_0_1024) shapeCasts_S8x2048x512_S16384x512) bitsLt_bf16_f32

theorem refB_apply (a : FVec Ideal S8x2048x1536 .f32) (R : Fin 16384) (k : Fin 512) :
    refB a (ix2 R k) = a (ix3 ⟨R.val / 2048, by omega⟩ ⟨R.val % 2048, by omega⟩ ⟨1024 + k.val, by omega⟩) := by
  pointwise [refB]

/-- The latent's columns. -/
def refC (p : FVec Ideal S8x2048x3280 .f32) : FVec Ideal S8x2048x256 .f32 :=
  extractStridedSlice S8x2048x256 ![0, 0, 2960] p slices_S8x2048x3280_S8x2048x256_0_0_2960

theorem refC_apply (p : FVec Ideal S8x2048x3280 .f32) (b : Fin 8) (t : Fin 2048) (e : Fin 256) : refC p (ix3 b t e) = p (ix3 b t ⟨2960 + e.val, by omega⟩) := by
  pointwise [refC]

/-- The normalised latent's product with the heads' weights. -/
def refL (y : FVec Ideal S8x2048x256 .f32) (g : FVec Ideal S256 .f32) (u : FVec Ideal S256x2048 .f32) : FVec Ideal S8x2048x2048 .f32 :=
  Host.dotGeneral dot_S8x2048x256_S256x2048_S8x2048x2048_2_0_01_1_n_n none
    (mulf (mulf y (broadcastInDim S8x2048x256 ![0, 1, 2] bcast_S8x2048x1_S8x2048x256_0_1_2 (Host.rsqrt (addf (Host.divf (broadcastInDim S8x2048x1 ![0, 1] bcast_S8x2048_S8x2048x1_0_1 (Host.reduceAdd (mulf y y) (constant S_ .f32 0x00000000#32) reducesTo_S8x2048x256_S8x2048_d2 h_S_)) (broadcastInDim S8x2048x1 ![] bcast_S_S8x2048x1 (constant S_ .f32 0x43800000#32)))
      (broadcastInDim S8x2048x1 ![] bcast_S_S8x2048x1 (constant S_ .f32 0x3727C5AC#32))))))
    (broadcastInDim S8x2048x256 ![0, 1, 2] bcast_S1x1x256_S8x2048x256_0_1_2 (broadcastInDim S1x1x256 ![2] bcast_S256_S1x1x256_2 g))) u

theorem refL_apply (y : FVec Ideal S8x2048x256 .f32) (g : FVec Ideal S256 .f32) (u : FVec Ideal S256x2048 .f32) (b : Fin 8) (t : Fin 2048) (k : Fin 2048) :
    refL y g u (ix3 b t k) = latent (fun e => y (ix3 b t e)) (fun e => g (ix1 e)) (fun e => u (ix2 e k)) := by
  pointwise [refL]
  rfl

/-- The heads' values as a matrix. -/
def refV (l : FVec Ideal S8x2048x2048 .f32) : FVec Ideal S16384x1024 .bf16 :=
  truncf .bf16 (shapeCast _ (extractStridedSlice S8x2048x8x128 ![0, 0, 0, 128] (shapeCast _ l shapeCasts_S8x2048x2048_S8x2048x8x256) slices_S8x2048x8x256_S8x2048x8x128_0_0_0_128) shapeCasts_S8x2048x8x128_S16384x1024) bitsLt_bf16_f32

theorem refV_apply (l : FVec Ideal S8x2048x2048 .f32) (R : Fin 16384) (k : Fin 1024) :
    refV l (ix2 R k) = l (ix3 ⟨R.val / 2048, by omega⟩ ⟨R.val % 2048, by omega⟩ ⟨k.val / 128 * 256 + (128 + k.val % 128), by omega⟩) := by
  pointwise [refV]

end Cert.Proj

end
-- ==== Proof.ProjHost.lean ====
module

public import proofs.«01_k».proof.Proof.ProjRef

@[expose] public section

set_option maxRecDepth 16384

/-! The arrays that the first projection's windows hold, read from the program's arguments. -/

noncomputable section

namespace Cert.Proj

open Idealize.ShloMosaic Idealize.ShloMosaic.TcCoe Idealize.SL.Sem Idealize.ShloMosaic.StableHlo
open Cert.Attn (Sh2 Sh1)
open Cert.Ffn (Sh3 tokens_apply modulation_apply)
open scoped BigOperators

open Cert.Kernel6Ideal Cert.Kernel6Ideal.Gen

/-- A part of the rotated columns' halves, exchanged, the second one's sign reversed. -/
def turned (w : FVec Ideal S1024x3280 .f32) : FVec Ideal S1024x64 .f32 :=
  concatenate S1024x64 1 [⟨S1024x32, (Host.negf (extractStridedSlice S1024x32 ![0, 32] (extractStridedSlice S1024x64 ![0, 3216] w slices_S1024x3280_S1024x64_0_3216) slices_S1024x64_S1024x32_0_32) : FVec Ideal S1024x32 .f32)⟩,
    ⟨S1024x32, (extractStridedSlice S1024x32 ![0, 0] (extractStridedSlice S1024x64 ![0, 3216] w slices_S1024x3280_S1024x64_0_3216) slices_S1024x64_S1024x32_0_0 : FVec Ideal S1024x32 .f32)⟩] concatenates_S1024x32_S1024x32_S1024x64_d1

/-- The projection's weights with their columns laid out in blocks, zeros between them. -/
def wide (w : FVec Ideal S1024x3280 .f32) : FVec Ideal S1024x3584 .bf16 :=
  truncf .bf16 (concatenate S1024x3584 1 [⟨S1024x2560, (extractStridedSlice S1024x2560 ![0, 0] w slices_S1024x3280_S1024x2560_0_0 : FVec Ideal S1024x2560 .f32)⟩,
    ⟨S1024x128, (pad S1024x128 ![0, 0] ![0, 112] ![0, 0] (extractStridedSlice S1024x16 ![0, 2560] w slices_S1024x3280_S1024x16_0_2560) (sitofp .f32 (constantI S_ 32 0#32)) pads_S1024x16_S1024x128_000_01120 h_S_ : FVec Ideal S1024x128 .f32)⟩,
    ⟨S1024x640, (extractStridedSlice S1024x640 ![0, 2576] w slices_S1024x3280_S1024x640_0_2576 : FVec Ideal S1024x640 .f32)⟩,
    ⟨S1024x128, (pad S1024x128 ![0, 0] ![0, 64] ![0, 0] (extractStridedSlice S1024x64 ![0, 3216] w slices_S1024x3280_S1024x64_0_3216) (sitofp .f32 (constantI S_ 32 0#32)) pads_S1024x64_S1024x128_000_0640 h_S_ : FVec Ideal S1024x128 .f32)⟩,
    ⟨S1024x128, (pad S1024x128 ![0, 0] ![0, 64] ![0, 0] (turned w) (sitofp .f32 (constantI S_ 32 0#32)) pads_S1024x64_S1024x128_000_0640 h_S_ : FVec Ideal S1024x128 .f32)⟩]
    concatenates_S1024x2560_S1024x128_S1024x640_S1024x128_S1024x128_S1024x3584_d1) bitsLt_bf16_f32

/-- Up to the gate's, the convolved and the steps' columns the blocks are the weights' own. -/
theorem wide_low (w : FVec Ideal S1024x3280 .f32) (e : Fin 1024) (j : Fin 3584) (hj : j.val < 2576) : wide w (ix2 e j) = w (ix2 e ⟨j.val, by omega⟩) := by
  pointwise [wide]
  by_cases h : j.val < 2560
  · exact dif_pos h
  · rw [dif_neg h, dif_pos (show j.val - 2560 < 128 by omega), dif_pos (show j.val - 2560 < 16 by omega)]
    exact congrArg w (congrArg (ix2 e) (Fin.ext (show 2560 + (j.val - 2560) = j.val by omega)))

/-- The columns behind the steps' are zero. -/
theorem wide_zero (w : FVec Ideal S1024x3280 .f32) (e : Fin 1024) (j : Fin 3584) (hj : 2576 ≤ j.val) (hj' : j.val < 2688) : wide w (ix2 e j) = 0 := by
  pointwise [wide]
  rw [dif_neg (show ¬ j.val < 2560 by omega), dif_pos (show j.val - 2560 < 128 by omega), dif_neg (show ¬ j.val - 2560 < 16 by omega)]
  exact sitofp_zero

/-- The latents' columns follow. -/
theorem wide_mid (w : FVec Ideal S1024x3280 .f32) (e : Fin 1024) (j : Fin 3584) (hj : 2688 ≤ j.val) (hj' : j.val < 3328) :
    wide w (ix2 e j) = w (ix2 e ⟨j.val - 112, by omega⟩) := by
  pointwise [wide]
  rw [dif_neg (show ¬ j.val < 2560 by omega), dif_neg (show ¬ j.val - 2560 < 128 by omega), dif_pos (show j.val - 2560 - 128 < 640 by omega)]
  exact congrArg w (congrArg (ix2 e) (Fin.ext (show 2576 + (j.val - 2560 - 128) = j.val - 112 by omega)))

/-- The heads' weights, all of the keys' columns before all of the values'. -/
def heads (u : FVec Ideal S256x2048 .f32) : FVec Ideal S256x2048 .bf16 :=
  truncf .bf16 (concatenate S256x2048 1 [⟨S256x1024, (shapeCast S256x1024 (extractStridedSlice S256x8x128 ![0, 0, 0] (shapeCast S256x8x256 u shapeCasts_S256x2048_S256x8x256) slices_S256x8x256_S256x8x128_0_0_0) shapeCasts_S256x8x128_S256x1024 : FVec Ideal S256x1024 .f32)⟩,
    ⟨S256x1024, (shapeCast S256x1024 (extractStridedSlice S256x8x128 ![0, 0, 128] (shapeCast S256x8x256 u shapeCasts_S256x2048_S256x8x256) slices_S256x8x256_S256x8x128_0_0_128) shapeCasts_S256x8x128_S256x1024 : FVec Ideal S256x1024 .f32)⟩]
    concatenates_S256x1024_S256x1024_S256x2048_d1) bitsLt_bf16_f32

theorem heads_value (u : FVec Ideal S256x2048 .f32) (e : Fin 256) (k : Fin 1024) :
    heads u (ix2 e ⟨1024 + k.val, by omega⟩) = u (ix2 e ⟨k.val / 128 * 256 + (128 + k.val % 128), by omega⟩) := by
  pointwise [heads]

variable (m : (ℓ : Loc nD τ sig) → Buf (Elt Ideal) ℓ) (c : Dev nD)

theorem V_x : V m c main_v36 = shapeCast S16384x1024 (m ((c : Thread nD τ).loc main_arg0)) shapeCasts_S8x2048x1024_S16384x1024 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, TRef.binary, TRef.unary, TRef.toBuf, TRef.ofBuf, cast_eq]
  after_results_simp
  rfl

theorem V_m : V m c main_v37 = shapeCast S8x9x1024 (m ((c : Thread nD τ).loc main_arg1)) shapeCasts_S8x9216_S8x9x1024 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, TRef.binary, TRef.unary, TRef.toBuf, TRef.ofBuf, cast_eq]
  after_results_simp
  rfl

theorem V_w : V m c main_v13 = wide (m ((c : Thread nD τ).loc main_arg2)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, TRef.binary, TRef.unary, TRef.toBuf, TRef.ofBuf, cast_eq]
  after_results_simp
  rfl

theorem V_b : V m c main_v38 = shapeCast S1x1536 (m ((c : Thread nD τ).loc main_arg4)) shapeCasts_S1536_S1x1536 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, TRef.binary, TRef.unary, TRef.toBuf, TRef.ofBuf, cast_eq]
  after_results_simp
  rfl

theorem V_g : V m c main_v54 = shapeCast S1x256 (m ((c : Thread nD τ).loc main_arg7)) shapeCasts_S256_S1x256 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, TRef.binary, TRef.unary, TRef.toBuf, TRef.ofBuf, cast_eq]
  after_results_simp
  rfl

theorem V_u : V m c main_v61 = heads (m ((c : Thread nD τ).loc main_arg8)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, TRef.binary, TRef.unary, TRef.toBuf, TRef.ofBuf, cast_eq]
  after_results_simp
  rfl

end Cert.Proj

end
-- ==== Proof.ProjEquation.lean ====
module

public import proofs.«01_k».proof.Proof.ProjHost
public import proofs.«01_k».proof.Proof.OutBlock

@[expose] public section

set_option maxRecDepth 16384

/-! The first projection's result arrays and its reference's results are the same arrays. -/

noncomputable section

namespace Cert.Proj

open Idealize.ShloMosaic Idealize.ShloMosaic.TcCoe Idealize.SL.Sem Idealize.ShloMosaic.StableHlo
open Cert.Attn (Sh2 Sh1)
open Cert.Ffn (Sh3 tokens_apply modulation_apply)
open scoped BigOperators

section
variable (x : FVec Ideal (Sh3 8 2048 1024) .f32) (md : FVec Ideal (Sh2 8 9216) .f32) (w : FVec Ideal (Sh2 1024 3280) .f32) (hx : _) (hm : _)

/-- A column of the laid out product is the reference's column with the same weights. -/
theorem prodAt_args (R : Fin 16384) (j : Fin 3584) (i : Fin 3280) (hw : ∀ e, wide w (ix2 e j) = w (ix2 e i)) :
    prodAt (shapeCast (Sh2 16384 1024) x hx) (shapeCast (Sh3 8 9 1024) md hm) (wide w) R j
      = cell x md w ⟨R.val / 2048, by omega⟩ ⟨R.val % 2048, by omega⟩ i := by
  unfold prodAt cell hidAt
  refine Finset.sum_congr rfl fun e _ => ?_
  refine congrArg₂ (fun a b : EReal => a * b) ?_ (hw e)
  refine congrArg₂ (fun a b : EReal => a + b) (congrArg₂ (fun a b : EReal => a * b) (tokens_apply x R e) (congrArg₂ (fun a b : EReal => a + b) Cert.Out.one_bits ?_)) ?_
  · exact modulation_apply md _ 4 e
  · exact modulation_apply md _ 3 e

/-- A column without weights is zero. -/
theorem prodAt_zero (X : Vec Ideal (Sh2 16384 1024) .f32) (M : Vec Ideal (Sh3 8 9 1024) .f32) (R : Fin 16384) (j : Fin 3584) (hw : ∀ e, wide w (ix2 e j) = 0) :
    prodAt X M (wide w) R j = 0 := by
  unfold prodAt
  exact Finset.sum_eq_zero fun e _ => (congrArg (fun a : EReal => hidAt X M R e * a) (hw e)).trans (mul_zero _)

/-- The row `j` tokens before, zero before the sequence begins, is the reference's padded row. -/
theorem pastAt_args (R : Fin 16384) (k : Fin 1536) (j : ℕ) (hj : j ≤ 3) :
    refQ (refP x md w) (ix3 ⟨R.val / 2048, by omega⟩ ⟨3 - j + R.val % 2048, by omega⟩ k)
      = pastAt (shapeCast (Sh2 16384 1024) x hx) (shapeCast (Sh3 8 9 1024) md hm) (wide w) R k j := by
  unfold pastAt
  by_cases h : R.val % 2048 < j
  · rw [if_pos h]
    exact refQ_zero _ _ _ _ (show 3 - j + R.val % 2048 < 3 by omega)
  · rw [if_neg h]
    refine (refQ_keep _ _ _ _ (show 3 ≤ 3 - j + R.val % 2048 by omega)).trans ?_
    refine (refP_apply x md w _ _ _).trans ?_
    refine Eq.trans ?_ (prodAt_args x md w hx hm ⟨R.val - j, by omega⟩ ⟨1024 + k.val, by omega⟩ ⟨1024 + k.val, by omega⟩ fun e => wide_low w e _ (show 1024 + k.val < 2576 by omega)).symm
    refine congrArg₂ (fun b t => cell x md w b t ⟨1024 + k.val, by omega⟩) (Fin.ext ?_) (Fin.ext ?_)
    · show R.val / 2048 = (R.val - j) / 2048
      omega
    · show 3 - j + R.val % 2048 - 3 = (R.val - j) % 2048
      omega

/-- The row itself is the one no tokens before. -/
theorem pastAt_here (X : Vec Ideal (Sh2 16384 1024) .f32) (M : Vec Ideal (Sh3 8 9 1024) .f32) (W : Vec Ideal (Sh2 1024 3584) .bf16) (R : Fin 16384) (k : Fin 1536) :
    pastAt X M W R k 0 = prodAt X M W R ⟨1024 + k.val, by omega⟩ := by
  unfold pastAt
  rw [if_neg (Nat.not_lt_zero _)]
  rfl

/-- The sum of the taps in the reference's order. -/
theorem taps_order (b w0 w1 w2 w3 x0 x1 x2 x3 : EReal) : x3 * w0 + x2 * w1 + x1 * w2 + x0 * w3 + b = taps b w3 w2 w1 w0 x0 x1 x2 x3 := by
  unfold taps
  rw [mul_comm x3, mul_comm x2, mul_comm x1, mul_comm x0]
  ac_rfl

/-- The convolved and activated row from the reshaped arrays is that from the arguments. -/
theorem rowAt_args (cw : FVec Ideal (Sh2 4 1536) .f32) (cb : FVec Ideal (Sh1 1536) .f32) (hb : _) (R : Fin 16384) (k : Fin 1536) :
    rowAt (shapeCast (Sh2 16384 1024) x hx) (shapeCast (Sh3 8 9 1024) md hm) (wide w) cw (shapeCast (Sh2 1 1536) cb hb) R k
      = refA (refY (refQ (refP x md w)) cw cb) (ix3 ⟨R.val / 2048, by omega⟩ ⟨R.val % 2048, by omega⟩ k) := by
  refine Eq.symm ((refA_apply _ _ _ _).trans ?_)
  unfold rowAt
  refine congrArg silu ((refY_apply _ _ _ _ _ _).trans ((taps_order _ _ _ _ _ _ _ _ _).trans ?_))
  have hc : shapeCast (Sh2 1 1536) cb hb (ix2 0 k) = cb (ix1 k) := by pointwise
  rw [hc, ← pastAt_here]
  have h3 := pastAt_args x md w hx hm R k 3 (by omega)
  have h2 := pastAt_args x md w hx hm R k 2 (by omega)
  have h1 := pastAt_args x md w hx hm R k 1 (by omega)
  have h0 := pastAt_args x md w hx hm R k 0 (by omega)
  rw [← h3, ← h2, ← h1, ← h0]
  refine congrArg (taps _ _ _ _ _ _ _ _) (congrArg (refQ (refP x md w)) ?_)
  refine congrArg (fun t => ix3 _ t k) (Fin.ext ?_)
  show R.val % 2048 = 3 - 3 + R.val % 2048
  omega

/-- The values' row from the reshaped arrays is that from the arguments. -/
theorem valueAt_args (g : FVec Ideal (Sh1 256) .f32) (u : FVec Ideal (Sh2 256 2048) .f32) (hg : _) (R : Fin 16384) (k : Fin 1024) :
    valueAt (shapeCast (Sh2 16384 1024) x hx) (shapeCast (Sh3 8 9 1024) md hm) (wide w) (shapeCast (Sh2 1 256) g hg) (heads u) R ⟨1024 + k.val, by omega⟩
      = refV (refL (refC (refP x md w)) g u) (ix2 R k) := by
  refine Eq.symm ((refV_apply _ _ _).trans ((refL_apply _ _ _ _ _ _).trans ?_))
  unfold valueAt
  refine congr (congr (congrArg latent (funext fun e => ?_)) (funext fun e => ?_)) (funext fun e => (heads_value u e k).symm)
  · refine (refC_apply _ _ _ _).trans ((refP_apply x md w _ _ _).trans ?_)
    refine (prodAt_args x md w hx hm R ⟨3072 + e.val, by omega⟩ ⟨2960 + e.val, by omega⟩ fun d => ?_).symm
    refine (wide_mid w d _ (show 2688 ≤ 3072 + e.val by omega) (show 3072 + e.val < 3328 by omega)).trans ?_
    exact congrArg w (congrArg (ix2 d) (Fin.ext (show 3072 + e.val - 112 = 2960 + e.val by omega)))
  · have hc : shapeCast (Sh2 1 256) g hg (ix2 0 e) = g (ix1 e) := by pointwise
    exact hc.symm

end

section
variable {X X' : Vec Ideal (Sh2 16384 1024) .f32} {M M' : Vec Ideal (Sh3 8 9 1024) .f32} {W W' : Vec Ideal (Sh2 1024 3584) .bf16} {cw cw' : Vec Ideal (Sh2 4 1536) .f32}
  {cb cb' : Vec Ideal (Sh2 1 1536) .f32} {g g' : Vec Ideal (Sh2 1 256) .f32} {U U' : Vec Ideal (Sh2 256 2048) .bf16}

theorem prodAt_congr (h0 : X = X') (h1 : M = M') (h2 : W = W') (R : Fin 16384) (j : Fin 3584) : prodAt X M W R j = prodAt X' M' W' R j := by
  rw [h0, h1, h2]

theorem rowAt_congr (h0 : X = X') (h1 : M = M') (h2 : W = W') (h3 : cw = cw') (h4 : cb = cb') (R : Fin 16384) (k : Fin 1536) :
    rowAt X M W cw cb R k = rowAt X' M' W' cw' cb' R k := by
  rw [h0, h1, h2, h3, h4]

theorem valueAt_congr (h0 : X = X') (h1 : M = M') (h2 : W = W') (h3 : g = g') (h4 : U = U') (R : Fin 16384) (k : Fin 2048) :
    valueAt X M W g U R k = valueAt X' M' W' g' U' R k := by
  rw [h0, h1, h2, h3, h4]

end

/-- A memory of the reference's that holds the kernel's arguments. -/
def Agree (m : (ℓ : Loc Cert.Kernel6Ideal.nD Cert.Kernel6Ideal.τ Cert.Kernel6Ideal.sig) → Buf (Elt Ideal) ℓ) (c : Dev Cert.Kernel6Ideal.nD)
    (m' : (ℓ : Loc Cert.Reference6Ideal.nD Cert.Reference6Ideal.τ Cert.Reference6Ideal.sig) → Buf (Elt Ideal) ℓ) : Prop :=
  m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0) ∧
    m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1) ∧
    m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2) ∧
    m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3) ∧
    m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4) ∧
    m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5) ∧
    m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6) ∧
    m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7) ∧
    m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)

section
variable (m : (ℓ : Loc Cert.Kernel6Ideal.nD Cert.Kernel6Ideal.τ Cert.Kernel6Ideal.sig) → Buf (Elt Ideal) ℓ) (c : Dev Cert.Kernel6Ideal.nD)
  (m' : (ℓ : Loc Cert.Reference6Ideal.nD Cert.Reference6Ideal.τ Cert.Reference6Ideal.sig) → Buf (Elt Ideal) ℓ)

/-- The reference's projection, its convolved and activated rows and its heads' product, from the memory's arguments. -/
def proj : FVec Ideal (Sh3 8 2048 3280) .f32 := refP (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))
def acts : FVec Ideal (Sh3 8 2048 1536) .f32 := refA (refY (refQ (proj c m')) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)))
def lats : FVec Ideal (Sh3 8 2048 2048) .f32 := refL (refC (proj c m')) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg8))

theorem proj_eq (h : Agree m c m') : proj c m' = refP (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) := by
  obtain ⟨h0, h1, h2, _⟩ := h
  unfold proj
  rw [h0, h1, h2]

theorem acts_eq (h : Agree m c m') : acts c m' = refA (refY (refQ (refP (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)))) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) := by
  have hp := proj_eq m c m' h
  obtain ⟨_, _, _, h3, h4, _⟩ := h
  unfold acts
  rw [hp, h3, h4]

theorem lats_eq (h : Agree m c m') : lats c m' = refL (refC (refP (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)))) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) := by
  have hp := proj_eq m c m' h
  obtain ⟨_, _, _, _, _, _, _, h7, h8⟩ := h
  unfold lats
  rw [hp, h7, h8]

/-- A column that is the weights' own, of the windows' arrays. -/
theorem prod_eq (h : Agree m c m') (R : Fin 16384) (j : Fin 3584) (i : Fin 3280) (hw : ∀ (w : FVec Ideal (Sh2 1024 3280) .f32) e, wide w (ix2 e j) = w (ix2 e i)) :
    proj c m' (ix3 ⟨R.val / 2048, by omega⟩ ⟨R.val % 2048, by omega⟩ i) = prod m c R j := by
  refine (congrFun (proj_eq m c m' h) _).trans ((refP_apply _ _ _ _ _ _).trans ?_)
  refine (prodAt_args _ _ _ Cert.Kernel6Ideal.Gen.facts.shapeCasts_S8x2048x1024_S16384x1024 Cert.Kernel6Ideal.Gen.facts.shapeCasts_S8x9216_S8x9x1024 R j i (hw _)).symm.trans ?_
  exact (prodAt_congr (V_x m c) (V_m m c) (V_w m c) R j).symm

/-- The convolved and activated rows, of the windows' arrays. -/
theorem row_eq (h : Agree m c m') (R : Fin 16384) (k : Fin 1536) :
    acts c m' (ix3 ⟨R.val / 2048, by omega⟩ ⟨R.val % 2048, by omega⟩ k)
      = rowAt (Cert.Kernel6Ideal.Gen.V m c Cert.Kernel6Ideal.main_v36) (Cert.Kernel6Ideal.Gen.V m c Cert.Kernel6Ideal.main_v37) (Cert.Kernel6Ideal.Gen.V m c Cert.Kernel6Ideal.main_v13)
        (Cert.Kernel6Ideal.Gen.V m c Cert.Kernel6Ideal.main_arg3) (Cert.Kernel6Ideal.Gen.V m c Cert.Kernel6Ideal.main_v38) R k := by
  refine (congrFun (acts_eq m c m' h) _).trans ?_
  refine (rowAt_args _ _ _ Cert.Kernel6Ideal.Gen.facts.shapeCasts_S8x2048x1024_S16384x1024 Cert.Kernel6Ideal.Gen.facts.shapeCasts_S8x9216_S8x9x1024 _ _ Cert.Kernel6Ideal.Gen.facts.shapeCasts_S1536_S1x1536 R k).symm.trans ?_
  exact (rowAt_congr (V_x m c) (V_m m c) (V_w m c) (Cert.Kernel6Ideal.Gen.V_main_arg3 m c) (V_b m c) R k).symm

theorem result_z (h : Agree m c m') : refZ (proj c m') = arrayZ m c := by
  funext i
  obtain ⟨R, k, rfl⟩ : ∃ (R : Fin 16384) (k : Fin 1024), i = ix2 R k := eq_pair i
  exact (refZ_apply _ R k).trans (prod_eq m c m' h R ⟨k.val, by omega⟩ ⟨k.val, by omega⟩ fun w e => wide_low w e _ (show k.val < 2576 by omega))

theorem result_x (h : Agree m c m') : refX (acts c m') = arrayX m c := by
  funext i
  obtain ⟨R, k, rfl⟩ : ∃ (R : Fin 16384) (k : Fin 1024), i = ix2 R k := eq_pair i
  exact (refX_apply _ R k).trans (row_eq m c m' h R ⟨k.val, by omega⟩)

theorem result_b (h : Agree m c m') : refB (acts c m') = arrayB m c := by
  funext i
  obtain ⟨R, k, rfl⟩ : ∃ (R : Fin 16384) (k : Fin 512), i = ix2 R k := eq_pair i
  exact (refB_apply _ R k).trans (row_eq m c m' h R ⟨1024 + k.val, by omega⟩)

theorem result_d (h : Agree m c m') : refD (proj c m') = arrayD m c := by
  funext i
  obtain ⟨R, k, rfl⟩ : ∃ (R : Fin 16384) (k : Fin 128), i = ix2 R k := eq_pair i
  by_cases hk : k.val < 16
  · exact (refD_keep _ R k hk).trans (prod_eq m c m' h R ⟨2560 + k.val, by omega⟩ ⟨2560 + k.val, by omega⟩ fun w e => wide_low w e _ (show 2560 + k.val < 2576 by omega))
  · refine (refD_zero _ R k (by omega)).trans ?_
    refine Eq.symm ((prodAt_congr rfl rfl (V_w m c) R ⟨2560 + k.val, by omega⟩).trans ?_)
    exact prodAt_zero _ _ _ R _ fun e => wide_zero _ e _ (show 2576 ≤ 2560 + k.val by omega) (show 2560 + k.val < 2688 by omega)

theorem result_v (h : Agree m c m') : refV (lats c m') = arrayV m c := by
  funext i
  obtain ⟨R, k, rfl⟩ : ∃ (R : Fin 16384) (k : Fin 1024), i = ix2 R k := eq_pair i
  refine (congrArg (fun l => refV l (ix2 R k)) (lats_eq m c m' h)).trans ?_
  refine (valueAt_args _ _ _ Cert.Kernel6Ideal.Gen.facts.shapeCasts_S8x2048x1024_S16384x1024 Cert.Kernel6Ideal.Gen.facts.shapeCasts_S8x9216_S8x9x1024 _ _ Cert.Kernel6Ideal.Gen.facts.shapeCasts_S256_S1x256 R k).symm.trans ?_
  exact (valueAt_congr (V_x m c) (V_m m c) (V_w m c) (V_g m c) (V_u m c) R ⟨1024 + k.val, by omega⟩).symm

end

end Cert.Proj

end
-- ==== Proof.QkTile.lean ====
module

public import proofs.«01_k».proof.Proof.ProjTile

@[expose] public section

set_option maxRecDepth 16384

/-! The queries and keys of one tile of the mixer's first projection: the heads' products of the normalised latents, and
the rotated columns behind each head's. -/

noncomputable section

namespace Cert.Proj

open Idealize.ShloMosaic Idealize.ShloMosaic.TcCoe Idealize.SL.Sem Idealize.ShloMosaic.Pipeline
open Cert.Attn (Sh2 Sh1)
open Cert.Kernel6Ideal Cert.Kernel6Ideal.Gen
open scoped BigOperators

/-- One column of the normalised queries' latent's product. -/
def query (y g : Fin 384 → EReal) (w : Fin 384 → EReal) : EReal :=
  ∑ e, y e * Ideal.rsqrt (Ideal.div (∑ d, y d * y d) (Ideal.ofBits .f32 0x43C00000#32) + Ideal.ofBits .f32 0x3727C5AC#32) * g e * w e

/-- The queries' factor. -/
def factor : EReal := Ideal.ofBits .f32 0x3DD53B95#32

theorem pay20_apply (p : FVec Ideal S512x1024 .f32) (r : Fin 512) (e : Fin 384) :
    k0_pay20 (F := Ideal) p (ix2 r e) = p (ix2 r ⟨128 + e.val, by omega⟩) := by
  pointwise [k0_pay20]

theorem pay21_apply (y : FVec Ideal S512x384 .f32) (g : Vec Ideal S1x384 .f32) (w : FVec Ideal S384x3072 .bf16) (r : Fin 512) (k : Fin 3072) :
    k0_pay21 (F := Ideal) y g w (ix2 r k) = query (fun e => y (ix2 r e)) (fun e => g (ix2 0 e)) (fun e => w (ix2 e k)) := by
  pointwise [k0_pay21]
  rfl

/-- The tables as the tile reads them, and the rotated columns of its keys. -/
theorem pay17_apply (C : FVec Ideal S512x128 .f32) (r : Fin 512) (d : Fin 128) : k0_pay17 (F := Ideal) C (ix2 r d) = C (ix2 r d) := by
  pointwise [k0_pay17]

theorem pay18_apply (S : FVec Ideal S512x128 .f32) (r : Fin 512) (d : Fin 128) : k0_pay18 (F := Ideal) S (ix2 r d) = S (ix2 r d) := by
  pointwise [k0_pay18]

theorem pay19_apply (p : FVec Ideal S512x1024 .f32) (C S : FVec Ideal S512x128 .f32) (r : Fin 512) (d : Fin 128) :
    k0_pay19 (F := Ideal) p C S (ix2 r d)
      = p (ix2 r ⟨768 + d.val, by omega⟩) * C (ix2 r d) + p (ix2 r ⟨896 + d.val, by omega⟩) * S (ix2 r d) := by
  pointwise [k0_pay19, k0_pay17, k0_pay18]

/-- An entry of the queries' block: a head's product, and behind it the rotated columns' two products. -/
def queryAt (Q : Fin 3072 → EReal) (C S : Fin 128 → EReal) (k : Fin 2048) : EReal :=
  if k.val % 256 < 128 then Q ⟨k.val / 256 * 128 + k.val % 128, by omega⟩ * factor
  else (Q ⟨1024 + (k.val / 256 * 128 + k.val % 128), by omega⟩ * C ⟨k.val % 128, by omega⟩
    + Q ⟨2048 + (k.val / 256 * 128 + k.val % 128), by omega⟩ * S ⟨k.val % 128, by omega⟩) * factor

/-- An entry of the keys' block: a head's product, and behind it the token's rotated columns. -/
def keyAt (L : Fin 2048 → EReal) (P : Fin 128 → EReal) (k : Fin 2048) : EReal :=
  if k.val % 256 < 128 then L ⟨k.val / 256 * 128 + k.val % 128, by omega⟩ else P ⟨k.val % 128, by omega⟩

/-- The blocks of a tile. -/
def queryBlock (Q : FVec Ideal S512x3072 .f32) (C S : FVec Ideal S512x128 .f32) (i : S512x2048.Idx) : EReal :=
  queryAt (fun j => Q (ix2 (i 0) j)) (fun d => C (ix2 (i 0) d)) (fun d => S (ix2 (i 0) d)) (i 1)
def keyBlock (L : FVec Ideal S512x2048 .f32) (P : FVec Ideal S512x128 .bf16) (i : S512x2048.Idx) : EReal :=
  keyAt (fun j => L (ix2 (i 0) j)) (fun d => P (ix2 (i 0) d)) (i 1)

theorem pair_eq (x : S512x128.Idx) : ∃ (r : Fin 512) (d : Fin 128), x = ix2 r d :=
  ⟨x 0, x 1, by funext a; match a with | ⟨0, _⟩ => rfl | ⟨1, _⟩ => rfl⟩

section
variable (Q : FVec Ideal S512x3072 .f32) (C S : FVec Ideal S512x128 .f32) (L : FVec Ideal S512x2048 .f32) (P : FVec Ideal S512x128 .bf16)
  (x : S512x128.Idx) (i : S512x2048.Idx) (h0 : (i 0).val = (x 0).val)
include h0

/-- One head's queries, as the kernel stores them. -/
theorem query_nope (p : ℕ) (h : S512x3072.Slices ![0, p] S512x128) (hp : p % 128 = 0) (h1 : (i 1).val = 2 * p + (x 1).val) :
    truncf .bf16 (mulf (extractStridedSlice S512x128 ![0, p] Q h) (broadcast S512x128 (FloatOps.ofBits (F := Ideal) .f32 0x3DD53B95#32))) bitsLt_bf16_f32 x
      = queryBlock Q C S i := by
  obtain ⟨r, d, rfl⟩ := pair_eq x
  have h0' : (i 0).val = r.val := h0
  have h1' : (i 1).val = 2 * p + d.val := h1
  unfold queryBlock queryAt
  rw [if_pos (show (i 1).val % 256 < 128 by omega)]
  pointwise
  refine congrArg (fun a : EReal => a * factor) (congrArg Q (congrArg₂ ix2 (Fin.ext h0'.symm) (Fin.ext ?_)))
  show p + d.val = (i 1).val / 256 * 128 + (i 1).val % 128
  omega

/-- One head's rotated queries, as the kernel stores them. -/
theorem query_rope (p p' : ℕ) (h : S512x3072.Slices ![0, p] S512x128) (h' : S512x3072.Slices ![0, p'] S512x128) (hp : p % 128 = 0) (hp' : p' = 1024 + p) (h1 : (i 1).val + 1920 = 2 * p + (x 1).val) :
    truncf .bf16 (mulf (addf (mulf (extractStridedSlice S512x128 ![0, p] Q h) C) (mulf (extractStridedSlice S512x128 ![0, p'] Q h') S))
      (broadcast S512x128 (FloatOps.ofBits (F := Ideal) .f32 0x3DD53B95#32))) bitsLt_bf16_f32 x = queryBlock Q C S i := by
  obtain ⟨r, d, rfl⟩ := pair_eq x
  have h0' : (i 0).val = r.val := h0
  have h1' : (i 1).val + 1920 = 2 * p + d.val := h1
  have e0 : r = i 0 := Fin.ext h0'.symm
  have e1 : d = ⟨(i 1).val % 128, by omega⟩ := Fin.ext (show d.val = (i 1).val % 128 by omega)
  unfold queryBlock queryAt
  rw [if_neg (show ¬(i 1).val % 256 < 128 by omega)]
  pointwise
  refine congrArg (fun a : EReal => a * factor) (congrArg₂ (fun a b : EReal => a + b)
    (congrArg₂ (fun a b : EReal => a * b) (congrArg Q (congrArg₂ ix2 e0 (Fin.ext ?_))) (congrArg C (congrArg₂ ix2 e0 e1)))
    (congrArg₂ (fun a b : EReal => a * b) (congrArg Q (congrArg₂ ix2 e0 (Fin.ext ?_))) (congrArg S (congrArg₂ ix2 e0 e1))))
  · show p + d.val = 1024 + ((i 1).val / 256 * 128 + (i 1).val % 128)
    omega
  · show p' + d.val = 2048 + ((i 1).val / 256 * 128 + (i 1).val % 128)
    omega

/-- One head's keys, as the kernel stores them. -/
theorem key_nope (p : ℕ) (h : S512x2048.Slices ![0, p] S512x128) (hp : p % 128 = 0) (h1 : (i 1).val = 2 * p + (x 1).val) :
    truncf .bf16 (extractStridedSlice S512x128 ![0, p] L h) bitsLt_bf16_f32 x = keyBlock L P i := by
  obtain ⟨r, d, rfl⟩ := pair_eq x
  have h0' : (i 0).val = r.val := h0
  have h1' : (i 1).val = 2 * p + d.val := h1
  unfold keyBlock keyAt
  rw [if_pos (show (i 1).val % 256 < 128 by omega)]
  pointwise
  refine congrArg L (congrArg₂ ix2 (Fin.ext h0'.symm) (Fin.ext ?_))
  show p + d.val = (i 1).val / 256 * 128 + (i 1).val % 128
  omega

/-- The rotated keys behind a head's. -/
theorem key_rope (h1 : (i 1).val % 256 = 128 + (x 1).val) : P x = keyBlock L P i := by
  obtain ⟨r, d, rfl⟩ := pair_eq x
  have h0' : (i 0).val = r.val := h0
  have h1' : (i 1).val % 256 = 128 + d.val := h1
  unfold keyBlock keyAt
  rw [if_neg (show ¬(i 1).val % 256 < 128 by omega)]
  exact congrArg P (congrArg₂ ix2 (Fin.ext h0'.symm) (Fin.ext (show d.val = (i 1).val % 128 by omega)))

end

section
variable (y : FVec Ideal S512x384 .f32) (g : Vec Ideal S1x384 .f32) (w : FVec Ideal S384x3072 .bf16) (C S : FVec Ideal S512x128 .f32)
  (p : FVec Ideal S512x1024 .f32) (v : Vec Ideal S1x256 .f32) (u : FVec Ideal S256x2048 .bf16)

/-- The first heads' blocks are taken from the same products as the rest. -/
theorem first_nope : k0_pay22 (F := Ideal) y g w = truncf .bf16 (mulf (extractStridedSlice S512x128 ![0, 0] (k0_pay21 (F := Ideal) y g w) slices_S512x3072_o0_0_S512x128)
    (broadcast S512x128 (FloatOps.ofBits (F := Ideal) .f32 0x3DD53B95#32))) bitsLt_bf16_f32 := rfl
theorem first_rope : k0_pay23 (F := Ideal) C S y g w = truncf .bf16 (mulf (addf (mulf (extractStridedSlice S512x128 ![0, 1024] (k0_pay21 (F := Ideal) y g w) slices_S512x3072_o0_1024_S512x128) C)
    (mulf (extractStridedSlice S512x128 ![0, 2048] (k0_pay21 (F := Ideal) y g w) slices_S512x3072_o0_2048_S512x128) S))
    (broadcast S512x128 (FloatOps.ofBits (F := Ideal) .f32 0x3DD53B95#32))) bitsLt_bf16_f32 := rfl
theorem second_nope : k0_pay25 (F := Ideal) y g w = truncf .bf16 (mulf (extractStridedSlice S512x128 ![0, 128] (k0_pay21 (F := Ideal) y g w) slices_S512x3072_o0_128_S512x128)
    (broadcast S512x128 (FloatOps.ofBits (F := Ideal) .f32 0x3DD53B95#32))) bitsLt_bf16_f32 := rfl
theorem second_rope : k0_pay24 (F := Ideal) C S y g w = addf (mulf (extractStridedSlice S512x128 ![0, 1152] (k0_pay21 (F := Ideal) y g w) slices_S512x3072_o0_1152_S512x128) C)
    (mulf (extractStridedSlice S512x128 ![0, 2176] (k0_pay21 (F := Ideal) y g w) slices_S512x3072_o0_2176_S512x128) S) := rfl
theorem first_key : k0_pay45 (F := Ideal) p v u = truncf .bf16 (extractStridedSlice S512x128 ![0, 0] (k0_pay44 (F := Ideal) p v u) slices_S512x2048_o0_0_S512x128) bitsLt_bf16_f32 := rfl
theorem second_key : k0_pay46 (F := Ideal) p v u = truncf .bf16 (extractStridedSlice S512x128 ![0, 128] (k0_pay44 (F := Ideal) p v u) slices_S512x2048_o0_128_S512x128) bitsLt_bf16_f32 := rfl

end

end Cert.Proj

end
-- ==== Proof.QkBlock.lean ====
module

public import proofs.«01_k».proof.Proof.QkTile
public import proofs.«01_k».proof.Proof.ProjBlock

@[expose] public section

set_option maxRecDepth 16384

/-! What the mixer's first projection leaves at one grid point in its queries' and its keys' block. -/

noncomputable section

namespace Cert.Proj

open Idealize.ShloMosaic Idealize.ShloMosaic.TcCoe Idealize.SL.Sem Idealize.ShloMosaic.Pipeline
open Cert.Attn (Sh2 Sh1)
open Cert.Kernel6Ideal Cert.Kernel6Ideal.Gen
open scoped BigOperators

variable (m : (ℓ : Loc nD τ sig) → Buf (Elt Ideal) ℓ) (c : Dev nD)

/-- The product the latents and the rotated columns are parts of, and the heads' products of the two latents. -/
abbrev part (t : Fin cfg0.N) : FVec Ideal S512x1024 .f32 := k0_pay9 (F := Ideal) (hid m c t) (wp m c t)
abbrev heads3 (t : Fin cfg0.N) : FVec Ideal S512x3072 .f32 := k0_pay21 (F := Ideal) (k0_pay20 (F := Ideal) (part m c t)) (iblk m c 5 t) (iblk m c 6 t)
abbrev heads2 (t : Fin cfg0.N) : FVec Ideal S512x2048 .f32 := k0_pay44 (F := Ideal) (part m c t) (iblk m c 7 t) (iblk m c 8 t)

set_option maxHeartbeats 4000000 in
theorem out_q (t : Fin cfg0.N) : (outsAt0 m c t.val t.isLt).2.2.2.2.1
    = queryBlock (heads3 m c t) (k0_pay17 (F := Ideal) (iblk m c 9 t)) (k0_pay18 (F := Ideal) (iblk m c 10 t)) := by
  by_cases h0 : t.val % 32 = 0
  on_goal 1 => rw [outsAt0_A m c t h0]
  on_goal 2 => rw [outsAt0_B m c t h0]
  all_goals
    frame_out
    rw [first_nope, first_rope, second_nope, second_rope]
    unfold heads3 part hid wp shift scale
    generalize k0_pay21 (F := Ideal) _ _ _ = Q
    generalize k0_pay17 (F := Ideal) _ = C
    generalize k0_pay18 (F := Ideal) _ = S
    funext i
    canon_tiles x h
    all_goals
      open_payloads
      first
        | exact query_nope Q C S x i h0 _ _ (by decide) (by omega)
        | exact query_rope Q C S x i h0 _ _ _ _ (by decide) (by decide) (by omega)

set_option maxHeartbeats 4000000 in
theorem out_k (t : Fin cfg0.N) : (outsAt0 m c t.val t.isLt).2.2.2.2.2.1
    = keyBlock (heads2 m c t) (k0_pay19 (F := Ideal) (part m c t) (iblk m c 9 t) (iblk m c 10 t)) := by
  by_cases h0 : t.val % 32 = 0
  on_goal 1 => rw [outsAt0_A m c t h0]
  on_goal 2 => rw [outsAt0_B m c t h0]
  all_goals
    frame_out
    rw [first_key, second_key]
    unfold heads2 part hid wp shift scale
    generalize k0_pay44 (F := Ideal) _ _ _ = L
    generalize k0_pay19 (F := Ideal) _ _ _ = P
    funext i
    canon_tiles x h
    all_goals
      open_payloads
      first
        | exact key_nope L P x i h0 _ _ (by decide) (by omega)
        | exact key_rope L P x i h0 (by omega)

end Cert.Proj

end
-- ==== Proof.QkArray.lean ====
module

public import proofs.«01_k».proof.Proof.QkBlock
public import proofs.«01_k».proof.Proof.ProjArray

@[expose] public section

set_option maxRecDepth 16384

/-! The first projection's queries and keys, read from the arrays that its windows hold. -/

noncomputable section

namespace Cert.Proj

open Idealize.ShloMosaic Idealize.ShloMosaic.TcCoe Idealize.SL.Sem Idealize.ShloMosaic.Pipeline
open Cert.Attn (Sh2 Sh1)
open Cert.Ffn (Sh3)
open Cert.Kernel6Ideal Cert.Kernel6Ideal.Gen
open scoped BigOperators

section
variable (X : Vec Ideal (Sh2 16384 1024) .f32) (M : Vec Ideal (Sh3 8 9 1024) .f32) (W : Vec Ideal (Sh2 1024 3584) .bf16) (g : Vec Ideal (Sh2 1 384) .f32)
  (U : Vec Ideal (Sh2 384 3072) .bf16) (v : Vec Ideal (Sh2 1 256) .f32) (u : Vec Ideal (Sh2 256 2048) .bf16) (C S : Vec Ideal (Sh2 2048 128) .f32)

/-- The heads' products of a row's normalised latent. -/
def headAt (R : Fin 16384) (j : Fin 3072) : EReal :=
  query (fun e => prodAt X M W R ⟨2688 + e.val, by omega⟩) (fun e => g (ix2 0 e)) (fun e => U (ix2 e j))

/-- The rotated columns of a row's keys. -/
def ropeAt (R : Fin 16384) (d : Fin 128) : EReal :=
  prodAt X M W R ⟨3328 + d.val, by omega⟩ * C (ix2 ⟨R.val % 2048, by omega⟩ d) + prodAt X M W R ⟨3456 + d.val, by omega⟩ * S (ix2 ⟨R.val % 2048, by omega⟩ d)

/-- A row of the queries and of the keys. -/
def queryRow (R : Fin 16384) (k : Fin 2048) : EReal :=
  queryAt (headAt X M W g U R) (fun d => C (ix2 ⟨R.val % 2048, by omega⟩ d)) (fun d => S (ix2 ⟨R.val % 2048, by omega⟩ d)) k
def keyRow (R : Fin 16384) (k : Fin 2048) : EReal := keyAt (valueAt X M W v u R) (ropeAt X M W C S R) k

end

/-- The queries' weights' windows hold the whole arrays, the tables' windows the tile's places in its sequence. -/
theorem qk_facts : ∀ t : Fin cfg0.N,
    win0_5.index t = ![0, 0] ∧ win0_6.index t = ![0, 0] ∧ win0_9.index t = ![t.val % 4, 0] ∧ win0_10.index t = ![t.val % 4, 0]
      ∧ win0_15.index t = ![t.val, 0] ∧ win0_16.index t = ![t.val, 0] :=
  (by decide +kernel : ∀ t : Fin grid0.N,
    win0_5.index t = ![0, 0] ∧ win0_6.index t = ![0, 0] ∧ win0_9.index t = ![t.val % 4, 0] ∧ win0_10.index t = ![t.val % 4, 0]
      ∧ win0_15.index t = ![t.val, 0] ∧ win0_16.index t = ![t.val, 0])

variable (m : (ℓ : Loc nD τ sig) → Buf (Elt Ideal) ℓ) (c : Dev nD)

theorem iblk_qn (t : Fin cfg0.N) : iblk m c 5 t = V m c main_v39 := by
  have h := (qk_facts t).1
  refine funext fun i => congrArg (V m c main_v39) (funext fun a => Fin.ext ?_)
  match a with
  | ⟨0, _⟩ => exact at_zero _ 1 _ (congrFun h 0)
  | ⟨1, _⟩ => exact at_zero _ 384 _ (congrFun h 1)

theorem iblk_q (t : Fin cfg0.N) : iblk m c 6 t = V m c main_v53 := by
  have h := (qk_facts t).2.1
  refine funext fun i => congrArg (V m c main_v53) (funext fun a => Fin.ext ?_)
  match a with
  | ⟨0, _⟩ => exact at_zero _ 384 _ (congrFun h 0)
  | ⟨1, _⟩ => exact at_zero _ 3072 _ (congrFun h 1)

/-- A block at a tile's place in its sequence. -/
theorem place_at (k t x : ℕ) (hx : x < 512) (h : k = t % 4) : k * 512 + 1 * x = (t * 512 + x) % 2048 := by rw [h]; omega

theorem iblk_cos (t : Fin cfg0.N) (r : Fin 512) (d : Fin 128) :
    iblk m c 9 t (ix2 r d) = V m c main_v34 (ix2 (n0 := 2048) (n1 := 128) ⟨(at' t r).val % 2048, by omega⟩ d) := by
  have h := (qk_facts t).2.2.1
  refine congrArg (V m c main_v34) (funext fun a => Fin.ext ?_)
  match a with
  | ⟨0, _⟩ => exact place_at _ t.val r.val r.isLt (congrFun h 0)
  | ⟨1, _⟩ => exact at_zero _ 128 _ (congrFun h 1)

theorem iblk_sin (t : Fin cfg0.N) (r : Fin 512) (d : Fin 128) :
    iblk m c 10 t (ix2 r d) = V m c main_v35 (ix2 (n0 := 2048) (n1 := 128) ⟨(at' t r).val % 2048, by omega⟩ d) := by
  have h := (qk_facts t).2.2.2.1
  refine congrArg (V m c main_v35) (funext fun a => Fin.ext ?_)
  match a with
  | ⟨0, _⟩ => exact place_at _ t.val r.val r.isLt (congrFun h 0)
  | ⟨1, _⟩ => exact at_zero _ 128 _ (congrFun h 1)

/-- The two results' rows, over the arrays the windows hold. -/
abbrev queries (R : Fin 16384) (k : Fin 2048) : EReal :=
  queryRow (V m c main_v36) (V m c main_v37) (V m c main_v13) (V m c main_v39) (V m c main_v53) (V m c main_v34) (V m c main_v35) R k
abbrev keys (R : Fin 16384) (k : Fin 2048) : EReal :=
  keyRow (V m c main_v36) (V m c main_v37) (V m c main_v13) (V m c main_v54) (V m c main_v61) (V m c main_v34) (V m c main_v35) R k

theorem heads3_apply (t : Fin cfg0.N) (r : Fin 512) (j : Fin 3072) :
    heads3 m c t (ix2 r j) = headAt (V m c main_v36) (V m c main_v37) (V m c main_v13) (V m c main_v39) (V m c main_v53) (at' t r) j := by
  refine (pay21_apply _ _ _ r j).trans ?_
  unfold headAt
  rw [iblk_qn, iblk_q]
  refine congrArg (fun y => query y _ _) (funext fun e => (pay20_apply _ r e).trans ((wide_apply m c t r _).trans (congrArg (prod m c (at' t r)) (Fin.ext ?_))))
  show 2560 + (128 + e.val) = 2688 + e.val
  omega

theorem heads2_apply (t : Fin cfg0.N) (r : Fin 512) (j : Fin 2048) :
    heads2 m c t (ix2 r j) = valueAt (V m c main_v36) (V m c main_v37) (V m c main_v13) (V m c main_v54) (V m c main_v61) (at' t r) j := by
  refine (pay44_apply _ _ _ r j).trans ?_
  unfold valueAt
  rw [iblk_g, iblk_u]
  refine congrArg (fun y => latent y _ _) (funext fun e => (wide_apply m c t r _).trans (congrArg (prod m c (at' t r)) (Fin.ext ?_)))
  show 2560 + (512 + e.val) = 3072 + e.val
  omega

theorem rope_apply (t : Fin cfg0.N) (r : Fin 512) (d : Fin 128) :
    k0_pay19 (F := Ideal) (part m c t) (iblk m c 9 t) (iblk m c 10 t) (ix2 r d)
      = ropeAt (V m c main_v36) (V m c main_v37) (V m c main_v13) (V m c main_v34) (V m c main_v35) (at' t r) d := by
  refine (pay19_apply _ _ _ r d).trans ?_
  unfold ropeAt
  refine congrArg₂ (fun a b : EReal => a + b) (congrArg₂ (fun a b : EReal => a * b) ((wide_apply m c t r _).trans (congrArg (prod m c (at' t r)) (Fin.ext ?_))) (iblk_cos m c t r d))
    (congrArg₂ (fun a b : EReal => a * b) ((wide_apply m c t r _).trans (congrArg (prod m c (at' t r)) (Fin.ext ?_))) (iblk_sin m c t r d))
  · show 2560 + (768 + d.val) = 3328 + d.val
    omega
  · show 2560 + (896 + d.val) = 3456 + d.val
    omega

theorem q_apply (t : Fin cfg0.N) (r : Fin 512) (k : Fin 2048) : (outsAt0 m c t.val t.isLt).2.2.2.2.1 (ix2 r k) = queries m c (at' t r) k := by
  rw [out_q]
  refine congrFun (congr (congr (congrArg queryAt (funext fun j => heads3_apply m c t r j)) (funext fun d => ?_)) (funext fun d => ?_)) k
  · exact (pay17_apply _ r d).trans (iblk_cos m c t r d)
  · exact (pay18_apply _ r d).trans (iblk_sin m c t r d)

theorem k_apply (t : Fin cfg0.N) (r : Fin 512) (k : Fin 2048) : (outsAt0 m c t.val t.isLt).2.2.2.2.2.1 (ix2 r k) = keys m c (at' t r) k := by
  rw [out_k]
  exact congrFun (congr (congrArg keyAt (funext fun j => heads2_apply m c t r j)) (funext fun d => rope_apply m c t r d)) k

/-- The two result arrays, index by index. -/
def arrayQ (i : (Sh2 16384 2048).Idx) : EReal := queries m c (i 0) (i 1)
def arrayK (i : (Sh2 16384 2048).Idx) : EReal := keys m c (i 0) (i 1)

theorem finalQ : Value.G15 m c = arrayQ m c := by
  refine (Value.final15 m c).symm.trans ((dats m 0 c).arrAt_eq_of_cover 15 (arrayQ m c) (fun t _ => ?_) (fun i => (Value.covered_iff15 i).2 ?_))
  · rw [Value.flushed15 m c t]
    funext j
    obtain ⟨r, k, rfl⟩ : ∃ (r : Fin 512) (k : Fin 2048), j = ix2 r k := eq_pair j
    have h := (qk_facts t).2.2.2.2.1
    exact (q_apply m c t r k).trans (congrArg₂ (queries m c) (Fin.ext (row_at _ _ r.val (congrFun h 0))) (Fin.ext (col_at _ 2048 k.val (congrFun h 1))))
  · have h0 : (i 0).val < 16384 := (i 0).isLt
    have h1 : (i 1).val < 2048 := (i 1).isLt
    omega

theorem finalK : Value.G16 m c = arrayK m c := by
  refine (Value.final16 m c).symm.trans ((dats m 0 c).arrAt_eq_of_cover 16 (arrayK m c) (fun t _ => ?_) (fun i => (Value.covered_iff16 i).2 ?_))
  · rw [Value.flushed16 m c t]
    funext j
    obtain ⟨r, k, rfl⟩ : ∃ (r : Fin 512) (k : Fin 2048), j = ix2 r k := eq_pair j
    have h := (qk_facts t).2.2.2.2.2
    exact (k_apply m c t r k).trans (congrArg₂ (keys m c) (Fin.ext (row_at _ _ r.val (congrFun h 0))) (Fin.ext (col_at _ 2048 k.val (congrFun h 1))))
  · have h0 : (i 0).val < 16384 := (i 0).isLt
    have h1 : (i 1).val < 2048 := (i 1).isLt
    omega

end Cert.Proj
-- ==== Proof.QkHost.lean ====
module

public import proofs.«01_k».proof.Proof.ProjHost

@[expose] public section

set_option maxRecDepth 16384

/-! The arrays that the queries and keys are computed from, read from the program's arguments. -/

noncomputable section

namespace Cert.Proj

open Idealize.ShloMosaic Idealize.ShloMosaic.TcCoe Idealize.SL.Sem Idealize.ShloMosaic.StableHlo
open Cert.Attn (Sh2 Sh1)
open scoped BigOperators

open Cert.Kernel6Ideal Cert.Kernel6Ideal.Gen

/-- The rotated keys' columns are the weights' last, zeros behind them. -/
theorem wide_last (w : FVec Ideal S1024x3280 .f32) (e : Fin 1024) (j : Fin 3584) (hj : 3328 ≤ j.val) (hj' : j.val < 3392) : wide w (ix2 e j) = w (ix2 e ⟨j.val - 112, by omega⟩) := by
  pointwise [wide]
  rw [dif_neg (show ¬ j.val < 2560 by omega), dif_neg (show ¬ j.val - 2560 < 128 by omega), dif_neg (show ¬ j.val - 2560 - 128 < 640 by omega),
    dif_pos (show j.val - 2560 - 128 - 640 < 128 by omega), dif_pos (show j.val - 2560 - 128 - 640 < 64 by omega)]
  exact congrArg w (congrArg (ix2 e) (Fin.ext (show 3216 + (j.val - 2560 - 128 - 640) = j.val - 112 by omega)))

theorem wide_behind (w : FVec Ideal S1024x3280 .f32) (e : Fin 1024) (j : Fin 3584) (hj : 3392 ≤ j.val) (hj' : j.val < 3456) : wide w (ix2 e j) = 0 := by
  pointwise [wide]
  rw [dif_neg (show ¬ j.val < 2560 by omega), dif_neg (show ¬ j.val - 2560 < 128 by omega), dif_neg (show ¬ j.val - 2560 - 128 < 640 by omega),
    dif_pos (show j.val - 2560 - 128 - 640 < 128 by omega), dif_neg (show ¬ j.val - 2560 - 128 - 640 < 64 by omega)]
  exact sitofp_zero

theorem wide_rope (w : FVec Ideal S1024x3280 .f32) (e : Fin 1024) (d : Fin 128) :
    wide w (ix2 e ⟨3328 + d.val, by omega⟩) = if h : d.val < 64 then w (ix2 e ⟨3216 + d.val, by omega⟩) else 0 := by
  by_cases h : d.val < 64
  · refine (wide_last w e ⟨3328 + d.val, by omega⟩ (show 3328 ≤ 3328 + d.val by omega) (show 3328 + d.val < 3392 by omega)).trans (Eq.symm ((dif_pos h).trans ?_))
    exact congrArg w (congrArg (ix2 e) (Fin.ext (show 3216 + d.val = 3328 + d.val - 112 by omega)))
  · rw [dif_neg h]
    exact wide_behind w e ⟨3328 + d.val, by omega⟩ (show 3392 ≤ 3328 + d.val by omega) (show 3328 + d.val < 3456 by omega)

/-- The halves' columns, exchanged. -/
theorem turned_apply (w : FVec Ideal S1024x3280 .f32) (e : Fin 1024) (d : Fin 64) :
    turned w (ix2 e d) = if h : d.val < 32 then -w (ix2 e ⟨3248 + d.val, by omega⟩) else w (ix2 e ⟨3184 + d.val, by omega⟩) := by
  pointwise [turned]
  by_cases h : d.val < 32
  · rw [dif_pos h, dif_pos h]
    exact congrArg (fun a : EReal => -a) (congrArg w (congrArg (ix2 e) (Fin.ext (show 3216 + (32 + d.val) = 3248 + d.val by omega))))
  · rw [dif_neg h, dif_neg h]
    exact congrArg w (congrArg (ix2 e) (Fin.ext (show 3216 + (d.val - 32) = 3184 + d.val by omega)))

theorem wide_exchanged (w : FVec Ideal S1024x3280 .f32) (e : Fin 1024) (j : Fin 3584) (hj : 3456 ≤ j.val) (hj' : j.val < 3520) :
    wide w (ix2 e j) = turned w (ix2 e ⟨j.val - 3456, by omega⟩) := by
  pointwise [wide]
  rw [dif_neg (show ¬ j.val < 2560 by omega), dif_neg (show ¬ j.val - 2560 < 128 by omega), dif_neg (show ¬ j.val - 2560 - 128 < 640 by omega),
    dif_neg (show ¬ j.val - 2560 - 128 - 640 < 128 by omega), dif_pos (show j.val - 2560 - 128 - 640 - 128 < 64 by omega)]
  exact congrArg (turned w) (congrArg (ix2 e) (Fin.ext (show j.val - 2560 - 128 - 640 - 128 = j.val - 3456 by omega)))

theorem wide_end (w : FVec Ideal S1024x3280 .f32) (e : Fin 1024) (j : Fin 3584) (hj : 3520 ≤ j.val) : wide w (ix2 e j) = 0 := by
  pointwise [wide]
  rw [dif_neg (show ¬ j.val < 2560 by omega), dif_neg (show ¬ j.val - 2560 < 128 by omega), dif_neg (show ¬ j.val - 2560 - 128 < 640 by omega),
    dif_neg (show ¬ j.val - 2560 - 128 - 640 < 128 by omega), dif_neg (show ¬ j.val - 2560 - 128 - 640 - 128 < 64 by omega)]
  exact sitofp_zero

theorem wide_turned (w : FVec Ideal S1024x3280 .f32) (e : Fin 1024) (d : Fin 128) :
    wide w (ix2 e ⟨3456 + d.val, by omega⟩) = if h : d.val < 64 then turned w (ix2 e ⟨d.val, h⟩) else 0 := by
  by_cases h : d.val < 64
  · refine (wide_exchanged w e ⟨3456 + d.val, by omega⟩ (show 3456 ≤ 3456 + d.val by omega) (show 3456 + d.val < 3520 by omega)).trans (Eq.symm ((dif_pos h).trans ?_))
    exact congrArg (turned w) (congrArg (ix2 e) (Fin.ext (show d.val = 3456 + d.val - 3456 by omega)))
  · rw [dif_neg h]
    exact wide_end w e ⟨3456 + d.val, by omega⟩ (show 3520 ≤ 3456 + d.val by omega)

theorem heads_key (u : FVec Ideal S256x2048 .f32) (e : Fin 256) (k : Fin 1024) :
    heads u (ix2 e ⟨k.val, by omega⟩) = u (ix2 e ⟨k.val / 128 * 256 + k.val % 128, by omega⟩) := by
  pointwise [heads]

/-- The queries' weights, by heads. -/
def byHeads (w : FVec Ideal S384x1536 .f32) : FVec Ideal S384x8x192 .f32 := shapeCast S384x8x192 w shapeCasts_S384x1536_S384x8x192

/-- Their rotated columns, and the halves exchanged, the second one's sign reversed. -/
def ropes (w : FVec Ideal S384x1536 .f32) : FVec Ideal S384x8x64 .f32 := extractStridedSlice S384x8x64 ![0, 0, 128] (byHeads w) slices_S384x8x192_S384x8x64_0_0_128
def turns (w : FVec Ideal S384x1536 .f32) : FVec Ideal S384x8x64 .f32 :=
  concatenate S384x8x64 2 [⟨S384x8x32, (Host.negf (extractStridedSlice S384x8x32 ![0, 0, 32] (ropes w) slices_S384x8x64_S384x8x32_0_0_32) : FVec Ideal S384x8x32 .f32)⟩,
    ⟨S384x8x32, (extractStridedSlice S384x8x32 ![0, 0, 0] (ropes w) slices_S384x8x64_S384x8x32_0_0_0 : FVec Ideal S384x8x32 .f32)⟩] concatenates_S384x8x32_S384x8x32_S384x8x64_d2

/-- A head's 64 columns with 64 zeros behind them, as a matrix. -/
def spaced (y : FVec Ideal S384x8x64 .f32) : FVec Ideal S384x1024 .f32 :=
  shapeCast S384x1024 (pad S384x8x128 ![0, 0, 0] ![0, 0, 64] ![0, 0, 0] y (sitofp .f32 (constantI S_ 32 0#32)) pads_S384x8x64_S384x8x128_000_000_0640 h_S_) shapeCasts_S384x8x128_S384x1024

/-- The queries' weights laid out. -/
def laid (w : FVec Ideal S384x1536 .f32) : FVec Ideal S384x3072 .bf16 :=
  truncf .bf16 (concatenate S384x3072 1 [⟨S384x1024, (shapeCast S384x1024 (extractStridedSlice S384x8x128 ![0, 0, 0] (byHeads w) slices_S384x8x192_S384x8x128_0_0_0) shapeCasts_S384x8x128_S384x1024 : FVec Ideal S384x1024 .f32)⟩,
    ⟨S384x1024, spaced (ropes w)⟩, ⟨S384x1024, spaced (turns w)⟩] concatenates_S384x1024_S384x1024_S384x1024_S384x3072_d1) bitsLt_bf16_f32

theorem byHeads_apply (w : FVec Ideal S384x1536 .f32) (e : Fin 384) (h : Fin 8) (d : Fin 192) : byHeads w (ix3 e h d) = w (ix2 e ⟨h.val * 192 + d.val, by omega⟩) := by
  pointwise [byHeads]

theorem ropes_apply (w : FVec Ideal S384x1536 .f32) (e : Fin 384) (h : Fin 8) (d : Fin 64) : ropes w (ix3 e h d) = w (ix2 e ⟨h.val * 192 + (128 + d.val), by omega⟩) := by
  refine Eq.trans ?_ (byHeads_apply w e h ⟨128 + d.val, by omega⟩)
  pointwise [ropes]

theorem turns_apply (w : FVec Ideal S384x1536 .f32) (e : Fin 384) (h : Fin 8) (d : Fin 64) :
    turns w (ix3 e h d) = if hd : d.val < 32 then -ropes w (ix3 e h ⟨32 + d.val, by omega⟩) else ropes w (ix3 e h ⟨d.val - 32, by omega⟩) := by
  pointwise [turns]

theorem spaced_apply (y : FVec Ideal S384x8x64 .f32) (e : Fin 384) (k : Fin 1024) :
    spaced y (ix2 e k) = if h : k.val % 128 < 64 then y (ix3 e ⟨k.val / 128, by omega⟩ ⟨k.val % 128, h⟩) else 0 := by
  pointwise [spaced]
  by_cases h : k.val % 128 < 64
  · rw [dif_pos h]
    exact dif_pos ⟨by omega, h⟩
  · rw [dif_neg h]
    exact (dif_neg fun h' => h h'.2).trans sitofp_zero

theorem laid_nope (w : FVec Ideal S384x1536 .f32) (e : Fin 384) (k : Fin 1024) :
    laid w (ix2 e ⟨k.val, by omega⟩) = w (ix2 e ⟨k.val / 128 * 192 + k.val % 128, by omega⟩) := by
  pointwise [laid, byHeads]

theorem laid_rope (w : FVec Ideal S384x1536 .f32) (e : Fin 384) (k : Fin 1024) : laid w (ix2 e ⟨1024 + k.val, by omega⟩) = spaced (ropes w) (ix2 e k) := by
  pointwise [laid]

theorem laid_turn (w : FVec Ideal S384x1536 .f32) (e : Fin 384) (k : Fin 1024) : laid w (ix2 e ⟨2048 + k.val, by omega⟩) = spaced (turns w) (ix2 e k) := by
  pointwise [laid]
  rw [dif_neg (show ¬ 2048 + k.val < 1024 by omega), dif_neg (show ¬ 2048 + k.val - 1024 < 1024 by omega)]
  exact congrArg (spaced (turns w)) (congrArg (ix2 e) (Fin.ext (show 2048 + k.val - 1024 - 1024 = k.val by omega)))

/-- The rotation's angles. -/
def angles : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1 (Host.divf (broadcastInDim S32 ![] bcast_S_S32 (constant S_ .f32 0x3F800000#32))
      (Host.powf (broadcastInDim S32 ![] bcast_S_S32 (constant S_ .f32 0x461C4000#32)) (Host.divf (addf (broadcastInDim S32 ![] bcast_S_S32 (constant S_ .f32 0x00000000#32))
        (mulf (broadcastInDim S32 ![] bcast_S_S32 (constant S_ .f32 0x40000000#32)) (sitofp .f32 (iotaInDim S32 32 0)))) (broadcastInDim S32 ![] bcast_S_S32 (constant S_ .f32 0x42800000#32)))))))

/-- A table's columns twice, zeros behind them. -/
def twice (T : FVec Ideal S2048x32 .f32) : FVec Ideal S2048x128 .f32 :=
  concatenate S2048x128 1 [⟨S2048x32, T⟩, ⟨S2048x32, T⟩, ⟨S2048x64, (broadcastInDim S2048x64 ![] bcast_S_S2048x64 (constant S_ .f32 0x00000000#32) : FVec Ideal S2048x64 .f32)⟩]
    concatenates_S2048x32_S2048x32_S2048x64_S2048x128_d1

theorem twice_low (T : FVec Ideal S2048x32 .f32) (t : Fin 2048) (d : Fin 128) (h : d.val < 64) : twice T (ix2 t d) = T (ix2 t ⟨d.val % 32, by omega⟩) := by
  pointwise [twice]
  by_cases h' : d.val < 32
  · exact (dif_pos h').trans (congrArg T (congrArg (ix2 t) (Fin.ext (show d.val = d.val % 32 by omega))))
  · rw [dif_neg h', dif_pos (show d.val - 32 < 32 by omega)]
    exact congrArg T (congrArg (ix2 t) (Fin.ext (show d.val - 32 = d.val % 32 by omega)))

variable (m : (ℓ : Loc nD τ sig) → Buf (Elt Ideal) ℓ) (c : Dev nD)

theorem V_qn : V m c main_v39 = shapeCast S1x384 (m ((c : Thread nD τ).loc main_arg5)) shapeCasts_S384_S1x384 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, TRef.binary, TRef.unary, TRef.toBuf, TRef.ofBuf, cast_eq]
  after_results_simp
  rfl

theorem V_q : V m c main_v53 = laid (m ((c : Thread nD τ).loc main_arg6)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, TRef.binary, TRef.unary, TRef.toBuf, TRef.ofBuf, cast_eq]
  after_results_simp
  rfl

theorem V_cos : V m c main_v34 = twice (Host.cos angles) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, TRef.binary, TRef.unary, TRef.toBuf, TRef.ofBuf, cast_eq]
  after_results_simp
  rfl

theorem V_sin : V m c main_v35 = twice (Host.sin angles) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, TRef.binary, TRef.unary, TRef.toBuf, TRef.ofBuf, cast_eq]
  after_results_simp
  rfl

end Cert.Proj

end
-- ==== Proof.QkRef.lean ====
module

public import proofs.«01_k».proof.Proof.ProjRef
public import proofs.«01_k».proof.Proof.QkTile

@[expose] public section

set_option maxRecDepth 16384

/-! The reference's queries and keys, read at each token and column. -/

noncomputable section

namespace Cert.Proj

open Idealize.ShloMosaic Idealize.ShloMosaic.TcCoe Idealize.SL.Sem Idealize.ShloMosaic.StableHlo
open Cert.Attn (Sh2 Sh1)
open scoped BigOperators

open Cert.Reference6Ideal Cert.Reference6Ideal.Gen

/-- The queries' latent's columns, and the keys' columns that are rotated. -/
def refG (p : FVec Ideal S8x2048x3280 .f32) : FVec Ideal S8x2048x384 .f32 :=
  extractStridedSlice S8x2048x384 ![0, 0, 2576] p slices_S8x2048x3280_S8x2048x384_0_0_2576
def refE (p : FVec Ideal S8x2048x3280 .f32) : FVec Ideal S8x2048x64 .f32 :=
  extractStridedSlice S8x2048x64 ![0, 0, 3216] p slices_S8x2048x3280_S8x2048x64_0_0_3216

theorem refG_apply (p : FVec Ideal S8x2048x3280 .f32) (b : Fin 8) (t : Fin 2048) (e : Fin 384) : refG p (ix3 b t e) = p (ix3 b t ⟨2576 + e.val, by omega⟩) := by
  pointwise [refG]

theorem refE_apply (p : FVec Ideal S8x2048x3280 .f32) (b : Fin 8) (t : Fin 2048) (e : Fin 64) : refE p (ix3 b t e) = p (ix3 b t ⟨3216 + e.val, by omega⟩) := by
  pointwise [refE]

/-- The normalised latent's product with the queries' weights. -/
def refU (y : FVec Ideal S8x2048x384 .f32) (g : FVec Ideal S384 .f32) (u : FVec Ideal S384x1536 .f32) : FVec Ideal S8x2048x1536 .f32 :=
  Host.dotGeneral dot_S8x2048x384_S384x1536_S8x2048x1536_2_0_01_1_n_n none
    (mulf (mulf y (broadcastInDim S8x2048x384 ![0, 1, 2] bcast_S8x2048x1_S8x2048x384_0_1_2 (Host.rsqrt (addf (Host.divf (broadcastInDim S8x2048x1 ![0, 1] bcast_S8x2048_S8x2048x1_0_1 (Host.reduceAdd (mulf y y) (constant S_ .f32 0x00000000#32) reducesTo_S8x2048x384_S8x2048_d2 h_S_)) (broadcastInDim S8x2048x1 ![] bcast_S_S8x2048x1 (constant S_ .f32 0x43C00000#32)))
      (broadcastInDim S8x2048x1 ![] bcast_S_S8x2048x1 (constant S_ .f32 0x3727C5AC#32))))))
    (broadcastInDim S8x2048x384 ![0, 1, 2] bcast_S1x1x384_S8x2048x384_0_1_2 (broadcastInDim S1x1x384 ![2] bcast_S384_S1x1x384_2 g))) u

theorem refU_apply (y : FVec Ideal S8x2048x384 .f32) (g : FVec Ideal S384 .f32) (u : FVec Ideal S384x1536 .f32) (b : Fin 8) (t : Fin 2048) (k : Fin 1536) :
    refU y g u (ix3 b t k) = query (fun e => y (ix3 b t e)) (fun e => g (ix1 e)) (fun e => u (ix2 e k)) := by
  pointwise [refU]
  rfl

/-- The product by heads. -/
def refH (q : FVec Ideal S8x2048x1536 .f32) : FVec Ideal S8x2048x8x192 .f32 := shapeCast _ q shapeCasts_S8x2048x1536_S8x2048x8x192

theorem refH_apply (q : FVec Ideal S8x2048x1536 .f32) (b : Fin 8) (t : Fin 2048) (h : Fin 8) (d : Fin 192) :
    refH q (ix4 b t h d) = q (ix3 b t ⟨h.val * 192 + d.val, by omega⟩) := by
  pointwise [refH]

/-- A table beside every head of every token, and beside every token. -/
def beside (T : FVec Ideal S2048x32 .f32) : FVec Ideal S8x2048x8x32 .f32 :=
  broadcastInDim S8x2048x8x32 ![0, 1, 2, 3] bcast_S1x2048x1x32_S8x2048x8x32_0_1_2_3 (broadcastInDim S1x2048x1x32 ![1, 2, 3] bcast_S2048x1x32_S1x2048x1x32_1_2_3 (broadcastInDim S2048x1x32 ![0, 2] bcast_S2048x32_S2048x1x32_0_2 T))
def along (T : FVec Ideal S2048x32 .f32) : FVec Ideal S8x2048x32 .f32 :=
  broadcastInDim S8x2048x32 ![0, 1, 2] bcast_S1x2048x32_S8x2048x32_0_1_2 (broadcastInDim S1x2048x32 ![1, 2] bcast_S2048x32_S1x2048x32_1_2 T)

theorem beside_apply (T : FVec Ideal S2048x32 .f32) (b : Fin 8) (t : Fin 2048) (h : Fin 8) (d : Fin 32) : beside T (ix4 b t h d) = T (ix2 t d) := by
  pointwise [beside]

theorem along_apply (T : FVec Ideal S2048x32 .f32) (b : Fin 8) (t : Fin 2048) (d : Fin 32) : along T (ix3 b t d) = T (ix2 t d) := by
  pointwise [along]

/-- A column of two halves, rotated by the angle of its place. -/
def rotated (y : Fin 64 → EReal) (C S : Fin 32 → EReal) (d : Fin 64) : EReal :=
  if h : d.val < 32 then y ⟨d.val, by omega⟩ * C ⟨d.val, h⟩ - y ⟨32 + d.val, by omega⟩ * S ⟨d.val, h⟩
  else y ⟨32 + (d.val - 32), by omega⟩ * C ⟨d.val - 32, by omega⟩ + y ⟨d.val - 32, by omega⟩ * S ⟨d.val - 32, by omega⟩

/-- The rotation of the heads' last columns. -/
def refR (y : FVec Ideal S8x2048x8x64 .f32) (C S : FVec Ideal S2048x32 .f32) : FVec Ideal S8x2048x8x64 .f32 :=
  concatenate S8x2048x8x64 3 [⟨S8x2048x8x32, (subf (mulf (extractStridedSlice S8x2048x8x32 ![0, 0, 0, 0] y slices_S8x2048x8x64_S8x2048x8x32_0_0_0_0) (beside C)) (mulf (extractStridedSlice S8x2048x8x32 ![0, 0, 0, 32] y slices_S8x2048x8x64_S8x2048x8x32_0_0_0_32) (beside S)) : FVec Ideal S8x2048x8x32 .f32)⟩,
    ⟨S8x2048x8x32, (addf (mulf (extractStridedSlice S8x2048x8x32 ![0, 0, 0, 32] y slices_S8x2048x8x64_S8x2048x8x32_0_0_0_32) (beside C)) (mulf (extractStridedSlice S8x2048x8x32 ![0, 0, 0, 0] y slices_S8x2048x8x64_S8x2048x8x32_0_0_0_0) (beside S)) : FVec Ideal S8x2048x8x32 .f32)⟩]
    concatenates_S8x2048x8x32_S8x2048x8x32_S8x2048x8x64_d3

theorem refR_apply (y : FVec Ideal S8x2048x8x64 .f32) (C S : FVec Ideal S2048x32 .f32) (b : Fin 8) (t : Fin 2048) (h : Fin 8) (d : Fin 64) :
    refR y C S (ix4 b t h d) = rotated (fun d => y (ix4 b t h d)) (fun d => C (ix2 t d)) (fun d => S (ix2 t d)) d := by
  pointwise [refR, beside, rotated]

/-- The rotation of the keys' columns. -/
def refT (y : FVec Ideal S8x2048x64 .f32) (C S : FVec Ideal S2048x32 .f32) : FVec Ideal S8x2048x64 .f32 :=
  concatenate S8x2048x64 2 [⟨S8x2048x32, (subf (mulf (extractStridedSlice S8x2048x32 ![0, 0, 0] y slices_S8x2048x64_S8x2048x32_0_0_0) (along C)) (mulf (extractStridedSlice S8x2048x32 ![0, 0, 32] y slices_S8x2048x64_S8x2048x32_0_0_32) (along S)) : FVec Ideal S8x2048x32 .f32)⟩,
    ⟨S8x2048x32, (addf (mulf (extractStridedSlice S8x2048x32 ![0, 0, 32] y slices_S8x2048x64_S8x2048x32_0_0_32) (along C)) (mulf (extractStridedSlice S8x2048x32 ![0, 0, 0] y slices_S8x2048x64_S8x2048x32_0_0_0) (along S)) : FVec Ideal S8x2048x32 .f32)⟩]
    concatenates_S8x2048x32_S8x2048x32_S8x2048x64_d2

theorem refT_apply (y : FVec Ideal S8x2048x64 .f32) (C S : FVec Ideal S2048x32 .f32) (b : Fin 8) (t : Fin 2048) (d : Fin 64) :
    refT y C S (ix3 b t d) = rotated (fun d => y (ix3 b t d)) (fun d => C (ix2 t d)) (fun d => S (ix2 t d)) d := by
  pointwise [refT, along, rotated]

/-- The heads' queries before and with their rotated columns, and with the scores' factor. -/
def refF (H : FVec Ideal S8x2048x8x192 .f32) (C S : FVec Ideal S2048x32 .f32) : FVec Ideal S8x2048x8x192 .f32 :=
  mulf (concatenate S8x2048x8x192 3 [⟨S8x2048x8x128, (extractStridedSlice S8x2048x8x128 ![0, 0, 0, 0] H slices_S8x2048x8x192_S8x2048x8x128_0_0_0_0 : FVec Ideal S8x2048x8x128 .f32)⟩,
    ⟨S8x2048x8x64, refR (extractStridedSlice S8x2048x8x64 ![0, 0, 0, 128] H slices_S8x2048x8x192_S8x2048x8x64_0_0_0_128) C S⟩] concatenates_S8x2048x8x128_S8x2048x8x64_S8x2048x8x192_d3)
    (broadcastInDim S8x2048x8x192 ![] bcast_S_S8x2048x8x192 (constant S_ .f32 0x3DD53B95#32))

theorem refF_nope (H : FVec Ideal S8x2048x8x192 .f32) (C S : FVec Ideal S2048x32 .f32) (b : Fin 8) (t : Fin 2048) (h : Fin 8) (d : Fin 192) (hd : d.val < 128) :
    refF H C S (ix4 b t h d) = H (ix4 b t h d) * factor := by
  pointwise [refF]
  rw [dif_pos hd]
  rfl

theorem refF_rope (H : FVec Ideal S8x2048x8x192 .f32) (C S : FVec Ideal S2048x32 .f32) (b : Fin 8) (t : Fin 2048) (h : Fin 8) (d : Fin 64) :
    refF H C S (ix4 b t h ⟨128 + d.val, by omega⟩)
      = rotated (fun d => H (ix4 b t h ⟨128 + d.val, by omega⟩)) (fun d => C (ix2 t d)) (fun d => S (ix2 t d)) d * factor := by
  pointwise [refF]
  refine congrArg (fun a : EReal => a * factor) ((refR_apply _ C S b t h d).trans ?_)
  refine congrArg (fun y => rotated y _ _ d) (funext fun d => ?_)
  pointwise

/-- The heads' keys before their rotated columns. -/
def refJ (l : FVec Ideal S8x2048x2048 .f32) (P : FVec Ideal S8x2048x64 .f32) : FVec Ideal S8x2048x8x192 .f32 :=
  concatenate S8x2048x8x192 3 [⟨S8x2048x8x128, (extractStridedSlice S8x2048x8x128 ![0, 0, 0, 0] (shapeCast _ l shapeCasts_S8x2048x2048_S8x2048x8x256) slices_S8x2048x8x256_S8x2048x8x128_0_0_0_0 : FVec Ideal S8x2048x8x128 .f32)⟩,
    ⟨S8x2048x8x64, (broadcastInDim S8x2048x8x64 ![0, 1, 2, 3] bcast_S8x2048x1x64_S8x2048x8x64_0_1_2_3 (broadcastInDim S8x2048x1x64 ![0, 1, 3] bcast_S8x2048x64_S8x2048x1x64_0_1_3 P) : FVec Ideal S8x2048x8x64 .f32)⟩]
    concatenates_S8x2048x8x128_S8x2048x8x64_S8x2048x8x192_d3

theorem refJ_nope (l : FVec Ideal S8x2048x2048 .f32) (P : FVec Ideal S8x2048x64 .f32) (b : Fin 8) (t : Fin 2048) (h : Fin 8) (d : Fin 192) (hd : d.val < 128) :
    refJ l P (ix4 b t h d) = l (ix3 b t ⟨h.val * 256 + d.val, by omega⟩) := by
  pointwise [refJ]
  exact dif_pos hd

theorem refJ_rope (l : FVec Ideal S8x2048x2048 .f32) (P : FVec Ideal S8x2048x64 .f32) (b : Fin 8) (t : Fin 2048) (h : Fin 8) (d : Fin 64) :
    refJ l P (ix4 b t h ⟨128 + d.val, by omega⟩) = P (ix3 b t d) := by
  pointwise [refJ]

/-- Heads of 192 columns as a matrix, 64 zeros behind each. -/
def refS (y : FVec Ideal S8x2048x8x192 .f32) : FVec Ideal S16384x2048 .bf16 :=
  truncf .bf16 (shapeCast _ (pad S8x2048x8x256 ![0, 0, 0, 0] ![0, 0, 0, 64] ![0, 0, 0, 0] y (sitofp .f32 (constantI S_ 32 0#32)) pads_S8x2048x8x192_S8x2048x8x256_000_000_000_0640 h_S_) shapeCasts_S8x2048x8x256_S16384x2048) bitsLt_bf16_f32

theorem refS_keep (y : FVec Ideal S8x2048x8x192 .f32) (R : Fin 16384) (k : Fin 2048) (h : k.val % 256 < 192) :
    refS y (ix2 R k) = y (ix4 ⟨R.val / 2048, by omega⟩ ⟨R.val % 2048, by omega⟩ ⟨k.val / 256, by omega⟩ ⟨k.val % 256, h⟩) := by
  pointwise [refS]
  exact dif_pos ⟨by omega, by omega, by omega, h⟩

theorem refS_zero (y : FVec Ideal S8x2048x8x192 .f32) (R : Fin 16384) (k : Fin 2048) (h : 192 ≤ k.val % 256) : refS y (ix2 R k) = 0 := by
  pointwise [refS]
  exact (dif_neg (by omega)).trans sitofp_zero

end Cert.Proj

end
-- ==== Proof.QkReal.lean ====
module

public import proofs.«01_k».proof.Proof.Equation
public import proofs.«01_k».proof.Proof.QkTile

@[expose] public section

/-! Sums of finite extended reals: the sign of every summand may be taken out. -/

noncomputable section

namespace Cert.Proj

open Idealize.ShloMosaic
open scoped BigOperators

/-- A finite extended real. -/
def Finite (x : EReal) : Prop := ∃ r : ℝ, x = (r : EReal)

theorem Finite.add {x y : EReal} (hx : Finite x) (hy : Finite y) : Finite (x + y) := by
  obtain ⟨a, rfl⟩ := hx
  obtain ⟨b, rfl⟩ := hy
  exact ⟨a + b, rfl⟩

theorem Finite.mul {x y : EReal} (hx : Finite x) (hy : Finite y) : Finite (x * y) := by
  obtain ⟨a, rfl⟩ := hx
  obtain ⟨b, rfl⟩ := hy
  exact ⟨a * b, rfl⟩

theorem Finite.sum {ι : Type} [Fintype ι] {f : ι → EReal} (h : ∀ i, Finite (f i)) : Finite (∑ i, f i) := by
  choose r hr using h
  exact ⟨∑ i, r i, (Finset.sum_congr rfl fun i _ => hr i).trans (Cert.Attn.sum_real Finset.univ r)⟩

theorem finite_one : Finite 1 := ⟨1, rfl⟩

/-- The sign of a product's second factors may be taken out of a sum of finite products. -/
theorem sum_neg {ι : Type} [Fintype ι] (f g : ι → EReal) (h : ∀ i, Finite (f i * g i)) : ∑ i, f i * -g i = -∑ i, f i * g i := by
  choose r hr using h
  have e : ∑ i, f i * -g i = ((∑ i, -r i : ℝ) : EReal) := by
    refine (Finset.sum_congr rfl fun i _ => ?_).trans (Cert.Attn.sum_real Finset.univ fun i => -r i)
    rw [mul_neg, hr i, EReal.coe_neg]
  rw [e, Finset.sum_congr rfl fun i _ => hr i, Cert.Attn.sum_real, Finset.sum_neg_distrib, EReal.coe_neg]

/-- A normalisation's factor of a finite row is finite: the mean of squares is not negative, and what is added to it is positive. -/
theorem finite_norm {n : ℕ} (y : Fin n → EReal) (hy : ∀ e, Finite (y e)) (a b : EReal) (ha : ∃ r : ℝ, 0 < r ∧ a = (r : EReal)) (hb : ∃ r : ℝ, 0 < r ∧ b = (r : EReal)) :
    Finite (Ideal.rsqrt (Ideal.div (∑ d, y d * y d) a + b)) := by
  choose r hr using hy
  obtain ⟨a, ha, rfl⟩ := ha
  obtain ⟨b, hb, rfl⟩ := hb
  have e : ∑ d, y d * y d = ((∑ d, r d * r d : ℝ) : EReal) :=
    (Finset.sum_congr rfl fun d _ => by rw [hr d, EReal.coe_mul]).trans (Cert.Attn.sum_real Finset.univ fun d => r d * r d)
  have hs : 0 ≤ ∑ d, r d * r d := Finset.sum_nonneg fun d _ => mul_self_nonneg _
  have hp : 0 < (∑ d, r d * r d) * (1 / a) + b := add_pos_of_nonneg_of_pos (mul_nonneg hs (one_div_nonneg.mpr ha.le)) hb
  rw [e, Ideal.div_coe ha.ne', ← EReal.coe_mul, ← EReal.coe_add, Ideal.rsqrt_coe, if_neg (not_lt.mpr hp.le), if_neg hp.ne']
  exact ⟨_, rfl⟩

theorem count_bits : ∃ r : ℝ, 0 < r ∧ Ideal.ofBits .f32 0x43C00000#32 = (r : EReal) := by
  refine ⟨384, by norm_num, ?_⟩
  simp [Ideal.ofBits, Ideal.ieee, -EReal.coe_mul]
  norm_num

theorem eps_bits : ∃ r : ℝ, 0 < r ∧ Ideal.ofBits .f32 0x3727C5AC#32 = (r : EReal) := by
  refine ⟨10995116 / 2 ^ 40, by norm_num, ?_⟩
  simp [Ideal.ofBits, Ideal.ieee, -EReal.coe_mul]
  norm_num

/-- The queries' product with the weights' signs reversed. -/
theorem query_neg (y g w : Fin 384 → EReal) (hy : ∀ e, Finite (y e)) (hg : ∀ e, Finite (g e)) (hw : ∀ e, Finite (w e)) :
    query y g (fun e => -w e) = -query y g w :=
  sum_neg _ w fun e => ((hy e).mul (finite_norm y hy _ _ count_bits eps_bits)).mul (hg e) |>.mul (hw e)

/-- Weights that are zero leave nothing. -/
theorem query_zero (y g : Fin 384 → EReal) : query y g (fun _ => 0) = 0 :=
  Finset.sum_eq_zero fun _ _ => mul_zero _

end Cert.Proj

end
-- ==== Proof.QkEquation.lean ====
module

public import proofs.«01_k».proof.Proof.QkArray
public import proofs.«01_k».proof.Proof.QkHost
public import proofs.«01_k».proof.Proof.QkRef
public import proofs.«01_k».proof.Proof.QkReal
public import proofs.«01_k».proof.Proof.ProjEquation
public import proofs.«01_k».proof.Proof.Gen.Pre_finite_projection

@[expose] public section

set_option maxRecDepth 16384

/-! The queries and keys that the first projection leaves are the reference's, over finite arguments: a negated weight's
product is then the negated product. -/

noncomputable section

namespace Cert.Proj

open Idealize.ShloMosaic Idealize.ShloMosaic.TcCoe Idealize.SL.Sem Idealize.ShloMosaic.StableHlo
open Cert.Attn (Sh2 Sh1)
open Cert.Ffn (Sh3)
open scoped BigOperators

/-- A head's column, among 256 columns a head. -/
abbrev col (h : Fin 8) (s : ℕ) (hs : s < 256) : Fin 2048 := ⟨h.val * 256 + s, by omega⟩

/-- A column is one of a head's first 128, one of the 64 rotated behind them, or one of the last 64. -/
theorem col_cases (k : Fin 2048) :
    (∃ (h : Fin 8) (d : Fin 128), k = col h d.val (by omega)) ∨ (∃ (h : Fin 8) (d : Fin 64), k = col h (128 + d.val) (by omega))
      ∨ ∃ (h : Fin 8) (d : Fin 64), k = col h (128 + (64 + d.val)) (by omega) := by
  have hk := k.isLt
  by_cases h1 : k.val % 256 < 128
  · exact .inl ⟨⟨k.val / 256, by omega⟩, ⟨k.val % 256, h1⟩, Fin.ext (show k.val = k.val / 256 * 256 + k.val % 256 by omega)⟩
  · by_cases h2 : k.val % 256 < 192
    · exact .inr (.inl ⟨⟨k.val / 256, by omega⟩, ⟨k.val % 256 - 128, by omega⟩, Fin.ext (show k.val = k.val / 256 * 256 + (128 + (k.val % 256 - 128)) by omega)⟩)
    · exact .inr (.inr ⟨⟨k.val / 256, by omega⟩, ⟨k.val % 256 - 192, by omega⟩, Fin.ext (show k.val = k.val / 256 * 256 + (128 + (64 + (k.val % 256 - 192))) by omega)⟩)

theorem queryAt_nope (Q : Fin 3072 → EReal) (C S : Fin 128 → EReal) (h : Fin 8) (d : Fin 128) :
    queryAt Q C S (col h d.val (by omega)) = Q ⟨h.val * 128 + d.val, by omega⟩ * factor := by
  unfold queryAt
  rw [if_pos (show (h.val * 256 + d.val) % 256 < 128 by omega)]
  exact congrArg (fun j => Q j * factor) (Fin.ext (show (h.val * 256 + d.val) / 256 * 128 + (h.val * 256 + d.val) % 128 = h.val * 128 + d.val by omega))

theorem queryAt_rope (Q : Fin 3072 → EReal) (C S : Fin 128 → EReal) (h : Fin 8) (d : Fin 128) :
    queryAt Q C S (col h (128 + d.val) (by omega)) = (Q ⟨1024 + (h.val * 128 + d.val), by omega⟩ * C d + Q ⟨2048 + (h.val * 128 + d.val), by omega⟩ * S d) * factor := by
  unfold queryAt
  have hd : (⟨(h.val * 256 + (128 + d.val)) % 128, by omega⟩ : Fin 128) = d := Fin.ext (show (h.val * 256 + (128 + d.val)) % 128 = d.val by omega)
  have hj : (h.val * 256 + (128 + d.val)) / 256 * 128 + (h.val * 256 + (128 + d.val)) % 128 = h.val * 128 + d.val := by omega
  rw [if_neg (show ¬ (h.val * 256 + (128 + d.val)) % 256 < 128 by omega)]
  refine congrArg (fun a : EReal => a * factor) (congrArg₂ (fun a b : EReal => a + b) (congrArg₂ (fun a b : EReal => a * b) (congrArg Q (Fin.ext ?_)) (congrArg C hd))
    (congrArg₂ (fun a b : EReal => a * b) (congrArg Q (Fin.ext ?_)) (congrArg S hd)))
  · exact congrArg (fun n => 1024 + n) hj
  · exact congrArg (fun n => 2048 + n) hj

theorem keyAt_nope (L : Fin 2048 → EReal) (P : Fin 128 → EReal) (h : Fin 8) (d : Fin 128) :
    keyAt L P (col h d.val (by omega)) = L ⟨h.val * 128 + d.val, by omega⟩ := by
  unfold keyAt
  rw [if_pos (show (h.val * 256 + d.val) % 256 < 128 by omega)]
  exact congrArg L (Fin.ext (show (h.val * 256 + d.val) / 256 * 128 + (h.val * 256 + d.val) % 128 = h.val * 128 + d.val by omega))

theorem keyAt_rope (L : Fin 2048 → EReal) (P : Fin 128 → EReal) (h : Fin 8) (d : Fin 128) : keyAt L P (col h (128 + d.val) (by omega)) = P d := by
  unfold keyAt
  rw [if_neg (show ¬ (h.val * 256 + (128 + d.val)) % 256 < 128 by omega)]
  exact congrArg P (Fin.ext (show (h.val * 256 + (128 + d.val)) % 128 = d.val by omega))

/-- The reference's matrix of heads, by a head's columns. -/
theorem refS_col (y : FVec Ideal Cert.Reference6Ideal.S8x2048x8x192 .f32) (R : Fin 16384) (h : Fin 8) (s : ℕ) (hs : s < 192) :
    refS y (ix2 R (col h s (by omega))) = y (ix4 ⟨R.val / 2048, by omega⟩ ⟨R.val % 2048, by omega⟩ h ⟨s, hs⟩) := by
  have e : (h.val * 256 + s) % 256 = s := by omega
  refine (refS_keep y R (col h s (by omega)) (show (h.val * 256 + s) % 256 < 192 by omega)).trans (congrArg y ?_)
  exact congrArg₂ (fun (a : Fin 8) (b : Fin 192) => ix4 (n0 := 8) (n1 := 2048) ⟨R.val / 2048, by omega⟩ ⟨R.val % 2048, by omega⟩ a b)
    (Fin.ext (show (h.val * 256 + s) / 256 = h.val by omega)) (Fin.ext e)

/-- The queries' weights laid out, by a head's columns. -/
theorem laid_first (w : FVec Ideal (Sh2 384 1536) .f32) (e : Fin 384) (h : Fin 8) (d : Fin 128) :
    laid w (ix2 e ⟨h.val * 128 + d.val, by omega⟩) = w (ix2 e ⟨h.val * 192 + d.val, by omega⟩) := by
  refine (laid_nope w e ⟨h.val * 128 + d.val, by omega⟩).trans (congrArg w (congrArg (ix2 e) (Fin.ext ?_)))
  show (h.val * 128 + d.val) / 128 * 192 + (h.val * 128 + d.val) % 128 = h.val * 192 + d.val
  omega

theorem spaced_head (y : FVec Ideal (Sh3 384 8 64) .f32) (e : Fin 384) (h : Fin 8) (d : Fin 64) :
    spaced y (ix2 e ⟨h.val * 128 + d.val, by omega⟩) = y (ix3 e h d) := by
  refine (spaced_apply y e ⟨h.val * 128 + d.val, by omega⟩).trans ((dif_pos (show (h.val * 128 + d.val) % 128 < 64 by omega)).trans ?_)
  exact congrArg₂ (fun (a : Fin 8) (b : Fin 64) => y (ix3 e a b)) (Fin.ext (show (h.val * 128 + d.val) / 128 = h.val by omega)) (Fin.ext (show (h.val * 128 + d.val) % 128 = d.val by omega))

theorem spaced_tail (y : FVec Ideal (Sh3 384 8 64) .f32) (e : Fin 384) (h : Fin 8) (d : Fin 64) :
    spaced y (ix2 e ⟨h.val * 128 + (64 + d.val), by omega⟩) = 0 :=
  (spaced_apply y e ⟨h.val * 128 + (64 + d.val), by omega⟩).trans (dif_neg (show ¬ (h.val * 128 + (64 + d.val)) % 128 < 64 by omega))

/-- Two products with the tables are the rotation. -/
theorem rotated_eq (y : Fin 64 → EReal) (T U : FVec Ideal (Sh2 2048 32) .f32) (t : Fin 2048) (d : Fin 64) (a b : EReal) (ha : a = y d)
    (hb : b = if h : d.val < 32 then -y ⟨32 + d.val, by omega⟩ else y ⟨d.val - 32, by omega⟩) :
    a * twice T (ix2 t ⟨d.val, by omega⟩) + b * twice U (ix2 t ⟨d.val, by omega⟩) = rotated y (fun e => T (ix2 t e)) (fun e => U (ix2 t e)) d := by
  rw [twice_low T t ⟨d.val, by omega⟩ d.isLt, twice_low U t ⟨d.val, by omega⟩ d.isLt, ha, hb]
  unfold rotated
  by_cases h : d.val < 32
  · have e : (⟨d.val % 32, by omega⟩ : Fin 32) = ⟨d.val, h⟩ := Fin.ext (show d.val % 32 = d.val by omega)
    rw [dif_pos h, dif_pos h, e, neg_mul, sub_eq_add_neg]
  · have e : (⟨d.val % 32, by omega⟩ : Fin 32) = ⟨d.val - 32, by omega⟩ := Fin.ext (show d.val % 32 = d.val - 32 by omega)
    have e' : (⟨32 + (d.val - 32), by omega⟩ : Fin 64) = d := Fin.ext (show 32 + (d.val - 32) = d.val by omega)
    rw [dif_neg h, dif_neg h, e, e']

section
variable (x : FVec Ideal (Sh3 8 2048 1024) .f32) (md : FVec Ideal (Sh2 8 9216) .f32) (w : FVec Ideal (Sh2 1024 3280) .f32) (hx : _) (hm : _)

/-- The modulated tokens and the product are finite when the arguments are. -/
theorem finite_hid (fx : ∀ i, Finite (x i)) (fm : ∀ i, Finite (md i)) (b : Fin 8) (t : Fin 2048) (e : Fin 1024) :
    Finite (x (ix3 b t e) * (1 + md (ix2 b ⟨4096 + e.val, by omega⟩)) + md (ix2 b ⟨3072 + e.val, by omega⟩)) :=
  ((fx _).mul (finite_one.add (fm _))).add (fm _)

theorem finite_cell (fx : ∀ i, Finite (x i)) (fm : ∀ i, Finite (md i)) (fw : ∀ i, Finite (w i)) (b : Fin 8) (t : Fin 2048) (j : Fin 3280) :
    Finite (cell x md w b t j) :=
  Finite.sum fun e => (finite_hid x md fx fm b t e).mul (fw _)

/-- A column of negated weights is the reference's column, negated. -/
theorem prodAt_neg (fx : ∀ i, Finite (x i)) (fm : ∀ i, Finite (md i)) (fw : ∀ i, Finite (w i)) (R : Fin 16384) (j : Fin 3584) (i : Fin 3280)
    (hw : ∀ e, wide w (ix2 e j) = -w (ix2 e i)) :
    prodAt (shapeCast (Sh2 16384 1024) x hx) (shapeCast (Sh3 8 9 1024) md hm) (wide w) R j
      = -cell x md w ⟨R.val / 2048, by omega⟩ ⟨R.val % 2048, by omega⟩ i := by
  refine Eq.trans ?_ (sum_neg (fun e => x (ix3 _ _ e) * (1 + md (ix2 _ ⟨4096 + e.val, by omega⟩)) + md (ix2 _ ⟨3072 + e.val, by omega⟩)) (fun e => w (ix2 e i))
    fun e => (finite_hid x md fx fm _ _ e).mul (fw _))
  unfold prodAt hidAt
  refine Finset.sum_congr rfl fun e _ => ?_
  refine congrArg₂ (fun a b : EReal => a * b) ?_ (hw e)
  refine congrArg₂ (fun a b : EReal => a + b) (congrArg₂ (fun a b : EReal => a * b) (Cert.Ffn.tokens_apply x R e) (congrArg₂ (fun a b : EReal => a + b) Cert.Out.one_bits ?_)) ?_
  · exact Cert.Ffn.modulation_apply md _ 4 e
  · exact Cert.Ffn.modulation_apply md _ 3 e

/-- The heads' products, from the arguments. -/
theorem headAt_args (g : FVec Ideal (Sh1 384) .f32) (u : FVec Ideal (Sh2 384 3072) .bf16) (hg : _) (R : Fin 16384) (j : Fin 3072) :
    headAt (shapeCast (Sh2 16384 1024) x hx) (shapeCast (Sh3 8 9 1024) md hm) (wide w) (shapeCast (Sh2 1 384) g hg) u R j
      = query (fun e => cell x md w ⟨R.val / 2048, by omega⟩ ⟨R.val % 2048, by omega⟩ ⟨2576 + e.val, by omega⟩) (fun e => g (ix1 e)) (fun e => u (ix2 e j)) := by
  unfold headAt
  refine congr (congr (congrArg query (funext fun e => ?_)) (funext fun e => ?_)) rfl
  · refine prodAt_args x md w hx hm R ⟨2688 + e.val, by omega⟩ ⟨2576 + e.val, by omega⟩ fun d => ?_
    refine (wide_mid w d _ (show 2688 ≤ 2688 + e.val by omega) (show 2688 + e.val < 3328 by omega)).trans ?_
    exact congrArg w (congrArg (ix2 d) (Fin.ext (show 2688 + e.val - 112 = 2576 + e.val by omega)))
  · pointwise

/-- The reference's heads' products, from the arguments. -/
theorem refH_args (g : FVec Ideal (Sh1 384) .f32) (u : FVec Ideal (Sh2 384 1536) .f32) (b : Fin 8) (t : Fin 2048) (h : Fin 8) (d : Fin 192) :
    refH (refU (refG (refP x md w)) g u) (ix4 b t h d)
      = query (fun e => cell x md w b t ⟨2576 + e.val, by omega⟩) (fun e => g (ix1 e)) (fun e => u (ix2 e ⟨h.val * 192 + d.val, by omega⟩)) := by
  refine (refH_apply _ b t h d).trans ((refU_apply _ _ _ _ _ _).trans ?_)
  exact congrArg (fun y => query y _ _) (funext fun e => (refG_apply _ _ _ _).trans (refP_apply x md w _ _ _))

/-- The queries' row from the arguments. -/
theorem queryRow_args (g : FVec Ideal (Sh1 384) .f32) (u : FVec Ideal (Sh2 384 1536) .f32) (hg : _) (T U : FVec Ideal (Sh2 2048 32) .f32)
    (fx : ∀ i, Finite (x i)) (fm : ∀ i, Finite (md i)) (fw : ∀ i, Finite (w i)) (fg : ∀ i, Finite (g i)) (fu : ∀ i, Finite (u i)) (R : Fin 16384) (k : Fin 2048) :
    queryRow (shapeCast (Sh2 16384 1024) x hx) (shapeCast (Sh3 8 9 1024) md hm) (wide w) (shapeCast (Sh2 1 384) g hg) (laid u) (twice T) (twice U) R k
      = refS (refF (refH (refU (refG (refP x md w)) g u)) T U) (ix2 R k) := by
  unfold queryRow
  rcases col_cases k with ⟨h, d, rfl⟩ | ⟨h, d, rfl⟩ | ⟨h, d, rfl⟩
  · refine (queryAt_nope _ _ _ h d).trans (Eq.symm ((refS_col _ R h d.val (by omega)).trans ((refF_nope _ T U _ _ h ⟨d.val, by omega⟩ d.isLt).trans ?_)))
    refine congrArg (fun a : EReal => a * factor) ((refH_args x md w g u _ _ h ⟨d.val, by omega⟩).trans (Eq.symm ((headAt_args x md w hx hm g (laid u) hg R _).trans ?_)))
    exact congrArg (fun v => query _ _ v) (funext fun e => laid_first u e h d)
  · refine (queryAt_rope _ _ _ h ⟨d.val, by omega⟩).trans (Eq.symm ((refS_col _ R h (128 + d.val) (by omega)).trans ((refF_rope _ T U _ _ h d).trans ?_)))
    refine congrArg (fun a : EReal => a * factor) (Eq.symm (rotated_eq _ T U _ d _ _ ?_ ?_))
    · refine (headAt_args x md w hx hm g (laid u) hg R _).trans (Eq.symm ((refH_args x md w g u _ _ h ⟨128 + d.val, by omega⟩).trans ?_))
      refine congrArg (fun v => query _ _ v) (funext fun e => Eq.symm ?_)
      exact (laid_rope u e ⟨h.val * 128 + d.val, by omega⟩).trans ((spaced_head _ e h d).trans (ropes_apply u e h d))
    · refine (headAt_args x md w hx hm g (laid u) hg R _).trans ?_
      have ht : ∀ e, laid u (ix2 e ⟨2048 + (h.val * 128 + d.val), by omega⟩) = turns u (ix3 e h d) := fun e =>
        (laid_turn u e ⟨h.val * 128 + d.val, by omega⟩).trans (spaced_head _ e h d)
      by_cases hd : d.val < 32
      · rw [dif_pos hd]
        refine Eq.trans (congrArg (fun v => query _ _ v) (funext fun e => (ht e).trans ((turns_apply u e h d).trans ((dif_pos hd).trans (congrArg (fun a : EReal => -a) (ropes_apply u e h _))))))
          ((query_neg _ _ _ (fun e => finite_cell x md w fx fm fw _ _ _) (fun e => fg _) (fun e => fu _)).trans ?_)
        exact congrArg (fun a : EReal => -a) (refH_args x md w g u _ _ h ⟨128 + (32 + d.val), by omega⟩).symm
      · rw [dif_neg hd]
        refine Eq.trans (congrArg (fun v => query _ _ v) (funext fun e => (ht e).trans ((turns_apply u e h d).trans ((dif_neg hd).trans (ropes_apply u e h _))))) ?_
        exact (refH_args x md w g u _ _ h ⟨128 + (d.val - 32), by omega⟩).symm
  · refine (queryAt_rope _ _ _ h ⟨64 + d.val, by omega⟩).trans (Eq.symm ((refS_zero _ R (col h (128 + (64 + d.val)) (by omega)) (show 192 ≤ (h.val * 256 + (128 + (64 + d.val))) % 256 by omega)).trans (Eq.symm ?_)))
    have h1 := (headAt_args x md w hx hm g (laid u) hg R ⟨1024 + (h.val * 128 + (64 + d.val)), by omega⟩).trans
      ((congrArg (fun v => query _ _ v) (funext fun e => (laid_rope u e ⟨h.val * 128 + (64 + d.val), by omega⟩).trans (spaced_tail _ e h d))).trans (query_zero _ _))
    have h2 := (headAt_args x md w hx hm g (laid u) hg R ⟨2048 + (h.val * 128 + (64 + d.val)), by omega⟩).trans
      ((congrArg (fun v => query _ _ v) (funext fun e => (laid_turn u e ⟨h.val * 128 + (64 + d.val), by omega⟩).trans (spaced_tail _ e h d))).trans (query_zero _ _))
    refine (congrArg (fun a : EReal => a * factor) (congrArg₂ (fun a b : EReal => a * _ + b * _) h1 h2)).trans ?_
    rw [zero_mul, zero_mul, add_zero, zero_mul]

/-- The keys' row from the arguments. -/
theorem keyRow_args (g : FVec Ideal (Sh1 256) .f32) (u : FVec Ideal (Sh2 256 2048) .f32) (hg : _) (T U : FVec Ideal (Sh2 2048 32) .f32)
    (fx : ∀ i, Finite (x i)) (fm : ∀ i, Finite (md i)) (fw : ∀ i, Finite (w i)) (R : Fin 16384) (k : Fin 2048) :
    keyRow (shapeCast (Sh2 16384 1024) x hx) (shapeCast (Sh3 8 9 1024) md hm) (wide w) (shapeCast (Sh2 1 256) g hg) (heads u) (twice T) (twice U) R k
      = refS (refJ (refL (refC (refP x md w)) g u) (refT (refE (refP x md w)) T U)) (ix2 R k) := by
  unfold keyRow
  rcases col_cases k with ⟨h, d, rfl⟩ | ⟨h, d, rfl⟩ | ⟨h, d, rfl⟩
  · refine (keyAt_nope _ _ h d).trans (Eq.symm ((refS_col _ R h d.val (by omega)).trans ((refJ_nope _ _ _ _ h ⟨d.val, by omega⟩ d.isLt).trans ((refL_apply _ _ _ _ _ _).trans ?_))))
    unfold valueAt
    refine congr (congr (congrArg latent (funext fun e => ?_)) (funext fun e => ?_)) (funext fun e => Eq.symm ?_)
    · refine (refC_apply _ _ _ _).trans ((refP_apply x md w _ _ _).trans ?_)
      refine (prodAt_args x md w hx hm R ⟨3072 + e.val, by omega⟩ ⟨2960 + e.val, by omega⟩ fun d => ?_).symm
      refine (wide_mid w d _ (show 2688 ≤ 3072 + e.val by omega) (show 3072 + e.val < 3328 by omega)).trans ?_
      exact congrArg w (congrArg (ix2 d) (Fin.ext (show 3072 + e.val - 112 = 2960 + e.val by omega)))
    · have hc : shapeCast (Sh2 1 256) g hg (ix2 0 e) = g (ix1 e) := by pointwise
      exact hc.symm
    · refine (heads_key u e ⟨h.val * 128 + d.val, by omega⟩).trans (congrArg u (congrArg (ix2 e) (Fin.ext ?_)))
      show (h.val * 128 + d.val) / 128 * 256 + (h.val * 128 + d.val) % 128 = h.val * 256 + d.val
      omega
  · refine (keyAt_rope _ _ h ⟨d.val, by omega⟩).trans (Eq.symm ((refS_col _ R h (128 + d.val) (by omega)).trans ((refJ_rope _ _ _ _ h d).trans ((refT_apply _ T U _ _ d).trans ?_))))
    have hy : ∀ (b : Fin 8) (t : Fin 2048) (e : Fin 64), refE (refP x md w) (ix3 b t e) = cell x md w b t ⟨3216 + e.val, by omega⟩ := fun b t e =>
      (refE_apply _ b t e).trans (refP_apply x md w _ _ _)
    refine Eq.symm (rotated_eq _ T U _ d _ _ ?_ ?_)
    · refine (prodAt_args x md w hx hm R ⟨3328 + d.val, by omega⟩ ⟨3216 + d.val, by omega⟩ fun e => ?_).trans (hy _ _ d).symm
      exact (wide_rope w e ⟨d.val, by omega⟩).trans (dif_pos d.isLt)
    · have ht : ∀ e, wide w (ix2 e ⟨3456 + d.val, by omega⟩) = turned w (ix2 e d) := fun e => (wide_turned w e ⟨d.val, by omega⟩).trans (dif_pos d.isLt)
      by_cases hd : d.val < 32
      · rw [dif_pos hd]
        refine (prodAt_neg x md w hx hm fx fm fw R ⟨3456 + d.val, by omega⟩ ⟨3248 + d.val, by omega⟩ fun e => (ht e).trans ((turned_apply w e d).trans (dif_pos hd))).trans ?_
        refine congrArg (fun a : EReal => -a) (Eq.symm ((hy _ _ ⟨32 + d.val, by omega⟩).trans (congrArg (cell x md w _ _) (Fin.ext ?_))))
        show 3216 + (32 + d.val) = 3248 + d.val
        omega
      · rw [dif_neg hd]
        refine (prodAt_args x md w hx hm R ⟨3456 + d.val, by omega⟩ ⟨3184 + d.val, by omega⟩ fun e => (ht e).trans ((turned_apply w e d).trans (dif_neg hd))).trans ?_
        refine Eq.symm ((hy _ _ ⟨d.val - 32, by omega⟩).trans (congrArg (cell x md w _ _) (Fin.ext ?_)))
        show 3216 + (d.val - 32) = 3184 + d.val
        omega
  · refine (keyAt_rope _ _ h ⟨64 + d.val, by omega⟩).trans (Eq.symm ((refS_zero _ R (col h (128 + (64 + d.val)) (by omega)) (show 192 ≤ (h.val * 256 + (128 + (64 + d.val))) % 256 by omega)).trans (Eq.symm ?_)))
    unfold ropeAt
    have h1 := prodAt_zero w (shapeCast (Sh2 16384 1024) x hx) (shapeCast (Sh3 8 9 1024) md hm) R ⟨3328 + (64 + d.val), by omega⟩ fun e =>
      (wide_rope w e ⟨64 + d.val, by omega⟩).trans (dif_neg (show ¬ 64 + d.val < 64 by omega))
    have h2 := prodAt_zero w (shapeCast (Sh2 16384 1024) x hx) (shapeCast (Sh3 8 9 1024) md hm) R ⟨3456 + (64 + d.val), by omega⟩ fun e =>
      (wide_turned w e ⟨64 + d.val, by omega⟩).trans (dif_neg (show ¬ 64 + d.val < 64 by omega))
    refine (congrArg₂ (fun a b : EReal => a * _ + b * _) h1 h2).trans ?_
    rw [zero_mul, zero_mul, add_zero]

end

section
variable (m : (ℓ : Loc Cert.Kernel6Ideal.nD Cert.Kernel6Ideal.τ Cert.Kernel6Ideal.sig) → Buf (Elt Ideal) ℓ) (c : Dev Cert.Kernel6Ideal.nD)
  (m' : (ℓ : Loc Cert.Reference6Ideal.nD Cert.Reference6Ideal.τ Cert.Reference6Ideal.sig) → Buf (Elt Ideal) ℓ)

/-- The arguments the queries and keys are computed from, finite. -/
structure Reals : Prop where
  x : ∀ i, Finite (m ((c.tc : Thread Cert.Kernel6Ideal.nD Cert.Kernel6Ideal.τ).loc Cert.Kernel6Ideal.main_arg0) i)
  md : ∀ i, Finite (m ((c.tc : Thread Cert.Kernel6Ideal.nD Cert.Kernel6Ideal.τ).loc Cert.Kernel6Ideal.main_arg1) i)
  w : ∀ i, Finite (m ((c.tc : Thread Cert.Kernel6Ideal.nD Cert.Kernel6Ideal.τ).loc Cert.Kernel6Ideal.main_arg2) i)
  g : ∀ i, Finite (m ((c.tc : Thread Cert.Kernel6Ideal.nD Cert.Kernel6Ideal.τ).loc Cert.Kernel6Ideal.main_arg5) i)
  u : ∀ i, Finite (m ((c.tc : Thread Cert.Kernel6Ideal.nD Cert.Kernel6Ideal.τ).loc Cert.Kernel6Ideal.main_arg6) i)

/-- Entries whose absolute values are below infinity are finite. -/
theorem finite_of_below {sh : Shape} (x : FVec Ideal sh .f32) (hb : _)
    (h : cmpf .olt (Host.absf x) (broadcastInDim sh ![] hb (constant Cert.Pre_finite_projection.S_ .f32 0x7F800000#32)) = fun _ => 1#1) (i : sh.Idx) : Finite (x i) := by
  have h1 := congrFun h i
  have e : Ideal.ofBits .f32 0x7F800000#32 = ⊤ := by simp [Ideal.ofBits, Ideal.ieee]
  apply Cert.Attn.real_of_abs_lt
  by_contra hc
  have h2 : Ideal.cmp .olt (max (x i) (-(x i))) (Ideal.ofBits .f32 0x7F800000#32) = 1#1 := h1
  simp only [Ideal.cmp, e, decide_eq_false hc] at h2
  exact absurd h2 (by decide)

/-- The precondition: the arguments are finite. -/
theorem reals_of_pre (h : Cert.Pre_Kernel6Ideal_finite_projection (hPre_finite_projection := Cert.Pre_finite_projection.Gen.facts) m) : Reals m c := by
  obtain ⟨h0, h1, h2, h5, h6⟩ := h c
  exact ⟨finite_of_below _ _ h0, finite_of_below _ _ h1, finite_of_below _ _ h2, finite_of_below _ _ h5, finite_of_below _ _ h6⟩

/-- The reference's heads' queries and keys, from the memory's arguments. -/
def qheads : FVec Ideal Cert.Reference6Ideal.S8x2048x8x192 .f32 :=
  refF (refH (refU (refG (proj c m')) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)))) (Host.cos angles) (Host.sin angles)
def kheads : FVec Ideal Cert.Reference6Ideal.S8x2048x8x192 .f32 :=
  refJ (lats c m') (refT (refE (proj c m')) (Host.cos angles) (Host.sin angles))

theorem result_q (h : Agree m c m') (hr : Reals m c) : refS (qheads c m') = arrayQ m c := by
  funext i
  obtain ⟨R, k, rfl⟩ : ∃ (R : Fin 16384) (k : Fin 2048), i = ix2 R k := eq_pair i
  have hp := proj_eq m c m' h
  obtain ⟨_, _, _, _, _, h5, h6, _⟩ := h
  unfold qheads
  rw [hp, h5, h6]
  refine (queryRow_args _ _ _ Cert.Kernel6Ideal.Gen.facts.shapeCasts_S8x2048x1024_S16384x1024 Cert.Kernel6Ideal.Gen.facts.shapeCasts_S8x9216_S8x9x1024 _ _
    Cert.Kernel6Ideal.Gen.facts.shapeCasts_S384_S1x384 _ _ hr.x hr.md hr.w hr.g hr.u R k).symm.trans ?_
  show _ = queries m c R k
  unfold queries
  rw [V_x, V_m, V_w, V_qn, V_q, V_cos, V_sin]

theorem result_k (h : Agree m c m') (hr : Reals m c) : refS (kheads c m') = arrayK m c := by
  funext i
  obtain ⟨R, k, rfl⟩ : ∃ (R : Fin 16384) (k : Fin 2048), i = ix2 R k := eq_pair i
  unfold kheads
  rw [lats_eq m c m' h, proj_eq m c m' h]
  refine (keyRow_args _ _ _ Cert.Kernel6Ideal.Gen.facts.shapeCasts_S8x2048x1024_S16384x1024 Cert.Kernel6Ideal.Gen.facts.shapeCasts_S8x9216_S8x9x1024 _ _
    Cert.Kernel6Ideal.Gen.facts.shapeCasts_S256_S1x256 _ _ hr.x hr.md hr.w R k).symm.trans ?_
  show _ = keys m c R k
  unfold keys
  rw [V_x, V_m, V_w, V_g, V_u, V_cos, V_sin]

end

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.Pre_finite_projection
public import proofs.«01_k».proof.Proof.Gen.On_not_rotated
public import proofs.«01_k».proof.Proof.Gen.KernelIdeal.Value
public import proofs.«01_k».proof.Proof.Gen.ReferenceIdeal.Run
public import proofs.«01_k».proof.Proof.Equation
public import proofs.«01_k».proof.Proof.FfnEquation
public import proofs.«01_k».proof.Proof.SguEquation
public import proofs.«01_k».proof.Proof.OutEquation
public import proofs.«01_k».proof.Proof.Ada
public import proofs.«01_k».proof.Proof.ProjEquation
public import proofs.«01_k».proof.Proof.QkEquation
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import Idealize.ShloMosaic.Adequacy
public import Idealize.ShloMosaic.Init

@[expose] public section

noncomputable section

namespace Cert.Proof

open Idealize.ShloMosaic Idealize.SL.Sem Cert.Kernel

/-- The reference runs and leaves its arguments; it declares no semaphore. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- The attention's results agree over finite queries and keys. -/
theorem attention : Cert.algebraic_KernelIdeal_ReferenceIdeal_pre_finite_scores := fun m g m' g' hpre hagree =>
  ⟨fun c => Cert.Attn.resultArray m c,
    (θ_run (Cert.KernelIdeal.defs (F := Ideal)) _ _).mono (fun r h c => ⟨(h c).1.trans (Cert.Attn.final m c), (h c).2⟩) (Cert.KernelIdeal.Value.run_blocks m g),
    (θ_run (Cert.ReferenceIdeal.defs (F := Ideal)) _ _).mono
      (fun r h c => ⟨(h c).1.trans (Cert.Attn.result_eq m c m' hpre (hagree c).1 (hagree c).2.1 (hagree c).2.2), (h c).2⟩)
      (Cert.ReferenceIdeal.Value.run (F := Ideal) m' g')⟩

/-- The feed-forward's reference runs and leaves its arguments. -/
theorem frame_reference2 : Cert.quiescent_Reference2Ideal := fun m ρ _ =>
  (θ_run (Cert.Reference2Ideal.defs (F := Ideal)) _ _).mono
    (fun r h => ⟨fun c => (h c).2, sem_eq_zero_of_no_sems (by decide) r.2⟩) (Cert.Reference2Ideal.Value.run (F := Ideal) m ρ)

/-- The feed-forward block's results agree. -/
theorem feed_forward : Cert.algebraic_Kernel2Ideal_Reference2Ideal := fun m g m' g' _ hagree =>
  ⟨fun c => Cert.Ffn.resultArray m c,
    (θ_run (Cert.Kernel2Ideal.defs (F := Ideal)) _ _).mono (fun r h c => ⟨(h c).1.trans (Cert.Ffn.final m c), (h c).2⟩) (Cert.Kernel2Ideal.Value.run_blocks m g),
    (θ_run (Cert.Reference2Ideal.defs (F := Ideal)) _ _).mono
      (fun r h c => ⟨(h c).1.trans (Cert.Ffn.result_eq m c m' (hagree c).1 (hagree c).2.1 (hagree c).2.2.1 (hagree c).2.2.2.1 (hagree c).2.2.2.2.1 (hagree c).2.2.2.2.2), (h c).2⟩)
      (Cert.Reference2Ideal.Value.run (F := Ideal) m' g')⟩

/-- The gated unit's reference runs and leaves its arguments. -/
theorem frame_reference3 : Cert.quiescent_Reference3Ideal := fun m ρ _ =>
  (θ_run (Cert.Reference3Ideal.defs (F := Ideal)) _ _).mono
    (fun r h => ⟨fun c => (h c).2, sem_eq_zero_of_no_sems (by decide) r.2⟩) (Cert.Reference3Ideal.Value.run (F := Ideal) m ρ)

/-- The gated unit's results agree. -/
theorem gated_unit : Cert.algebraic_Kernel3Ideal_Reference3Ideal := fun m g m' g' _ hagree =>
  ⟨fun c => Cert.Sgu.resultArray m c,
    (θ_run (Cert.Kernel3Ideal.defs (F := Ideal)) _ _).mono (fun r h c => ⟨(h c).1.trans (Cert.Sgu.final m c), (h c).2⟩) (Cert.Kernel3Ideal.Value.run_blocks m g),
    (θ_run (Cert.Reference3Ideal.defs (F := Ideal)) _ _).mono
      (fun r h c => ⟨(h c).1.trans (Cert.Sgu.result_eq m c m' (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2), (h c).2⟩)
      (Cert.Reference3Ideal.Value.run (F := Ideal) m' g')⟩

/-- The second projection's reference runs and leaves its arguments. -/
theorem frame_reference4 : Cert.quiescent_Reference4Ideal := fun m ρ _ =>
  (θ_run (Cert.Reference4Ideal.defs (F := Ideal)) _ _).mono
    (fun r h => ⟨fun c => (h c).2, sem_eq_zero_of_no_sems (by decide) r.2⟩) (Cert.Reference4Ideal.Value.run (F := Ideal) m ρ)

/-- The second projection's results agree. -/
theorem second_projection : Cert.algebraic_Kernel4Ideal_Reference4Ideal := fun m g m' g' _ hagree =>
  ⟨fun c => Cert.Out.resultArray m c,
    (θ_run (Cert.Kernel4Ideal.defs (F := Ideal)) _ _).mono (fun r h c => ⟨(h c).1.trans (Cert.Out.final m c), (h c).2⟩) (Cert.Kernel4Ideal.Value.run_blocks m g),
    (θ_run (Cert.Reference4Ideal.defs (F := Ideal)) _ _).mono
      (fun r h c => ⟨(h c).1.trans (Cert.Out.result_eq m c m' (hagree c).1 (hagree c).2.1 (hagree c).2.2.1 (hagree c).2.2.2.1 (hagree c).2.2.2.2.1 (hagree c).2.2.2.2.2.1 (hagree c).2.2.2.2.2.2), (h c).2⟩)
      (Cert.Reference4Ideal.Value.run (F := Ideal) m' g')⟩

/-- The conditioning's reference runs and leaves its arguments. -/
theorem frame_reference5 : Cert.quiescent_Reference5Ideal := fun m ρ _ =>
  (θ_run (Cert.Reference5Ideal.defs (F := Ideal)) _ _).mono
    (fun r h => ⟨fun c => (h c).2, sem_eq_zero_of_no_sems (by decide) r.2⟩) (Cert.Reference5Ideal.Value.run (F := Ideal) m ρ)

/-- The conditioning's results agree. -/
theorem conditioning : Cert.algebraic_Kernel5Ideal_Reference5Ideal := fun m g m' g' _ hagree =>
  ⟨fun c => Cert.Ada.resultArray m c,
    (θ_run (Cert.Kernel5Ideal.defs (F := Ideal)) _ _).mono (fun r h c => ⟨(h c).1.trans (Cert.Ada.final m c), (h c).2⟩) (Cert.Kernel5Ideal.Value.run_blocks m g),
    (θ_run (Cert.Reference5Ideal.defs (F := Ideal)) _ _).mono
      (fun r h c => ⟨(h c).1.trans (Cert.Ada.result_eq m c m' (hagree c).1 (hagree c).2.1 (hagree c).2.2), (h c).2⟩)
      (Cert.Reference5Ideal.Value.run (F := Ideal) m' g')⟩

/-- The first projection's reference runs and leaves its arguments. -/
theorem frame_reference6 : Cert.quiescent_Reference6Ideal := fun m ρ _ =>
  (θ_run (Cert.Reference6Ideal.defs (F := Ideal)) _ _).mono
    (fun r h => ⟨fun c => (h c).2.2.2.2.2.2.2, sem_eq_zero_of_no_sems (by decide) r.2⟩) (Cert.Reference6Ideal.Value.run (F := Ideal) m ρ)

/-- The first projection's results agree whatever the arguments hold, but for the queries and keys: the gate, the recurrence's inputs, its weights and
steps, and the attention's values. -/
theorem first_projection : Cert.algebraic_Kernel6Ideal_Reference6Ideal_on_not_rotated := fun m g m' g' _ hagree =>
  ⟨fun c => Cert.Proj.arrayZ m c, fun c => Cert.Proj.arrayX m c, fun c => Cert.Proj.arrayB m c, fun c => Cert.Proj.arrayD m c,
    fun c => Cert.Proj.arrayQ m c, fun c => Cert.Proj.arrayK m c, fun c => Cert.Proj.arrayV m c,
    (θ_run (Cert.Kernel6Ideal.defs (F := Ideal)) _ _).mono
      (fun r h c => by
        obtain ⟨hz, hx, hb, hd, hq, hk, hv, ha⟩ := h c
        exact ⟨fun i _ => congrFun (hz.trans (Cert.Proj.finalZ m c)) i, fun i _ => congrFun (hx.trans (Cert.Proj.finalX m c)) i,
          fun i _ => congrFun (hb.trans (Cert.Proj.finalB m c)) i, fun i _ => congrFun (hd.trans (Cert.Proj.finalD m c)) i,
          fun i _ => congrFun (hq.trans (Cert.Proj.finalQ m c)) i, fun i _ => congrFun (hk.trans (Cert.Proj.finalK m c)) i,
          fun i _ => congrFun (hv.trans (Cert.Proj.finalV m c)) i, ha⟩)
      (Cert.Kernel6Ideal.Value.run m g),
    (θ_run (Cert.Reference6Ideal.defs (F := Ideal)) _ _).mono
      (fun r h c => by
        obtain ⟨hz, hx, hb, hd, _, _, hv, ha⟩ := h c
        exact ⟨fun i _ => congrFun (hz.trans (Cert.Proj.result_z m c m' (hagree c))) i, fun i _ => congrFun (hx.trans (Cert.Proj.result_x m c m' (hagree c))) i,
          fun i _ => congrFun (hb.trans (Cert.Proj.result_b m c m' (hagree c))) i, fun i _ => congrFun (hd.trans (Cert.Proj.result_d m c m' (hagree c))) i,
          fun i hi => absurd (show (0#1 : BitVec 1) = 1#1 from hi) (by decide), fun i hi => absurd (show (0#1 : BitVec 1) = 1#1 from hi) (by decide),
          fun i _ => congrFun (hv.trans (Cert.Proj.result_v m c m' (hagree c))) i, ha⟩)
      (Cert.Reference6Ideal.Value.run (F := Ideal) m' g')⟩

/-- All of the first projection's results agree over finite arguments. -/
theorem first_projection_finite :
    Cert.algebraic_Kernel6Ideal_Reference6Ideal_pre_finite_projection (hPre_finite_projection := Cert.Pre_finite_projection.Gen.facts) := fun m g m' g' hpre hagree =>
  ⟨fun c => Cert.Proj.arrayZ m c, fun c => Cert.Proj.arrayX m c, fun c => Cert.Proj.arrayB m c, fun c => Cert.Proj.arrayD m c,
    fun c => Cert.Proj.arrayQ m c, fun c => Cert.Proj.arrayK m c, fun c => Cert.Proj.arrayV m c,
    (θ_run (Cert.Kernel6Ideal.defs (F := Ideal)) _ _).mono
      (fun r h c => by
        obtain ⟨hz, hx, hb, hd, hq, hk, hv, ha⟩ := h c
        exact ⟨hz.trans (Cert.Proj.finalZ m c), hx.trans (Cert.Proj.finalX m c), hb.trans (Cert.Proj.finalB m c), hd.trans (Cert.Proj.finalD m c),
          hq.trans (Cert.Proj.finalQ m c), hk.trans (Cert.Proj.finalK m c), hv.trans (Cert.Proj.finalV m c), ha⟩)
      (Cert.Kernel6Ideal.Value.run m g),
    (θ_run (Cert.Reference6Ideal.defs (F := Ideal)) _ _).mono
      (fun r h c => by
        obtain ⟨hz, hx, hb, hd, hq, hk, hv, ha⟩ := h c
        have hr := Cert.Proj.reals_of_pre m c hpre
        exact ⟨hz.trans (Cert.Proj.result_z m c m' (hagree c)), hx.trans (Cert.Proj.result_x m c m' (hagree c)), hb.trans (Cert.Proj.result_b m c m' (hagree c)),
          hd.trans (Cert.Proj.result_d m c m' (hagree c)), hq.trans (Cert.Proj.result_q m c m' (hagree c) hr), hk.trans (Cert.Proj.result_k m c m' (hagree c) hr),
          hv.trans (Cert.Proj.result_v m c m' (hagree c)), ha⟩)
      (Cert.Reference6Ideal.Value.run (F := Ideal) m' g')⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts,
  Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite_scores.Gen.facts, Cert.Pre_finite_projection.Gen.facts, Cert.On_not_rotated.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, fun m ρ _ => Cert.Kernel2.Gen.frame m ρ, fun m ρ _ => Cert.Kernel2Ideal.Gen.frame m ρ,
  frame_reference2, fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, fun m ρ _ => Cert.Kernel6Ideal.Gen.frame m ρ,
  frame_reference6, fun m ρ _ => frame_reference6 m ρ trivial,
  trivial, attention, trivial, feed_forward, trivial, gated_unit, trivial, second_projection, trivial, conditioning, trivial, first_projection,
  first_projection_finite⟩

end Cert.Proof

end
